-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_SplitIdeal (m : (ℓ : Loc Cert.SplitIdeal.nD Cert.SplitIdeal.τ Cert.SplitIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
      ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Projection_ProjectionIdeal : Prop :=
  True

def algebraic_ProjectionIdeal_SplitIdeal [hProjectionIdeal : Cert.ProjectionIdeal.Facts] [hSplitIdeal : Cert.SplitIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.SplitIdeal.nD Cert.SplitIdeal.τ Cert.SplitIdeal.sig) → Buf (Elt Ideal) ℓ) (g' : Dev Cert.SplitIdeal.nD → PrngReg), Pre_ProjectionIdeal m →
    (∀ c : Dev Cert.ProjectionIdeal.nD,
      m' ((c.tc : Thread Cert.SplitIdeal.nD Cert.SplitIdeal.τ).loc Cert.SplitIdeal.main_arg0) = m ((c.tc : Thread Cert.ProjectionIdeal.nD Cert.ProjectionIdeal.τ).loc Cert.ProjectionIdeal.main_arg0)
      ∧ m' ((c.tc : Thread Cert.SplitIdeal.nD Cert.SplitIdeal.τ).loc Cert.SplitIdeal.main_arg1) = m ((c.tc : Thread Cert.ProjectionIdeal.nD Cert.ProjectionIdeal.τ).loc Cert.ProjectionIdeal.main_arg1)
      ∧ m' ((c.tc : Thread Cert.SplitIdeal.nD Cert.SplitIdeal.τ).loc Cert.SplitIdeal.main_arg2) = m ((c.tc : Thread Cert.ProjectionIdeal.nD Cert.ProjectionIdeal.τ).loc Cert.ProjectionIdeal.main_arg2)
      ∧ m' ((c.tc : Thread Cert.SplitIdeal.nD Cert.SplitIdeal.τ).loc Cert.SplitIdeal.main_arg3) = m ((c.tc : Thread Cert.ProjectionIdeal.nD Cert.ProjectionIdeal.τ).loc Cert.ProjectionIdeal.main_arg3)
      ∧ m' ((c.tc : Thread Cert.SplitIdeal.nD Cert.SplitIdeal.τ).loc Cert.SplitIdeal.main_arg4) = m ((c.tc : Thread Cert.ProjectionIdeal.nD Cert.ProjectionIdeal.τ).loc Cert.ProjectionIdeal.main_arg4)
      ∧ m' ((c.tc : Thread Cert.SplitIdeal.nD Cert.SplitIdeal.τ).loc Cert.SplitIdeal.main_arg5) = m ((c.tc : Thread Cert.ProjectionIdeal.nD Cert.ProjectionIdeal.τ).loc Cert.ProjectionIdeal.main_arg5)
      ∧ m' ((c.tc : Thread Cert.SplitIdeal.nD Cert.SplitIdeal.τ).loc Cert.SplitIdeal.main_arg6) = m ((c.tc : Thread Cert.ProjectionIdeal.nD Cert.ProjectionIdeal.τ).loc Cert.ProjectionIdeal.main_arg6)) →
    ∃ (v0 : (c : Dev Cert.ProjectionIdeal.nD) → Buf (Elt Ideal) ((c.tc : Thread Cert.ProjectionIdeal.nD Cert.ProjectionIdeal.τ).loc Cert.ProjectionIdeal.main_v7_0)) (v1 : (c : Dev Cert.ProjectionIdeal.nD) → Buf (Elt Ideal) ((c.tc : Thread Cert.ProjectionIdeal.nD Cert.ProjectionIdeal.τ).loc Cert.ProjectionIdeal.main_v7_1)) (v2 : (c : Dev Cert.ProjectionIdeal.nD) → Buf (Elt Ideal) ((c.tc : Thread Cert.ProjectionIdeal.nD Cert.ProjectionIdeal.τ).loc Cert.ProjectionIdeal.main_v7_2)) (v3 : (c : Dev Cert.ProjectionIdeal.nD) → Buf (Elt Ideal) ((c.tc : Thread Cert.ProjectionIdeal.nD Cert.ProjectionIdeal.τ).loc Cert.ProjectionIdeal.main_v7_3)) (v4 : (c : Dev Cert.ProjectionIdeal.nD) → Buf (Elt Ideal) ((c.tc : Thread Cert.ProjectionIdeal.nD Cert.ProjectionIdeal.τ).loc Cert.ProjectionIdeal.main_v7_4)) (v5 : (c : Dev Cert.ProjectionIdeal.nD) → Buf (Elt Ideal) ((c.tc : Thread Cert.ProjectionIdeal.nD Cert.ProjectionIdeal.τ).loc Cert.ProjectionIdeal.main_v7_5)) (v6 : (c : Dev Cert.ProjectionIdeal.nD) → Buf (Elt Ideal) ((c.tc : Thread Cert.ProjectionIdeal.nD Cert.ProjectionIdeal.τ).loc Cert.ProjectionIdeal.main_v7_6)) (v7 : (c : Dev Cert.ProjectionIdeal.nD) → Buf (Elt Ideal) ((c.tc : Thread Cert.ProjectionIdeal.nD Cert.ProjectionIdeal.τ).loc Cert.ProjectionIdeal.main_v7_7)) (v8 : (c : Dev Cert.ProjectionIdeal.nD) → Buf (Elt Ideal) ((c.tc : Thread Cert.ProjectionIdeal.nD Cert.ProjectionIdeal.τ).loc Cert.ProjectionIdeal.main_v7_8)) (v9 : (c : Dev Cert.ProjectionIdeal.nD) → Buf (Elt Ideal) ((c.tc : Thread Cert.ProjectionIdeal.nD Cert.ProjectionIdeal.τ).loc Cert.ProjectionIdeal.main_v7_9)) (v10 : (c : Dev Cert.ProjectionIdeal.nD) → Buf (Elt Ideal) ((c.tc : Thread Cert.ProjectionIdeal.nD Cert.ProjectionIdeal.τ).loc Cert.ProjectionIdeal.main_v7_10)) (v11 : (c : Dev Cert.ProjectionIdeal.nD) → Buf (Elt Ideal) ((c.tc : Thread Cert.ProjectionIdeal.nD Cert.ProjectionIdeal.τ).loc Cert.ProjectionIdeal.main_v7_11)) (v12 : (c : Dev Cert.ProjectionIdeal.nD) → Buf (Elt Ideal) ((c.tc : Thread Cert.ProjectionIdeal.nD Cert.ProjectionIdeal.τ).loc Cert.ProjectionIdeal.main_v7_12)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v7_0) = v0 c
          ∧ r.2.mem ((c.tc : Thread Cert.ProjectionIdeal.nD Cert.ProjectionIdeal.τ).loc Cert.ProjectionIdeal.main_v7_1) = v1 c
          ∧ r.2.mem ((c.tc : Thread Cert.ProjectionIdeal.nD Cert.ProjectionIdeal.τ).loc Cert.ProjectionIdeal.main_v7_2) = v2 c
          ∧ r.2.mem ((c.tc : Thread Cert.ProjectionIdeal.nD Cert.ProjectionIdeal.τ).loc Cert.ProjectionIdeal.main_v7_3) = v3 c
          ∧ r.2.mem ((c.tc : Thread Cert.ProjectionIdeal.nD Cert.ProjectionIdeal.τ).loc Cert.ProjectionIdeal.main_v7_4) = v4 c
          ∧ r.2.mem ((c.tc : Thread Cert.ProjectionIdeal.nD Cert.ProjectionIdeal.τ).loc Cert.ProjectionIdeal.main_v7_5) = v5 c
          ∧ r.2.mem ((c.tc : Thread Cert.ProjectionIdeal.nD Cert.ProjectionIdeal.τ).loc Cert.ProjectionIdeal.main_v7_6) = v6 c
          ∧ r.2.mem ((c.tc : Thread Cert.ProjectionIdeal.nD Cert.ProjectionIdeal.τ).loc Cert.ProjectionIdeal.main_v7_7) = v7 c
          ∧ r.2.mem ((c.tc : Thread Cert.ProjectionIdeal.nD Cert.ProjectionIdeal.τ).loc Cert.ProjectionIdeal.main_v7_8) = v8 c
          ∧ r.2.mem ((c.tc : Thread Cert.ProjectionIdeal.nD Cert.ProjectionIdeal.τ).loc Cert.ProjectionIdeal.main_v7_9) = v9 c
          ∧ r.2.mem ((c.tc : Thread Cert.ProjectionIdeal.nD Cert.ProjectionIdeal.τ).loc Cert.ProjectionIdeal.main_v7_10) = v10 c
          ∧ r.2.mem ((c.tc : Thread Cert.ProjectionIdeal.nD Cert.ProjectionIdeal.τ).loc Cert.ProjectionIdeal.main_v7_11) = v11 c
          ∧ r.2.mem ((c.tc : Thread Cert.ProjectionIdeal.nD Cert.ProjectionIdeal.τ).loc Cert.ProjectionIdeal.main_v7_12) = v12 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ θ_run (Cert.SplitIdeal.defs (F := Ideal)) (onTc (τ := Cert.SplitIdeal.τ) (Cert.SplitIdeal.main (F := Ideal))) ⟨m', fun _ => 0, g'⟩ (fun r => ∀ c : Dev Cert.SplitIdeal.nD,
          r.2.mem ((c.tc : Thread Cert.SplitIdeal.nD Cert.SplitIdeal.τ).loc Cert.SplitIdeal.main_v64) = v0 c
          ∧ r.2.mem ((c.tc : Thread Cert.SplitIdeal.nD Cert.SplitIdeal.τ).loc Cert.SplitIdeal.main_v65) = v1 c
          ∧ r.2.mem ((c.tc : Thread Cert.SplitIdeal.nD Cert.SplitIdeal.τ).loc Cert.SplitIdeal.main_v69) = v2 c
          ∧ r.2.mem ((c.tc : Thread Cert.SplitIdeal.nD Cert.SplitIdeal.τ).loc Cert.SplitIdeal.main_v71) = v3 c
          ∧ r.2.mem ((c.tc : Thread Cert.SplitIdeal.nD Cert.SplitIdeal.τ).loc Cert.SplitIdeal.main_v73) = v4 c
          ∧ r.2.mem ((c.tc : Thread Cert.SplitIdeal.nD Cert.SplitIdeal.τ).loc Cert.SplitIdeal.main_v19) = v5 c
          ∧ r.2.mem ((c.tc : Thread Cert.SplitIdeal.nD Cert.SplitIdeal.τ).loc Cert.SplitIdeal.main_v74) = v6 c
          ∧ r.2.mem ((c.tc : Thread Cert.SplitIdeal.nD Cert.SplitIdeal.τ).loc Cert.SplitIdeal.main_v76) = v7 c
          ∧ r.2.mem ((c.tc : Thread Cert.SplitIdeal.nD Cert.SplitIdeal.τ).loc Cert.SplitIdeal.main_v77) = v8 c
          ∧ r.2.mem ((c.tc : Thread Cert.SplitIdeal.nD Cert.SplitIdeal.τ).loc Cert.SplitIdeal.main_v78) = v9 c
          ∧ r.2.mem ((c.tc : Thread Cert.SplitIdeal.nD Cert.SplitIdeal.τ).loc Cert.SplitIdeal.main_v79) = v10 c
          ∧ r.2.mem ((c.tc : Thread Cert.SplitIdeal.nD Cert.SplitIdeal.τ).loc Cert.SplitIdeal.main_v80) = v11 c
          ∧ r.2.mem ((c.tc : Thread Cert.SplitIdeal.nD Cert.SplitIdeal.τ).loc Cert.SplitIdeal.main_v81) = v12 c
          ∧ r.2.mem ((c.tc : Thread Cert.SplitIdeal.nD Cert.SplitIdeal.τ).loc Cert.SplitIdeal.main_arg0) = m' ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m' ((c.tc : Thread Cert.SplitIdeal.nD Cert.SplitIdeal.τ).loc Cert.SplitIdeal.main_arg1)
          ∧ r.2.mem ((c.tc : Thread Cert.SplitIdeal.nD Cert.SplitIdeal.τ).loc Cert.SplitIdeal.main_arg2) = m' ((c.tc : Thread Cert.SplitIdeal.nD Cert.SplitIdeal.τ).loc Cert.SplitIdeal.main_arg2)
          ∧ r.2.mem ((c.tc : Thread Cert.SplitIdeal.nD Cert.SplitIdeal.τ).loc Cert.SplitIdeal.main_arg3) = m' ((c.tc : Thread Cert.SplitIdeal.nD Cert.SplitIdeal.τ).loc Cert.SplitIdeal.main_arg3)
          ∧ r.2.mem ((c.tc : Thread Cert.SplitIdeal.nD Cert.SplitIdeal.τ).loc Cert.SplitIdeal.main_arg4) = m' ((c.tc : Thread Cert.SplitIdeal.nD Cert.SplitIdeal.τ).loc Cert.SplitIdeal.main_arg4)
          ∧ r.2.mem ((c.tc : Thread Cert.SplitIdeal.nD Cert.SplitIdeal.τ).loc Cert.SplitIdeal.main_arg5) = m' ((c.tc : Thread Cert.SplitIdeal.nD Cert.SplitIdeal.τ).loc Cert.SplitIdeal.main_arg5)
          ∧ r.2.mem ((c.tc : Thread Cert.SplitIdeal.nD Cert.SplitIdeal.τ).loc Cert.SplitIdeal.main_arg6) = m' ((c.tc : Thread Cert.SplitIdeal.nD Cert.SplitIdeal.τ).loc Cert.SplitIdeal.main_arg6))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hSplitIdeal : Cert.SplitIdeal.Facts),
    quiescent_Kernel (hKernel := hKernel)
    ∧ quiescent_KernelIdeal (hKernelIdeal := hKernelIdeal)
    ∧ quiescent_ReferenceIdeal (hReferenceIdeal := hReferenceIdeal)
    ∧ quiescent_Projection (hProjection := hProjection)
    ∧ quiescent_ProjectionIdeal (hProjectionIdeal := hProjectionIdeal)
    ∧ quiescent_SplitIdeal (hSplitIdeal := hSplitIdeal)
    ∧ preserves_Kernel_KernelIdeal
    ∧ algebraic_KernelIdeal_ReferenceIdeal (hKernelIdeal := hKernelIdeal) (hReferenceIdeal := hReferenceIdeal)
    ∧ preserves_Projection_ProjectionIdeal
    ∧ algebraic_ProjectionIdeal_SplitIdeal (hProjectionIdeal := hProjectionIdeal) (hSplitIdeal := hSplitIdeal)
-- ==== Kernel.lean ====
abbrev S4x4096x512 : Shape := ⟨3, ![4, 4096, 512]⟩
abbrev S8x64x64 : Shape := ⟨3, ![8, 64, 64]⟩
abbrev S512 : Shape := ⟨1, ![512]⟩
abbrev S4x4096x1024 : Shape := ⟨3, ![4, 4096, 1024]⟩
abbrev S4x4x4096x128 : Shape := ⟨4, ![4, 4, 4096, 128]⟩
abbrev S2048x1024 : Shape := ⟨2, ![2048, 1024]⟩
abbrev S1024 : Shape := ⟨1, ![1024]⟩
abbrev S1x1024 : Shape := ⟨2, ![1, 1024]⟩
abbrev S8x64x1x64 : Shape := ⟨4, ![8, 64, 1, 64]⟩
abbrev S8x8 : Shape := ⟨2, ![8, 8]⟩
abbrev S_ : Shape := ⟨0, ![]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1x512 : Shape := ⟨2, ![1, 512]⟩
abbrev S4x1x512 : Shape := ⟨3, ![4, 1, 512]⟩
abbrev S1x512x512 : Shape := ⟨3, ![1, 512, 512]⟩
abbrev S1x512x1024 : Shape := ⟨3, ![1, 512, 1024]⟩
abbrev S4x1x512x128 : Shape := ⟨4, ![4, 1, 512, 128]⟩
abbrev S1x1x512 : Shape := ⟨3, ![1, 1, 512]⟩
abbrev S8x512 : Shape := ⟨2, ![8, 512]⟩
abbrev S1x1x512x128 : Shape := ⟨4, ![1, 1, 512, 128]⟩
abbrev S512x128 : Shape := ⟨2, ![512, 128]⟩
abbrev S512x1536 : Shape := ⟨2, ![512, 1536]⟩
abbrev S1536x1024 : Shape := ⟨2, ![1536, 1024]⟩
abbrev S64x8x512 : Shape := ⟨3, ![64, 8, 512]⟩
abbrev S1x8x512 : Shape := ⟨3, ![1, 8, 512]⟩
abbrev S512x1 : Shape := ⟨2, ![512, 1]⟩

abbrev nBuf : Space → Nat
  | .hbm => 48
  | .vmem => 22
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S8x64x64, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S512, .f32⟩
  | .hbm, ⟨7, _⟩ => ⟨S4x4096x1024, .f32⟩
  | .hbm, ⟨8, _⟩ => ⟨S4x4x4096x128, .f32⟩
  | .hbm, ⟨9, _⟩ => ⟨S4x4096x512, .f32⟩
  | .hbm, ⟨10, _⟩ => ⟨S4x4096x1024, .bf16⟩
  | .hbm, ⟨11, _⟩ => ⟨S2048x1024, .f32⟩
  | .hbm, ⟨12, _⟩ => ⟨S1024, .f32⟩
  | .hbm, ⟨13, _⟩ => ⟨S2048x1024, .bf16⟩
  | .hbm, ⟨14, _⟩ => ⟨S1x1024, .f32⟩
  | .hbm, ⟨15, _⟩ => ⟨S8x64x1x64, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x1x8x1, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S512x512, .f32⟩
  | .hbm, ⟨28, _⟩ => ⟨S8x64x1x64, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S8x1x8x1, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S512x1024, .f32⟩
  | .hbm, ⟨42, _⟩ => ⟨S512x1024, .bf16⟩
  | .hbm, ⟨43, _⟩ => ⟨S1024, .f32⟩
  | .hbm, ⟨44, _⟩ => ⟨S1x1024, .f32⟩
  | .hbm, ⟨45, _⟩ => ⟨S1x512, .f32⟩
  | .hbm, ⟨46, _⟩ => ⟨S4x4096x1024, .f32⟩
  | .hbm, ⟨47, _⟩ => ⟨S4x1x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x1024, .bf16⟩
  | .local _ .vmem, ⟨5, _⟩ => ⟨S1x1024, .f32⟩
  | .local _ .vmem, ⟨6, _⟩ => ⟨S1x512, .f32⟩
  | .local _ .vmem, ⟨7, _⟩ => ⟨S1x512x1024, .f32⟩
  | .local _ .vmem, ⟨8, _⟩ => ⟨S1x512x1024, .f32⟩
  | .local _ .vmem, ⟨9, _⟩ => ⟨S4x1x512x128, .f32⟩
  | .local _ .vmem, ⟨10, _⟩ => ⟨S4x1x512x128, .f32⟩
  | .local _ .vmem, ⟨11, _⟩ => ⟨S1x512x512, .f32⟩
  | .local _ .vmem, ⟨12, _⟩ => ⟨S1x512x512, .f32⟩
  | .local _ .vmem, ⟨13, _⟩ => ⟨S1x512x1024, .bf16⟩
  | .local _ .vmem, ⟨14, _⟩ => ⟨S1x512x1024, .bf16⟩
  | .local _ .vmem, ⟨15, _⟩ => ⟨S2048x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x1x512, .f32⟩
  | .local _ .vmem, ⟨20, _⟩ => ⟨S1x1x512, .f32⟩
  | .local _ .vmem, ⟨21, _⟩ => ⟨S8x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4x4096x512 : Shape := ⟨3, ![4, 4096, 512]⟩
abbrev S8x64x64 : Shape := ⟨3, ![8, 64, 64]⟩
abbrev S512 : Shape := ⟨1, ![512]⟩
abbrev S4x4096x1024 : Shape := ⟨3, ![4, 4096, 1024]⟩
abbrev S4x4x4096x128 : Shape := ⟨4, ![4, 4, 4096, 128]⟩
abbrev S2048x1024 : Shape := ⟨2, ![2048, 1024]⟩
abbrev S1024 : Shape := ⟨1, ![1024]⟩
abbrev S4x4096x8x64 : Shape := ⟨4, ![4, 4096, 8, 64]⟩
abbrev S8x64x4x4096 : Shape := ⟨4, ![8, 64, 4, 4096]⟩
abbrev S1x1x512 : Shape := ⟨3, ![1, 1, 512]⟩
abbrev S_ : Shape := ⟨0, ![]⟩
abbrev S4x512 : Shape := ⟨2, ![4, 512]⟩
abbrev S4096x4x512 : Shape := ⟨3, ![4096, 4, 512]⟩
abbrev S1x4x512 : Shape := ⟨3, ![1, 4, 512]⟩
abbrev S4x4096x4x128 : Shape := ⟨4, ![4, 4096, 4, 128]⟩
abbrev S4x4096x2048 : Shape := ⟨3, ![4, 4096, 2048]⟩
abbrev S4x4096 : Shape := ⟨2, ![4, 4096]⟩
abbrev S4x4096x1 : Shape := ⟨3, ![4, 4096, 1]⟩
abbrev S1x1x1024 : Shape := ⟨3, ![1, 1, 1024]⟩
abbrev S4x1x512 : Shape := ⟨3, ![4, 1, 512]⟩

abbrev nBuf : Space → Nat
  | .hbm => 137
  | .vmem => 0
  | .smem => 0
  | _ => 0

abbrev hbmTy0_0 (i : Nat) : BufTy := match i % 128 with
  | 0 => ⟨S4x4096x512, .f32⟩
  | 1 => ⟨S4x4096x512, .f32⟩
  | 2 => ⟨S8x64x64, .f32⟩
  | 3 => ⟨S512, .f32⟩
  | 4 => ⟨S8x64x64, .f32⟩
  | 5 => ⟨S512, .f32⟩
  | 6 => ⟨S512, .f32⟩
  | 7 => ⟨S4x4096x1024, .f32⟩
  | 8 => ⟨S4x4x4096x128, .f32⟩
  | 9 => ⟨S4x4096x512, .f32⟩
  | 10 => ⟨S4x4096x1024, .bf16⟩
  | 11 => ⟨S2048x1024, .f32⟩
  | 12 => ⟨S1024, .f32⟩
  | 13 => ⟨S4x4096x8x64, .f32⟩
  | 14 => ⟨S8x64x4x4096, .f32⟩
  | 15 => ⟨S4x4096x8x64, .f32⟩
  | 16 => ⟨S4x4096x512, .f32⟩
  | 17 => ⟨S1x1x512, .f32⟩
  | 18 => ⟨S4x4096x512, .f32⟩
  | 19 => ⟨S4x4096x512, .f32⟩
  | 20 => ⟨S4x4096x512, .f32⟩
  | 21 => ⟨S4x4096x512, .f32⟩
  | 22 => ⟨S_, .f32⟩
  | 23 => ⟨S4x4096x512, .f32⟩
  | 24 => ⟨S4x4096x512, .f32⟩
  | 25 => ⟨S_, .f32⟩
  | 26 => ⟨S4x4096x512, .f32⟩
  | 27 => ⟨S4x4096x512, .f32⟩
  | 28 => ⟨S8x64x4x4096, .f32⟩
  | 29 => ⟨S4x4096x8x64, .f32⟩
  | 30 => ⟨S4x4096x512, .f32⟩
  | 31 => ⟨S1x1x512, .f32⟩
  | 32 => ⟨S4x4096x512, .f32⟩
  | 33 => ⟨S4x4096x512, .f32⟩
  | 34 => ⟨S4x4096x512, .f32⟩
  | 35 => ⟨S4x4096x512, .f32⟩
  | 36 => ⟨S_, .f32⟩
  | 37 => ⟨S4x4096x512, .f32⟩
  | 38 => ⟨S4x4096x512, .f32⟩
  | 39 => ⟨S_, .f32⟩
  | 40 => ⟨S4x4096x512, .f32⟩
  | 41 => ⟨S4x4096x512, .f32⟩
  | 42 => ⟨S_, .f32⟩
  | 43 => ⟨S4x4096x512, .f32⟩
  | 44 => ⟨S4x4096x512, .f32⟩
  | 45 => ⟨S512, .f32⟩
  | 46 => ⟨S_, .f32⟩
  | 47 => ⟨S512, .f32⟩
  | 48 => ⟨S512, .f32⟩
  | 49 => ⟨S512, .f32⟩
  | 50 => ⟨S512, .f32⟩
  | 51 => ⟨S512, .i1⟩
  | 52 => ⟨S512, .f32⟩
  | 53 => ⟨S512, .f32⟩
  | 54 => ⟨S512, .f32⟩
  | 55 => ⟨S512, .f32⟩
  | 56 => ⟨S512, .f32⟩
  | 57 => ⟨S512, .f32⟩
  | 58 => ⟨S512, .f32⟩
  | 59 => ⟨S512, .f32⟩
  | 60 => ⟨S1x1x512, .f32⟩
  | 61 => ⟨S4x4096x512, .f32⟩
  | 62 => ⟨S4x4096x512, .f32⟩
  | 63 => ⟨S4x4096x512, .f32⟩
  | 64 => ⟨S_, .f32⟩
  | 65 => ⟨S4x4096x512, .f32⟩
  | 66 => ⟨S4x4096x512, .f32⟩
  | 67 => ⟨S4x4096x512, .f32⟩
  | 68 => ⟨S4x4096x512, .f32⟩
  | 69 => ⟨S4x4096x512, .f32⟩
  | 70 => ⟨S4x4096x512, .f32⟩
  | 71 => ⟨S4x4096x512, .f32⟩
  | 72 => ⟨S_, .f32⟩
  | 73 => ⟨S4x512, .f32⟩
  | 74 => ⟨S4096x4x512, .f32⟩
  | 75 => ⟨S4096x4x512, .f32⟩
  | 76 => ⟨S_, .f32⟩
  | 77 => ⟨S4096x4x512, .f32⟩
  | 78 => ⟨S_, .i32⟩
  | 79 => ⟨S4096x4x512, .f32⟩
  | 80 => ⟨S4096x4x512, .f32⟩
  | 81 => ⟨S_, .i32⟩
  | 82 => ⟨S4x512, .f32⟩
  | 83 => ⟨S4096x4x512, .f32⟩
  | 84 => ⟨S_, .i32⟩
  | 85 => ⟨S_, .i1⟩
  | 86 => ⟨S_, .i32⟩
  | 87 => ⟨S_, .i32⟩
  | 88 => ⟨S1x4x512, .f32⟩
  | 89 => ⟨S4x512, .f32⟩
  | 90 => ⟨S_, .i32⟩
  | 91 => ⟨S_, .i32⟩
  | 92 => ⟨S1x4x512, .f32⟩
  | 93 => ⟨S4x512, .f32⟩
  | 94 => ⟨S4x512, .f32⟩
  | 95 => ⟨S4x512, .f32⟩
  | 96 => ⟨S1x4x512, .f32⟩
  | 97 => ⟨S_, .i32⟩
  | 98 => ⟨S_, .i32⟩
  | 99 => ⟨S4096x4x512, .f32⟩
  | 100 => ⟨S_, .i32⟩
  | 101 => ⟨S_, .i32⟩
  | 102 => ⟨S4x4096x512, .f32⟩
  | 103 => ⟨S4x4096x512, .f32⟩
  | 104 => ⟨S4x4096x4x128, .f32⟩
  | 105 => ⟨S4x4096x512, .f32⟩
  | 106 => ⟨S4x4096x512, .f32⟩
  | 107 => ⟨S4x4096x512, .f32⟩
  | 108 => ⟨S_, .f32⟩
  | 109 => ⟨S4x4096x512, .f32⟩
  | 110 => ⟨S4x4096x512, .f32⟩
  | 111 => ⟨S_, .f32⟩
  | 112 => ⟨S4x4096x512, .f32⟩
  | 113 => ⟨S4x4096x512, .f32⟩
  | 114 => ⟨S4x4096x512, .f32⟩
  | 115 => ⟨S4x4096x512, .f32⟩
  | 116 => ⟨S4x4096x1024, .f32⟩
  | 117 => ⟨S4x4096x2048, .f32⟩
  | 118 => ⟨S4x4096x1024, .f32⟩
  | 119 => ⟨S4x4096x1024, .f32⟩
  | 120 => ⟨S_, .f32⟩
  | 121 => ⟨S4x4096, .f32⟩
  | 122 => ⟨S4x4096x1, .f32⟩
  | 123 => ⟨S_, .f32⟩
  | 124 => ⟨S4x4096x1, .f32⟩
  | 125 => ⟨S4x4096x1, .f32⟩
  | 126 => ⟨S_, .f32⟩
  | 127 => ⟨S4x4096x1, .f32⟩
  | _ => ⟨S4x4096x512, .f32⟩

abbrev hbmTy0_1 (i : Nat) : BufTy := match i % 128 with
  | 0 => ⟨S4x4096x1, .f32⟩
  | 1 => ⟨S4x4096x1, .f32⟩
  | 2 => ⟨S4x4096x1024, .f32⟩
  | 3 => ⟨S4x4096x1024, .f32⟩
  | 4 => ⟨S1x1x1024, .f32⟩
  | 5 => ⟨S4x4096x1024, .f32⟩
  | 6 => ⟨S4x4096x1024, .f32⟩
  | 7 => ⟨S4x4096x1024, .f32⟩
  | 8 => ⟨S4x1x512, .f32⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_6 : Ref sig .tc := ⟨.hbm, 76, rfl⟩
abbrev main_v43 : Ref sig .tc := ⟨.hbm, 77, rfl⟩
abbrev main_c : Ref sig .tc := ⟨.hbm, 78, rfl⟩
abbrev main_v44_0 : Ref sig .tc := ⟨.hbm, 79, rfl⟩
abbrev main_v44_1 : Ref sig .tc := ⟨.hbm, 80, rfl⟩
abbrev main_v44_2 : Ref sig .tc := ⟨.hbm, 81, rfl⟩
abbrev main_v44_3 : Ref sig .tc := ⟨.hbm, 82, rfl⟩
abbrev main_v44_4 : Ref sig .tc := ⟨.hbm, 83, rfl⟩
abbrev main_while0c_c_14 : Ref sig .tc := ⟨.hbm, 84, rfl⟩
abbrev main_while0c_v69 : Ref sig .tc := ⟨.hbm, 85, rfl⟩
abbrev main_while0b_call1_c : Ref sig .tc := ⟨.hbm, 86, rfl⟩
abbrev main_while0b_call1_c_0 : Ref sig .tc := ⟨.hbm, 87, rfl⟩
abbrev main_while0b_call1_v0 : Ref sig .tc := ⟨.hbm, 88, rfl⟩
abbrev main_while0b_v69 : Ref sig .tc := ⟨.hbm, 89, rfl⟩
abbrev main_while0b_call2_c : Ref sig .tc := ⟨.hbm, 90, rfl⟩
abbrev main_while0b_call2_c_0 : Ref sig .tc := ⟨.hbm, 91, rfl⟩
abbrev main_while0b_call2_v0 : Ref sig .tc := ⟨.hbm, 92, rfl⟩
abbrev main_while0b_v70 : Ref sig .tc := ⟨.hbm, 93, rfl⟩
abbrev main_while0b_v71 : Ref sig .tc := ⟨.hbm, 94, rfl⟩
abbrev main_while0b_v72 : Ref sig .tc := ⟨.hbm, 95, rfl⟩
abbrev main_while0b_call3_v0 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_v73 : Ref sig .tc := ⟨.hbm, 99, rfl⟩
abbrev main_while0b_c_14 : Ref sig .tc := ⟨.hbm, 100, rfl⟩
abbrev main_while0b_v74 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_cst_7 : Ref sig .tc := ⟨.hbm, 120, rfl⟩
abbrev main_v55 : Ref sig .tc := ⟨.hbm, 121, rfl⟩
abbrev main_v56 : Ref sig .tc := ⟨.hbm, 122, rfl⟩
abbrev main_cst_8 : Ref sig .tc := ⟨.hbm, 123, rfl⟩
abbrev main_v57 : Ref sig .tc := ⟨.hbm, 124, rfl⟩
abbrev main_v58 : Ref sig .tc := ⟨.hbm, 125, rfl⟩
abbrev main_cst_9 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩

abbrev nD : Nat := 1
abbrev τ : Topo := Topo.v7x

variable {F : FTy → Type} [FloatOps F]

abbrev main_while0_count : Scf.Loop 32 := ⟨0#32, 4096#32, 1#32⟩
-- ==== Projection.lean ====
abbrev S4x4096x1024 : Shape := ⟨3, ![4, 4096, 1024]⟩
abbrev S1024 : Shape := ⟨1, ![1024]⟩
abbrev S1024x5648 : Shape := ⟨2, ![1024, 5648]⟩
abbrev S4x512 : Shape := ⟨2, ![4, 512]⟩
abbrev S512 : Shape := ⟨1, ![512]⟩
abbrev S4x1536 : Shape := ⟨2, ![4, 1536]⟩
abbrev S1536 : Shape := ⟨1, ![1536]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1x512 : Shape := ⟨2, ![1, 512]⟩
abbrev S1x1536 : Shape := ⟨2, ![1, 1536]⟩
abbrev S4x4096x512 : Shape := ⟨3, ![4, 4096, 512]⟩
abbrev S4x4x4096x128 : Shape := ⟨4, ![4, 4, 4096, 128]⟩
abbrev S4x4096x1536 : Shape := ⟨3, ![4, 4096, 1536]⟩
abbrev S4x4096x128 : Shape := ⟨3, ![4, 4096, 128]⟩
abbrev S2x4x512x2048 : Shape := ⟨4, ![2, 4, 512, 2048]⟩
abbrev S4x8x512 : Shape := ⟨3, ![4, 8, 512]⟩
abbrev S4x8x1536 : Shape := ⟨3, ![4, 8, 1536]⟩
abbrev S1x512x1024 : Shape := ⟨3, ![1, 512, 1024]⟩
abbrev S1x512x512 : Shape := ⟨3, ![1, 512, 512]⟩
abbrev S4x1x512x128 : Shape := ⟨4, ![4, 1, 512, 128]⟩
abbrev S1x512x1536 : Shape := ⟨3, ![1, 512, 1536]⟩
abbrev S1x512x128 : Shape := ⟨3, ![1, 512, 128]⟩
abbrev S2x1x512x512 : Shape := ⟨4, ![2, 1, 512, 512]⟩
abbrev S1x8x512 : Shape := ⟨3, ![1, 8, 512]⟩
abbrev S1x8x1536 : Shape := ⟨3, ![1, 8, 1536]⟩
abbrev S8x512 : Shape := ⟨2, ![8, 512]⟩
abbrev S8x1536 : Shape := ⟨2, ![8, 1536]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x1x512x128 : Shape := ⟨4, ![1, 1, 512, 128]⟩
abbrev S520x512 : Shape := ⟨2, ![520, 512]⟩
abbrev S1x1x512x512 : Shape := ⟨4, ![1, 1, 512, 512]⟩

abbrev nBuf : Space → Nat
  | .hbm => 29
  | .vmem => 37
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5648, .f32⟩
  | .hbm, ⟨3, _⟩ => ⟨S4x512, .f32⟩
  | .hbm, ⟨4, _⟩ => ⟨S512, .f32⟩
  | .hbm, ⟨5, _⟩ => ⟨S4x1536, .f32⟩
  | .hbm, ⟨6, _⟩ => ⟨S1536, .f32⟩
  | .hbm, ⟨7, _⟩ => ⟨S1024x5648, .bf16⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S1x512, .f32⟩
  | .hbm, ⟨15, _⟩ => ⟨S1x1536, .f32⟩
  | .hbm, ⟨16, _⟩ => ⟨S4x4096x512, .f32⟩
  | .hbm, ⟨17, _⟩ => ⟨S4x4096x512, .f32⟩
  | .hbm, ⟨18, _⟩ => ⟨S4x4x4096x128, .f32⟩
  | .hbm, ⟨19, _⟩ => ⟨S4x4x4096x128, .f32⟩
  | .hbm, ⟨20, _⟩ => ⟨S4x4x4096x128, .f32⟩
  | .hbm, ⟨21, _⟩ => ⟨S4x4096x512, .f32⟩
  | .hbm, ⟨22, _⟩ => ⟨S4x4096x1024, .f32⟩
  | .hbm, ⟨23, _⟩ => ⟨S4x4096x1536, .f32⟩
  | .hbm, ⟨24, _⟩ => ⟨S4x4096x128, .f32⟩
  | .hbm, ⟨25, _⟩ => ⟨S2x4x512x2048, .f32⟩
  | .hbm, ⟨26, _⟩ => ⟨S2x4x512x2048, .f32⟩
  | .hbm, ⟨27, _⟩ => ⟨S4x8x512, .f32⟩
  | .hbm, ⟨28, _⟩ => ⟨S4x8x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5648, .bf16⟩
  | .local _ .vmem, ⟨4, _⟩ => ⟨S1024x128, .bf16⟩
  | .local _ .vmem, ⟨5, _⟩ => ⟨S4x512, .f32⟩
  | .local _ .vmem, ⟨6, _⟩ => ⟨S1x512, .f32⟩
  | .local _ .vmem, ⟨7, _⟩ => ⟨S4x1536, .f32⟩
  | .local _ .vmem, ⟨8, _⟩ => ⟨S1x1536, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S4x1x512x128, .f32⟩
  | .local _ .vmem, ⟨14, _⟩ => ⟨S4x1x512x128, .f32⟩
  | .local _ .vmem, ⟨15, _⟩ => ⟨S4x1x512x128, .f32⟩
  | .local _ .vmem, ⟨16, _⟩ => ⟨S4x1x512x128, .f32⟩
  | .local _ .vmem, ⟨17, _⟩ => ⟨S4x1x512x128, .f32⟩
  | .local _ .vmem, ⟨18, _⟩ => ⟨S4x1x512x128, .f32⟩
  | .local _ .vmem, ⟨19, _⟩ => ⟨S1x512x512, .f32⟩
  | .local _ .vmem, ⟨20, _⟩ => ⟨S1x512x512, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1536, .f32⟩
  | .local _ .vmem, ⟨24, _⟩ => ⟨S1x512x1536, .f32⟩
  | .local _ .vmem, ⟨25, _⟩ => ⟨S1x512x128, .f32⟩
  | .local _ .vmem, ⟨26, _⟩ => ⟨S1x512x128, .f32⟩
  | .local _ .vmem, ⟨27, _⟩ => ⟨S2x1x512x512, .f32⟩
  | .local _ .vmem, ⟨28, _⟩ => ⟨S2x1x512x512, .f32⟩
  | .local _ .vmem, ⟨29, _⟩ => ⟨S2x1x512x512, .f32⟩
  | .local _ .vmem, ⟨30, _⟩ => ⟨S2x1x512x512, .f32⟩
  | .local _ .vmem, ⟨31, _⟩ => ⟨S1x8x512, .f32⟩
  | .local _ .vmem, ⟨32, _⟩ => ⟨S1x8x512, .f32⟩
  | .local _ .vmem, ⟨33, _⟩ => ⟨S1x8x1536, .f32⟩
  | .local _ .vmem, ⟨34, _⟩ => ⟨S1x8x1536, .f32⟩
  | .local _ .vmem, ⟨35, _⟩ => ⟨S8x512, .f32⟩
  | .local _ .vmem, ⟨36, _⟩ => ⟨S8x1536, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_v7_8 : Ref sig .tc := ⟨.hbm, 24, rfl⟩
abbrev main_v7_9 : Ref sig .tc := ⟨.hbm, 25, rfl⟩
abbrev main_v7_10 : Ref sig .tc := ⟨.hbm, 26, rfl⟩
abbrev main_v7_11 : Ref sig .tc := ⟨.hbm, 27, rfl⟩
abbrev main_v7_12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c4_i32 : BitVec 32 := 4#32
  let v281 : BitVec 1 := Scalar.cmpi .sge arg1 c4_i32
  let v282 : BitVec 32 := Scalar.extui v281
  let c0_i32_183 : BitVec 32 := 0#32
  let v283 : BitVec 1 := Scalar.cmpi .ne v282 c0_i32_183
  v283

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

def cc0_transform_18 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5648 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x8x1536 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== SplitIdeal.lean ====
abbrev S4x4096x1024 : Shape := ⟨3, ![4, 4096, 1024]⟩
abbrev S1024 : Shape := ⟨1, ![1024]⟩
abbrev S1024x5648 : Shape := ⟨2, ![1024, 5648]⟩
abbrev S4x512 : Shape := ⟨2, ![4, 512]⟩
abbrev S512 : Shape := ⟨1, ![512]⟩
abbrev S4x1536 : Shape := ⟨2, ![4, 1536]⟩
abbrev S1536 : Shape := ⟨1, ![1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5648 : Shape := ⟨3, ![4, 4096, 5648]⟩
abbrev S4x4096x512 : Shape := ⟨3, ![4, 4096, 512]⟩
abbrev S4x4096x1536 : Shape := ⟨3, ![4, 4096, 1536]⟩
abbrev S4x4096x16 : Shape := ⟨3, ![4, 4096, 16]⟩
abbrev S4x4096x2048 : Shape := ⟨3, ![4, 4096, 2048]⟩
abbrev S4x2048 : Shape := ⟨2, ![4, 2048]⟩
abbrev S2048 : Shape := ⟨1, ![2048]⟩
abbrev S4x4099x2048 : Shape := ⟨3, ![4, 4099, 2048]⟩
abbrev S1x2048 : Shape := ⟨2, ![1, 2048]⟩
abbrev S1x1x2048 : Shape := ⟨3, ![1, 1, 2048]⟩
abbrev S4x2048x1024 : Shape := ⟨3, ![4, 2048, 1024]⟩
abbrev S4x1024x2048 : Shape := ⟨3, ![4, 1024, 2048]⟩
abbrev S1x4x1024x2048 : Shape := ⟨4, ![1, 4, 1024, 2048]⟩
abbrev S2x4x1024x2048 : Shape := ⟨4, ![2, 4, 1024, 2048]⟩
abbrev S4x4096x4x128 : Shape := ⟨4, ![4, 4096, 4, 128]⟩
abbrev S4x4x4096x128 : Shape := ⟨4, ![4, 4, 4096, 128]⟩
abbrev S4x4096x128 : Shape := ⟨3, ![4, 4096, 128]⟩
abbrev S2x4x512x2048 : Shape := ⟨4, ![2, 4, 512, 2048]⟩
abbrev S4x8x512 : Shape := ⟨3, ![4, 8, 512]⟩
abbrev S4x8x1536 : Shape := ⟨3, ![4, 8, 1536]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5648, .f32⟩
  | .hbm, ⟨3, _⟩ => ⟨S4x512, .f32⟩
  | .hbm, ⟨4, _⟩ => ⟨S512, .f32⟩
  | .hbm, ⟨5, _⟩ => ⟨S4x1536, .f32⟩
  | .hbm, ⟨6, _⟩ => ⟨S1536, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5648, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x1024, .f32⟩
  | .hbm, ⟨31, _⟩ => ⟨S4x4096x1536, .f32⟩
  | .hbm, ⟨32, _⟩ => ⟨S4x4096x16, .f32⟩
  | .hbm, ⟨33, _⟩ => ⟨S4x4096x5648, .f32⟩
  | .hbm, ⟨34, _⟩ => ⟨S4x4096x5648, .f32⟩
  | .hbm, ⟨35, _⟩ => ⟨S_, .f32⟩
  | .hbm, ⟨36, _⟩ => ⟨S4x4096x5648, .f32⟩
  | .hbm, ⟨37, _⟩ => ⟨S4x4096x5648, .f32⟩
  | .hbm, ⟨38, _⟩ => ⟨S_, .f32⟩
  | .hbm, ⟨39, _⟩ => ⟨S4x4096x5648, .f32⟩
  | .hbm, ⟨40, _⟩ => ⟨S4x4096x5648, .f32⟩
  | .hbm, ⟨41, _⟩ => ⟨S4x4096x5648, .f32⟩
  | .hbm, ⟨42, _⟩ => ⟨S4x4096x2048, .f32⟩
  | .hbm, ⟨43, _⟩ => ⟨S4x2048, .f32⟩
  | .hbm, ⟨44, _⟩ => ⟨S2048, .f32⟩
  | .hbm, ⟨45, _⟩ => ⟨S_, .i32⟩
  | .hbm, ⟨46, _⟩ => ⟨S_, .f32⟩
  | .hbm, ⟨47, _⟩ => ⟨S4x4099x2048, .f32⟩
  | .hbm, ⟨48, _⟩ => ⟨S4x4096x2048, .f32⟩
  | .hbm, ⟨49, _⟩ => ⟨S1x2048, .f32⟩
  | .hbm, ⟨50, _⟩ => ⟨S2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S1x2048, .f32⟩
  | .hbm, ⟨59, _⟩ => ⟨S2048, .f32⟩
  | .hbm, ⟨60, _⟩ => ⟨S1x1x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S1x2048, .f32⟩
  | .hbm, ⟨66, _⟩ => ⟨S2048, .f32⟩
  | .hbm, ⟨67, _⟩ => ⟨S1x1x2048, .f32⟩
  | .hbm, ⟨68, _⟩ => ⟨S4x4096x2048, .f32⟩
  | .hbm, ⟨69, _⟩ => ⟨S4x4096x2048, .f32⟩
  | .hbm, ⟨70, _⟩ => ⟨S4x4096x2048, .f32⟩
  | .hbm, ⟨71, _⟩ => ⟨S4x4096x2048, .f32⟩
  | .hbm, ⟨72, _⟩ => ⟨S1x2048, .f32⟩
  | .hbm, ⟨73, _⟩ => ⟨S2048, .f32⟩
  | .hbm, ⟨74, _⟩ => ⟨S1x1x2048, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S4x2048x1024, .f32⟩
  | .hbm, ⟨79, _⟩ => ⟨S4x1024x2048, .f32⟩
  | .hbm, ⟨80, _⟩ => ⟨S_, .f32⟩
  | .hbm, ⟨81, _⟩ => ⟨S4x1024x2048, .f32⟩
  | .hbm, ⟨82, _⟩ => ⟨S1x4x1024x2048, .f32⟩
  | .hbm, ⟨83, _⟩ => ⟨S1x4x1024x2048, .f32⟩
  | .hbm, ⟨84, _⟩ => ⟨S2x4x1024x2048, .f32⟩
  | .hbm, ⟨85, _⟩ => ⟨S4x4096x512, .f32⟩
  | .hbm, ⟨86, _⟩ => ⟨S4x4096x512, .f32⟩
  | .hbm, ⟨87, _⟩ => ⟨S_, .f32⟩
  | .hbm, ⟨88, _⟩ => ⟨S4x4096x512, .f32⟩
  | .hbm, ⟨89, _⟩ => ⟨S4x4096x512, .f32⟩
  | .hbm, ⟨90, _⟩ => ⟨S4x4096x4x128, .f32⟩
  | .hbm, ⟨91, _⟩ => ⟨S4x4x4096x128, .f32⟩
  | .hbm, ⟨92, _⟩ => ⟨S4x4096x4x128, .f32⟩
  | .hbm, ⟨93, _⟩ => ⟨S4x4x4096x128, .f32⟩
  | .hbm, ⟨94, _⟩ => ⟨S4x4096x4x128, .f32⟩
  | .hbm, ⟨95, _⟩ => ⟨S4x4x4096x128, .f32⟩
  | .hbm, ⟨96, _⟩ => ⟨S4x4096x1024, .f32⟩
  | .hbm, ⟨97, _⟩ => ⟨S4x4096x1536, .f32⟩
  | .hbm, ⟨98, _⟩ => ⟨S4x4096x1536, .f32⟩
  | .hbm, ⟨99, _⟩ => ⟨S4x4096x1536, .f32⟩
  | .hbm, ⟨100, _⟩ => ⟨S_, .f32⟩
  | .hbm, ⟨101, _⟩ => ⟨S4x4096x1536, .f32⟩
  | .hbm, ⟨102, _⟩ => ⟨S4x4096x1536, .f32⟩
  | .hbm, ⟨103, _⟩ => ⟨S_, .f32⟩
  | .hbm, ⟨104, _⟩ => ⟨S4x4096x1536, .f32⟩
  | .hbm, ⟨105, _⟩ => ⟨S4x4096x1536, .f32⟩
  | .hbm, ⟨106, _⟩ => ⟨S4x4096x1536, .f32⟩
  | .hbm, ⟨107, _⟩ => ⟨S_, .i32⟩
  | .hbm, ⟨108, _⟩ => ⟨S_, .f32⟩
  | .hbm, ⟨109, _⟩ => ⟨S4x4096x128, .f32⟩
  | .hbm, ⟨110, _⟩ => ⟨S2x4x512x2048, .f32⟩
  | .hbm, ⟨111, _⟩ => ⟨S2x4x512x2048, .f32⟩
  | .hbm, ⟨112, _⟩ => ⟨S4x8x512, .f32⟩
  | .hbm, ⟨113, _⟩ => ⟨S4x8x1536, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_2 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_3 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v76 : Ref sig .tc := ⟨.hbm, 106, rfl⟩
abbrev main_c_4 : Ref sig .tc := ⟨.hbm, 107, rfl⟩
abbrev main_call3_v0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]
-- ==== Proof.LruOut.Scalar.lean ====
/- Facts about the scalar functions of the gated recurrence over the extended reals: the gate's decay
   is a nonnegative finite number, the two spellings of the input's weight agree, and the doubling
   scan over eight rows is the plain recurrence. -/
module

public import Idealize.ShloMosaic.PureOps.Ideal
public import Idealize.ShloMosaic.PureOps.Ideal.Laws

@[expose] public section

noncomputable section

namespace Cert.LruOut

open Idealize.ShloMosaic

/-- The softplus `max x 0 + log (1 + e^(-|x|))`. -/
def softplus (x : EReal) : EReal := max x 0 + Ideal.log1p (Ideal.exp (-(max x (-x))))

/-- The exponential is nonnegative. -/
theorem exp_nonneg (x : EReal) : 0 ≤ Ideal.exp x := by
  induction x with
  | bot => simp
  | top => simp
  | coe r => rw [Ideal.exp_coe]; exact_mod_cast (Real.exp_pos r).le

/-- The logistic function is nonnegative. -/
theorem logistic_nonneg (x : EReal) : 0 ≤ Ideal.logistic x := by
  induction x with
  | bot => simp
  | top => simp
  | coe r => rw [Ideal.logistic_coe]; exact_mod_cast inv_nonneg.mpr (by positivity)

/-- `log (1 + y)` is nonnegative where `y` is. -/
theorem log1p_nonneg {y : EReal} (h : 0 ≤ y) : 0 ≤ Ideal.log1p y := by
  induction y with
  | bot => simp at h
  | top => rw [Ideal.log1p, EReal.add_top_of_ne_bot (by decide)]; simp
  | coe r =>
    have hr : (0 : ℝ) ≤ r := by exact_mod_cast h
    have : (1 : EReal) + (r : EReal) = ((1 + r : ℝ) : EReal) := by push_cast; rfl
    rw [Ideal.log1p, this, Ideal.log_coe, if_neg (by linarith)]
    exact_mod_cast Real.log_nonneg (by linarith)

/-- The softplus is nonnegative. -/
theorem softplus_nonneg (x : EReal) : 0 ≤ softplus x :=
  add_nonneg (le_max_right _ _) (log1p_nonneg (exp_nonneg _))

/-- The decay's exponent `-8 · r · s` is at most zero where `r` and `s` are nonnegative. -/
theorem exponent_nonpos {r s : EReal} (hr : 0 ≤ r) (hs : 0 ≤ s) : ((-8 : ℝ) : EReal) * r * s ≤ 0 := by
  have e : ((-8 : ℝ) : EReal) * r * s = -(((8 : ℝ) : EReal) * (r * s)) := by
    rw [mul_assoc, EReal.coe_neg, EReal.neg_mul]
  rw [e]
  have h : (0 : EReal) ≤ ((8 : ℝ) : EReal) * (r * s) := mul_nonneg (by exact_mod_cast (by norm_num : (0 : ℝ) ≤ 8)) (mul_nonneg hr hs)
  simpa using EReal.neg_le_neg_iff.mpr h

/-- The exponential of a number at most zero is finite. -/
theorem exp_ne_top {x : EReal} (h : x ≤ 0) : Ideal.exp x ≠ ⊤ := by
  induction x with
  | bot => simp
  | top => simp at h
  | coe r => rw [Ideal.exp_coe]; exact EReal.coe_ne_top _

/-- For `x ≤ 0`, `-2 t / (1 - t)` at `t = tanh x` is `-(e^(2 x) - 1)`. -/
theorem weight_eq {x : EReal} (h : x ≤ 0) :
    Ideal.div (((-2 : ℝ) : EReal) * Ideal.tanh x) (1 - Ideal.tanh x) = -(Ideal.exp (((2 : ℝ) : EReal) * x) - 1) := by
  have e1 : (1 : EReal) = ((1 : ℝ) : EReal) := rfl
  induction x with
  | bot =>
    rw [Ideal.tanh_bot, EReal.coe_mul_bot_of_pos (by norm_num), Ideal.exp_bot, e1, ← EReal.coe_neg, ← EReal.coe_sub, ← EReal.coe_mul,
      Ideal.div_coe (by norm_num), ← EReal.coe_mul, zero_sub, ← EReal.coe_neg, ← EReal.coe_neg]
    norm_num
  | top => simp at h
  | coe r =>
    have hc : (0 : ℝ) < Real.cosh r := Real.cosh_pos r
    have ht : 1 - Real.tanh r ≠ 0 := by
      rw [Real.tanh_eq_sinh_div_cosh, ne_eq, sub_eq_zero, eq_comm, div_eq_one_iff_eq hc.ne']
      exact (Real.sinh_lt_cosh r).ne
    rw [Ideal.tanh_coe, ← EReal.coe_mul, ← EReal.coe_mul, Ideal.exp_coe, e1, ← EReal.coe_sub, Ideal.div_coe ht, ← EReal.coe_mul,
      ← EReal.coe_sub, ← EReal.coe_neg, EReal.coe_eq_coe_iff, mul_one_div, div_eq_iff ht]
    rw [Real.tanh_eq_sinh_div_cosh]
    field_simp
    rw [Real.sinh_eq, Real.cosh_eq, two_mul r, Real.exp_add, Real.exp_neg]
    have := Real.exp_pos r
    field_simp
    ring

/-- THE RECURRENCE `h (n+1) = a n · h n + b n`, from `h 0 = h0`. -/
def recur (a b : ℕ → EReal) (h0 : EReal) : ℕ → EReal
  | 0 => h0
  | n + 1 => a n * recur a b h0 n + b n

/-- A nonnegative finite factor distributes over a sum of any two extended reals. -/
theorem mul_add_of_decay {a : EReal} (h0 : 0 ≤ a) (h1 : a ≠ ⊤) (x y : EReal) : a * (x + y) = a * x + a * y :=
  EReal.left_distrib_of_nonneg_of_ne_top h0 h1 x y

/-- Two steps in one: the step `(A₁, B₁)` after the step `(A₂, B₂)` is the step `(A₁ A₂, A₁ B₂ + B₁)`. -/
theorem step_comp {A₁ : EReal} (h0 : 0 ≤ A₁) (h1 : A₁ ≠ ⊤) (B₁ A₂ B₂ h : EReal) :
    A₁ * A₂ * h + (A₁ * B₂ + B₁) = A₁ * (A₂ * h + B₂) + B₁ := by
  rw [mul_add_of_decay h0 h1, mul_assoc, add_assoc]

/-- A product of two nonnegative finite numbers is one. -/
theorem mul_ne_top {a b : EReal} (ha : 0 ≤ a) (ha' : a ≠ ⊤) (hb : 0 ≤ b) (hb' : b ≠ ⊤) : a * b ≠ ⊤ := by
  lift a to ℝ using ⟨ha', (lt_of_lt_of_le EReal.bot_lt_zero ha).ne'⟩
  lift b to ℝ using ⟨hb', (lt_of_lt_of_le EReal.bot_lt_zero hb).ne'⟩
  rw [← EReal.coe_mul]; exact EReal.coe_ne_top _

/-- One doubling of the decays over eight rows at distance `d`: row `s` times row `s - d`, or times one. -/
def dblA (d : ℕ) (A : ℕ → EReal) (s : ℕ) : EReal := A s * if d ≤ s then A (s - d) else 1

/-- One doubling of the inputs at distance `d`: row `s`'s decay times row `s - d`'s input, or times zero, plus its own. -/
def dblB (d : ℕ) (A B : ℕ → EReal) (s : ℕ) : EReal := A s * (if d ≤ s then B (s - d) else 0) + B s

/-- THE DOUBLING SCAN over eight rows (distances 1, 2, 4) applied to a carried value is the recurrence from that
    value, where the decays are nonnegative and finite. -/
theorem doubling_scan (a b : ℕ → EReal) (h : EReal) (h0 : ∀ n, 0 ≤ a n) (h1 : ∀ n, a n ≠ ⊤) (s : ℕ) (hs : s < 8) :
    dblB 4 (dblA 2 (dblA 1 a)) (dblB 2 (dblA 1 a) (dblB 1 a b)) s + dblA 4 (dblA 2 (dblA 1 a)) s * h
      = recur a b h (s + 1) := by
  have p0 : ∀ x y : EReal, 0 ≤ x → 0 ≤ y → 0 ≤ x * y := fun _ _ => mul_nonneg
  have hA1 : ∀ n, 0 ≤ dblA 1 a n ∧ dblA 1 a n ≠ ⊤ := fun n => by
    unfold dblA; split
    · exact ⟨p0 _ _ (h0 _) (h0 _), mul_ne_top (h0 _) (h1 _) (h0 _) (h1 _)⟩
    · rw [mul_one]; exact ⟨h0 _, h1 _⟩
  have hA2 : ∀ n, 0 ≤ dblA 2 (dblA 1 a) n ∧ dblA 2 (dblA 1 a) n ≠ ⊤ := fun n => by
    rw [dblA]; split
    · exact ⟨p0 _ _ (hA1 _).1 (hA1 _).1, mul_ne_top (hA1 _).1 (hA1 _).2 (hA1 _).1 (hA1 _).2⟩
    · rw [mul_one]; exact hA1 _
  have st : ∀ (d : ℕ) (A B : ℕ → EReal), (∀ n, 0 ≤ A n ∧ A n ≠ ⊤) → ∀ (s : ℕ) (x : EReal),
      dblA d A s * x + dblB d A B s = A s * (if d ≤ s then A (s - d) * x + B (s - d) else x) + B s := by
    intro d A B hA s x
    unfold dblA dblB
    split
    · exact step_comp (hA s).1 (hA s).2 _ _ _ _
    · rw [mul_one, mul_zero, zero_add]
  rw [add_comm, st 4 _ _ hA2]
  have s2 := st 2 _ (dblB 1 a b) hA1
  have s1 := st 1 a b fun n => ⟨h0 n, h1 n⟩
  interval_cases s <;> norm_num [s2, s1, recur]

/-- The recurrence over `m + n` steps is the recurrence over `n` steps of the shifted rows, from where `m` steps end. -/
theorem recur_add (a b : ℕ → EReal) (h : EReal) (m n : ℕ) :
    recur a b h (m + n) = recur (fun k => a (m + k)) (fun k => b (m + k)) (recur a b h m) n := by
  induction n with
  | zero => rfl
  | succ n ih => rw [← add_assoc]; show a (m + n) * _ + _ = _; rw [ih]; rfl

/-- The recurrence over `n` steps reads the first `n` decays and inputs only. -/
theorem recur_congr {a b a' b' : ℕ → EReal} {h h' : EReal} (hh : h = h') (n : ℕ)
    (ha : ∀ k < n, a k = a' k) (hb : ∀ k < n, b k = b' k) : recur a b h n = recur a' b' h' n := by
  induction n with
  | zero => exact hh
  | succ n ih =>
    show a n * _ + _ = a' n * _ + _
    rw [ih (fun k hk => ha k (by omega)) fun k hk => hb k (by omega), ha n (by omega), hb n (by omega)]

end Cert.LruOut

end
-- ==== Proof.LruOut.Groups.lean ====
/- The kernel's scan of one tile of 512 rows: eight rows at a time by doubling, the carry handed from each group of
   eight rows to the next. Read at an index it is the plain recurrence over the tile's rows. -/
module

public import proofs.«01_k».proof.Proof.Gen.KernelIdeal.Skeleton
public import proofs.«01_k».proof.Proof.LruOut.Scalar
public import Idealize.ShloMosaic.Lib.Pointwise
public import Idealize.ShloMosaic.Lib.Pipeline.Value

@[expose] public section

noncomputable section

namespace Cert.LruOut

open Idealize.ShloMosaic Cert.KernelIdeal Cert.KernelIdeal.Gen

/-- One group's decays in column `j`, as a sequence (one past the eight rows). -/
def rowsA (A : FVec Ideal S64x8x512 .f32) (g : Fin 64) (j : Fin 512) (n : ℕ) : EReal := if h : n < 8 then A (ix3 g ⟨n, h⟩ j) else 1

/-- One group's inputs in column `j`, as a sequence (zero past the eight rows). -/
def rowsB (B : FVec Ideal S64x8x512 .f32) (g : Fin 64) (j : Fin 512) (n : ℕ) : EReal := if h : n < 8 then B (ix3 g ⟨n, h⟩ j) else 0

/-- The row numbers within a group. -/
abbrev rowNo : IVec S64x8x512 32 := iota .tc S64x8x512 32 [1] iota_S64x8x512_d1_w32

set_option maxHeartbeats 1000000 in
/-- The doubled inputs at a row. -/
theorem doubled_inputs (A B : FVec Ideal S64x8x512 .f32) (g : Fin 64) (s : Fin 8) (j : Fin 512) :
    k0_pay15 A B rowNo k0_pay10 1#32 (ix3 g s j)
      = dblB 4 (dblA 2 (dblA 1 (rowsA A g j))) (dblB 2 (dblA 1 (rowsA A g j)) (dblB 1 (rowsA A g j) (rowsB B g j))) s := by
  pointwise [k0_pay15, k0_pay10, k0_pay11, k0_pay12, k0_pay13, k0_pay14]
  fin_vals s with hs
  all_goals
    obtain rfl : s = ⟨_, by decide⟩ := Fin.ext hs
    simp [dblA, dblB, rowsA, rowsB, Scalar.select, IntOp.cmpi]

set_option maxHeartbeats 1000000 in
/-- The doubled decays at a row. -/
theorem doubled_decays (A : FVec Ideal S64x8x512 .f32) (g : Fin 64) (s : Fin 8) (j : Fin 512) :
    k0_pay16 A rowNo k0_pay10 1#32 (ix3 g s j) = dblA 4 (dblA 2 (dblA 1 (rowsA A g j))) s := by
  pointwise [k0_pay16, k0_pay10, k0_pay11, k0_pay12, k0_pay13, k0_pay14]
  fin_vals s with hs
  all_goals
    obtain rfl : s = ⟨_, by decide⟩ := Fin.ext hs
    simp [dblA, rowsA, Scalar.select, IntOp.cmpi]

/-- The states of group `g` from the carried row `c`: the doubled inputs plus the doubled decays times the carry. -/
def groupOut (B A : FVec Ideal S64x8x512 .f32) (g : Fin 64) (c : FVec Ideal S1x512 .f32) : FVec Ideal S8x512 .f32 :=
  fun i => B (ix3 g (i 0) (i 1)) + A (ix3 g (i 0) (i 1)) * c (ix2 0 (i 1))

/-- The last row of a group's states. -/
def lastRow (x : FVec Ideal S8x512 .f32) : FVec Ideal S1x512 .f32 := fun i => x (ix2 7 (i 1))

/-- The row carried into group `n`. -/
def carried (B A : FVec Ideal S64x8x512 .f32) (c : FVec Ideal S1x512 .f32) : ℕ → FVec Ideal S1x512 .f32
  | 0 => c
  | n + 1 => if h : n < 64 then lastRow (groupOut B A ⟨n, h⟩ (carried B A c n)) else c

/-- The states of group `g` of the chain. -/
def chainOut (B A : FVec Ideal S64x8x512 .f32) (c : FVec Ideal S1x512 .f32) (g : Fin 64) : FVec Ideal S8x512 .f32 :=
  groupOut B A g (carried B A c g)

/-- The kernel's text for one group is the group's states. -/
theorem group_text (B A : FVec Ideal S64x8x512 .f32) (g : ℕ) (hg : g < 64) (c : FVec Ideal S1x512 .f32)
    (hs : S64x8x512.Slices (![g, 0, 0] : Fin 3 → Nat) S1x8x512) :
    addf (F := Ideal) (φ := .f32) (shapeCast S8x512 (extractStridedSlice S1x8x512 ![g, 0, 0] B hs) shapeCasts_S1x8x512_S8x512)
      (mulf (shapeCast S8x512 (extractStridedSlice S1x8x512 ![g, 0, 0] A hs) shapeCasts_S1x8x512_S8x512)
        (broadcastTo S8x512 c broadcasts_S1x512_S8x512)) = groupOut B A ⟨g, hg⟩ c := by
  funext i
  idx_vars i
  pointwise [groupOut]

/-- The kernel's text for the row handed on is the last row. -/
theorem last_text (x : FVec Ideal S8x512 .f32) :
    extractStridedSlice S1x512 ![7, 0] x slices_S8x512_o7_0_S1x512 = lastRow x := by
  funext i
  idx_vars i
  pointwise [lastRow]

theorem chain_fold (B A : FVec Ideal S64x8x512 .f32) (c : FVec Ideal S1x512 .f32) (n : ℕ) (h : n < 64) :
    groupOut B A ⟨n, h⟩ (carried B A c n) = chainOut B A c ⟨n, h⟩ := rfl

theorem carry_fold (B A : FVec Ideal S64x8x512 .f32) (c : FVec Ideal S1x512 .f32) (n : ℕ) (h : n < 64) :
    lastRow (chainOut B A c ⟨n, h⟩) = carried B A c (n + 1) := by rw [carried, dif_pos h]; rfl

/-- Every group's text, and every row handed on, in turn: the first two groups. -/
theorem first_groups (c : Vec Ideal S1x512 .f32) (a b : FVec Ideal S64x8x512 .f32) (B A : FVec Ideal S64x8x512 .f32)
    (hB : k0_pay15 a b rowNo k0_pay10 1#32 = B) (hA : k0_pay16 a rowNo k0_pay10 1#32 = A) :
    k0_pay17 c a b rowNo k0_pay10 1#32 = chainOut B A c ⟨0, by decide⟩
      ∧ k0_pay18 c a b rowNo k0_pay10 1#32 = chainOut B A c ⟨1, by decide⟩
      ∧ k0_pay19 c a b rowNo k0_pay10 1#32 = carried B A c 2 := by
  have e0 : k0_pay17 c a b rowNo k0_pay10 1#32 = chainOut B A c ⟨0, by decide⟩ := by
    unfold k0_pay17; rw [hB, hA]; exact group_text B A 0 (by decide) c _
  have e1 : k0_pay18 c a b rowNo k0_pay10 1#32 = chainOut B A c ⟨1, by decide⟩ := by
    unfold k0_pay18; rw [hB, hA, e0, last_text, carry_fold]; exact group_text B A 1 (by decide) _ _
  refine ⟨e0, e1, ?_⟩
  unfold k0_pay19; rw [e1, last_text, carry_fold]

end Cert.LruOut

end
-- ==== Proof.LruOut.Tile.lean ====
/- What the kernel's body leaves at one grid point, as functions of the blocks it reads. -/
module

public import proofs.«01_k».proof.Proof.Gen.KernelIdeal.Frame
public import proofs.«01_k».proof.Proof.LruOut.Groups

@[expose] public section

set_option maxRecDepth 16384

noncomputable section

namespace Cert.LruOut

open Idealize.ShloMosaic Idealize.ShloMosaic.TcCoe Idealize.ShloMosaic.Tactic Idealize.SL.Sem Cert.KernelIdeal Cert.KernelIdeal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- The doubled inputs of a tile. -/
def tileB (x0 : Vec Ideal S1x512x512 .f32) (x2 : Vec Ideal S512x1024 .bf16) (x3 : Vec Ideal S1x1024 .f32) (x4 : Vec Ideal S1x512 .f32) :
    FVec Ideal S64x8x512 .f32 :=
  k0_pay15 (k0_pay8 (k0_pay5 x0) x2 x3 x4) (k0_pay9 (k0_pay4 x0) (k0_pay5 x0) x2 x3 x4) rowNo k0_pay10 1#32

/-- The doubled decays of a tile. -/
def tileA (x0 : Vec Ideal S1x512x512 .f32) (x2 : Vec Ideal S512x1024 .bf16) (x3 : Vec Ideal S1x1024 .f32) (x4 : Vec Ideal S1x512 .f32) :
    FVec Ideal S64x8x512 .f32 :=
  k0_pay16 (k0_pay8 (k0_pay5 x0) x2 x3 x4) rowNo k0_pay10 1#32

/-- The row the recurrence starts a batch from. -/
def zeroRow : FVec Ideal S1x512 .f32 := fun _ => 0

/-- A tile's 512 rows of states: row `r` is row `r % 8` of group `r / 8`. -/
def scanTile (B A : FVec Ideal S64x8x512 .f32) (c : FVec Ideal S1x512 .f32) : FVec Ideal S512x512 .f32 := fun i =>
  chainOut B A c ⟨(i 0).val / 8, by have h : (i 0).val < 512 := (i 0).isLt; omega⟩ (ix2 ⟨(i 0).val % 8, Nat.mod_lt _ (by decide)⟩ (i 1))

/-- Sixty-four entries listed one by one are the list of a function's values. -/
theorem listed {α : Type _} (f : Fin 64 → α) :
    f ⟨0, by decide⟩ :: f ⟨1, by decide⟩ :: f ⟨2, by decide⟩ :: f ⟨3, by decide⟩ :: f ⟨4, by decide⟩ :: f ⟨5, by decide⟩ :: f ⟨6, by decide⟩ :: f ⟨7, by decide⟩ :: f ⟨8, by decide⟩ :: f ⟨9, by decide⟩ :: f ⟨10, by decide⟩ :: f ⟨11, by decide⟩ :: f ⟨12, by decide⟩ :: f ⟨13, by decide⟩ :: f ⟨14, by decide⟩ :: f ⟨15, by decide⟩ :: f ⟨16, by decide⟩ :: f ⟨17, by decide⟩ :: f ⟨18, by decide⟩ :: f ⟨19, by decide⟩ :: f ⟨20, by decide⟩ :: f ⟨21, by decide⟩ :: f ⟨22, by decide⟩ :: f ⟨23, by decide⟩ :: f ⟨24, by decide⟩ :: f ⟨25, by decide⟩ :: f ⟨26, by decide⟩ :: f ⟨27, by decide⟩ :: f ⟨28, by decide⟩ :: f ⟨29, by decide⟩ :: f ⟨30, by decide⟩ :: f ⟨31, by decide⟩ :: f ⟨32, by decide⟩ :: f ⟨33, by decide⟩ :: f ⟨34, by decide⟩ :: f ⟨35, by decide⟩ :: f ⟨36, by decide⟩ :: f ⟨37, by decide⟩ :: f ⟨38, by decide⟩ :: f ⟨39, by decide⟩ :: f ⟨40, by decide⟩ :: f ⟨41, by decide⟩ :: f ⟨42, by decide⟩ :: f ⟨43, by decide⟩ :: f ⟨44, by decide⟩ :: f ⟨45, by decide⟩ :: f ⟨46, by decide⟩ :: f ⟨47, by decide⟩ :: f ⟨48, by decide⟩ :: f ⟨49, by decide⟩ :: f ⟨50, by decide⟩ :: f ⟨51, by decide⟩ :: f ⟨52, by decide⟩ :: f ⟨53, by decide⟩ :: f ⟨54, by decide⟩ :: f ⟨55, by decide⟩ :: f ⟨56, by decide⟩ :: f ⟨57, by decide⟩ :: f ⟨58, by decide⟩ :: f ⟨59, by decide⟩ :: f ⟨60, by decide⟩ :: f ⟨61, by decide⟩ :: f ⟨62, by decide⟩ :: f ⟨63, by decide⟩ :: []
      = List.ofFn f := by
  refine List.ext_getElem (by simp) fun n h1 h2 => ?_
  rw [List.getElem_ofFn]
  have h : n < 64 := by simpa using h2
  interval_cases n <;> rfl

/-- The 64 groups one under the other are the tile's states. -/
theorem pieces_scan (B A : FVec Ideal S64x8x512 .f32) (c : FVec Ideal S1x512 .f32) (xs : List ((s : Shape) × (s.Idx → EReal)))
    (h : Shape.Concatenates (xs.map (·.1)) S512x512 0) (hx : xs = List.ofFn fun g : Fin 64 => ⟨S8x512, chainOut B A c g⟩) :
    concatenate S512x512 0 xs h = scanTile B A c := by
  subst hx
  funext i
  exact concatenate_ofFn_apply (t := S512x512) (s₁ := S8x512) 0 (fun g => chainOut B A c g) h rfl 8 rfl i _ rfl _ rfl (fun b hb => by
    match b, hb with
    | ⟨0, _⟩, hb => exact absurd rfl hb
    | ⟨1, _⟩, _ => rfl)

/-- A tile's mixed rows: the part that does not depend on the recurrence, plus the gated states `S` against the first 512 rows of the
    output weights. -/
def mixTile (S : FVec Ideal S512x512 .f32) (x1 : Vec Ideal S1x512x512 .f32) (x6 : Vec Ideal S4x1x512x128 .f32)
    (x7 : Vec Ideal S1x512x512 .f32) (x8 : Vec Ideal S1x512x1024 .bf16) (x9 : Vec Ideal S2048x1024 .bf16) : FVec Ideal S512x1024 .f32 :=
  addf (k0_pay3 (View.ld x6 (Rect.unit ![0, 0, 0, 0] ![1, 1, 512, 128] inb_S4x1x512x128_S1x1x512x128_0_0_0_0))
      (View.ld x6 (Rect.unit ![1, 0, 0, 0] ![1, 1, 512, 128] inb_S4x1x512x128_S1x1x512x128_1_0_0_0))
      (View.ld x6 (Rect.unit ![2, 0, 0, 0] ![1, 1, 512, 128] inb_S4x1x512x128_S1x1x512x128_2_0_0_0))
      (View.ld x6 (Rect.unit ![3, 0, 0, 0] ![1, 1, 512, 128] inb_S4x1x512x128_S1x1x512x128_3_0_0_0)) x7 x8
      (View.ld x9 (Rect.unit ![512, 0] ![1536, 1024] inb_S2048x1024_S1536x1024_512_0)))
    (matmul (φ₂ := .bf16) dot_S512x512_S512x1024_S512x1024_1_0_0_1_n_n none
      (truncf .bf16 (mulf S (shapeCast S512x512 x1 shapeCasts_S1x512x512_S512x512)) bitsLt_bf16_f32)
      (shapeCast S512x1024 (View.ld x9 (Rect.unit ![0, 0] ![512, 1024] inb_S2048x1024_S512x1024_0_0)) shapeCasts_S512x1024_S512x1024)
      (constant S512x1024 .f32 0x00000000#32))

/-- A tile's rows normalised, scaled, and added to the residual rows. -/
def normTile (mix : FVec Ideal S512x1024 .f32) (x5 : Vec Ideal S1x512x1024 .f32) (x10 : Vec Ideal S1x1024 .f32) : FVec Ideal S1x512x1024 .f32 :=
  k0_pay1 mix (k0_pay102 x5)
    (divf (shapeCast S512x1 (multiReduction .add [1] S512 (mulf mix mix) 0x00000000#32 reduces_S512x1024_S512 (.inl rfl) rfl) shapeCasts_S512_S512x1)
      (broadcast S512x1 (Scalar.ofBits .f32 0x44800000#32 : Ideal .f32))) k0_pay104 x10

/-- The first row of the scratch block a tile starts from, out of the zeros just stored there. -/
theorem reset_row {κ : Kind} {sp : Space} (v : View sig κ sp S8x512 .f32) :
    v.readCov (Val := Elt Ideal) [⟨Rect.unit ![0, 0] ![8, 512] inb_S8x512_S8x512_0_0, k0_pay2 (F := Ideal)⟩]
      (Rect.unit (s := S8x512) ![0, 0] ![1, 512] inb_S8x512_S1x512_0_0).toLoadRect = zeroRow := by
  rw [View.readCov_eq_canon_ld v _ (Rect.unit (s := S8x512) ![0, 0] S1x512.size inb_S8x512_S1x512_0_0) (by
      intro y
      refine ⟨_, List.mem_singleton_self _, ?_⟩
      exact View.mem_set_unit_zero (S := S8x512) hz2 inb_S8x512_S8x512_0_0 y),
    View.canon_unit_zero (S := S8x512) hz2]
  funext i
  show k0_pay2 (F := Ideal) _ = 0
  unfold k0_pay2
  rw [shapeCast_self]
  simp [broadcast, Ideal.ofBits, Ideal.ieee]

set_option maxHeartbeats 4000000 in
/-- Away from the first tile of a batch, the block of final states is the row handed on by the last group. -/
theorem last_B (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x512x1024 .f32) (harg7 : arg7.IsWhole) (arg8 : Memref sig .tc .vmem S4x1x512x128 .f32) (harg8 : arg8.IsWhole) (arg9 : Memref sig .tc .vmem S1x512x512 .f32) (harg9 : arg9.IsWhole) (arg10 : Memref sig .tc .vmem S1x512x1024 .bf16) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1x1x512 .f32) (harg14 : arg14.IsWhole) (arg15 : Memref sig .tc .vmem S8x512 .f32) (harg15 : arg15.IsWhole) (hc0 : ¬cond0_0 i)
    (x0 : Vec Ideal S1x512x512 .f32) (x1 : Vec Ideal S1x512x512 .f32) (x2 : Vec Ideal S512x1024 .bf16) (x3 : Vec Ideal S1x1024 .f32) (x4 : Vec Ideal S1x512 .f32) (x5 : Vec Ideal S1x512x1024 .f32) (x6 : Vec Ideal S4x1x512x128 .f32) (x7 : Vec Ideal S1x512x512 .f32) (x8 : Vec Ideal S1x512x1024 .bf16) (x9 : Vec Ideal S2048x1024 .bf16) (x10 : Vec Ideal S1x1024 .f32) (xs0 : Vec Ideal S8x512 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0
      = shapeCast S1x1x512 (carried (tileB x0 x2 x3 x4) (tileA x0 x2 x3 x4) (View.ld xs0 (Rect.unit ![0, 0] ![1, 512] inb_S8x512_S1x512_0_0)) 64) shapeCasts_S1x512_S1x1x512 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S512x1024) hz2, View.ld_unit_zero (S := S1x512x512) hz3, View.ld_unit_zero (S := S1x512) hz2, View.ld_unit_zero (S := S1x1024) hz2, View.ld_unit_zero (S := S1x512x1024) hz3]
  obtain ⟨a, ha⟩ : ∃ a, k0_pay8 (k0_pay5 x0) x2 x3 x4 = a := ⟨_, rfl⟩
  obtain ⟨b, hb⟩ : ∃ b, k0_pay9 (k0_pay4 x0) (k0_pay5 x0) x2 x3 x4 = b := ⟨_, rfl⟩
  obtain ⟨B, hB⟩ : ∃ B, k0_pay15 a b rowNo k0_pay10 1#32 = B := ⟨_, rfl⟩
  obtain ⟨A, hA⟩ : ∃ A, k0_pay16 a rowNo k0_pay10 1#32 = A := ⟨_, rfl⟩
  unfold tileB tileA
  obtain ⟨e0, e1, e2⟩ := first_groups (View.ld xs0 (Rect.unit ![0, 0] ![1, 512] inb_S8x512_S1x512_0_0)) a b B A hB hA
  simp only [ha, hb, hB, hA, e0, e1, e2]
  clear e0 e1 e2
  simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, group_text, last_text, carry_fold, chain_fold, Nat.reduceLT, Nat.reduceAdd]
  unfold k0_pay100
  simp only [k0_pay98, k0_pay97, k0_pay96, group_text, last_text, carry_fold, chain_fold, Nat.reduceLT, Nat.reduceAdd]

set_option maxHeartbeats 4000000 in
/-- Away from the first tile of a batch, every row of the scratch block is the row handed on by the last group. -/
theorem scratch_B (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x512x1024 .f32) (harg7 : arg7.IsWhole) (arg8 : Memref sig .tc .vmem S4x1x512x128 .f32) (harg8 : arg8.IsWhole) (arg9 : Memref sig .tc .vmem S1x512x512 .f32) (harg9 : arg9.IsWhole) (arg10 : Memref sig .tc .vmem S1x512x1024 .bf16) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1x1x512 .f32) (harg14 : arg14.IsWhole) (arg15 : Memref sig .tc .vmem S8x512 .f32) (harg15 : arg15.IsWhole) (hc0 : ¬cond0_0 i)
    (x0 : Vec Ideal S1x512x512 .f32) (x1 : Vec Ideal S1x512x512 .f32) (x2 : Vec Ideal S512x1024 .bf16) (x3 : Vec Ideal S1x1024 .f32) (x4 : Vec Ideal S1x512 .f32) (x5 : Vec Ideal S1x512x1024 .f32) (x6 : Vec Ideal S4x1x512x128 .f32) (x7 : Vec Ideal S1x512x512 .f32) (x8 : Vec Ideal S1x512x1024 .bf16) (x9 : Vec Ideal S2048x1024 .bf16) (x10 : Vec Ideal S1x1024 .f32) (xs0 : Vec Ideal S8x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0
      = shapeCast S8x512 (broadcastTo S8x512 (shapeCast S1x512 (carried (tileB x0 x2 x3 x4) (tileA x0 x2 x3 x4) (View.ld xs0 (Rect.unit ![0, 0] ![1, 512] inb_S8x512_S1x512_0_0)) 64) shapeCasts_S1x512_S1x512) broadcasts_S1x512_S8x512) shapeCasts_S8x512_S8x512 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S512x1024) hz2, View.ld_unit_zero (S := S1x512x512) hz3, View.ld_unit_zero (S := S1x512) hz2, View.ld_unit_zero (S := S1x1024) hz2, View.ld_unit_zero (S := S1x512x1024) hz3]
  obtain ⟨a, ha⟩ : ∃ a, k0_pay8 (k0_pay5 x0) x2 x3 x4 = a := ⟨_, rfl⟩
  obtain ⟨b, hb⟩ : ∃ b, k0_pay9 (k0_pay4 x0) (k0_pay5 x0) x2 x3 x4 = b := ⟨_, rfl⟩
  obtain ⟨B, hB⟩ : ∃ B, k0_pay15 a b rowNo k0_pay10 1#32 = B := ⟨_, rfl⟩
  obtain ⟨A, hA⟩ : ∃ A, k0_pay16 a rowNo k0_pay10 1#32 = A := ⟨_, rfl⟩
  unfold tileB tileA
  obtain ⟨e0, e1, e2⟩ := first_groups (View.ld xs0 (Rect.unit ![0, 0] ![1, 512] inb_S8x512_S1x512_0_0)) a b B A hB hA
  simp only [ha, hb, hB, hA, e0, e1, e2]
  clear e0 e1 e2
  simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, group_text, last_text, carry_fold, chain_fold, Nat.reduceLT, Nat.reduceAdd]
  unfold k0_pay99
  simp only [k0_pay98, k0_pay97, k0_pay96, group_text, last_text, carry_fold, chain_fold, Nat.reduceLT, Nat.reduceAdd]

set_option maxHeartbeats 4000000 in
/-- Away from the first tile of a batch, the output block is the normalised rows, the states starting from the first row of the scratch block. -/
theorem rows_B (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x512x1024 .f32) (harg7 : arg7.IsWhole) (arg8 : Memref sig .tc .vmem S4x1x512x128 .f32) (harg8 : arg8.IsWhole) (arg9 : Memref sig .tc .vmem S1x512x512 .f32) (harg9 : arg9.IsWhole) (arg10 : Memref sig .tc .vmem S1x512x1024 .bf16) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1x1x512 .f32) (harg14 : arg14.IsWhole) (arg15 : Memref sig .tc .vmem S8x512 .f32) (harg15 : arg15.IsWhole) (hc0 : ¬cond0_0 i)
    (x0 : Vec Ideal S1x512x512 .f32) (x1 : Vec Ideal S1x512x512 .f32) (x2 : Vec Ideal S512x1024 .bf16) (x3 : Vec Ideal S1x1024 .f32) (x4 : Vec Ideal S1x512 .f32) (x5 : Vec Ideal S1x512x1024 .f32) (x6 : Vec Ideal S4x1x512x128 .f32) (x7 : Vec Ideal S1x512x512 .f32) (x8 : Vec Ideal S1x512x1024 .bf16) (x9 : Vec Ideal S2048x1024 .bf16) (x10 : Vec Ideal S1x1024 .f32) (xs0 : Vec Ideal S8x512 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0
      = normTile (mixTile (scanTile (tileB x0 x2 x3 x4) (tileA x0 x2 x3 x4) (View.ld xs0 (Rect.unit ![0, 0] ![1, 512] inb_S8x512_S1x512_0_0))) x1 x6 x7 x8 x9) x5 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S512x1024) hz2, View.ld_unit_zero (S := S1x512x512) hz3, View.ld_unit_zero (S := S1x512) hz2, View.ld_unit_zero (S := S1x1024) hz2, View.ld_unit_zero (S := S1x512x1024) hz3]
  obtain ⟨a, ha⟩ : ∃ a, k0_pay8 (k0_pay5 x0) x2 x3 x4 = a := ⟨_, rfl⟩
  obtain ⟨b, hb⟩ : ∃ b, k0_pay9 (k0_pay4 x0) (k0_pay5 x0) x2 x3 x4 = b := ⟨_, rfl⟩
  obtain ⟨B, hB⟩ : ∃ B, k0_pay15 a b rowNo k0_pay10 1#32 = B := ⟨_, rfl⟩
  obtain ⟨A, hA⟩ : ∃ A, k0_pay16 a rowNo k0_pay10 1#32 = A := ⟨_, rfl⟩
  unfold tileB tileA
  obtain ⟨e0, e1, e2⟩ := first_groups (View.ld xs0 (Rect.unit ![0, 0] ![1, 512] inb_S8x512_S1x512_0_0)) a b B A hB hA
  simp only [ha, hb, hB, hA, e0, e1, e2]
  clear e0 e1 e2
  simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, group_text, last_text, carry_fold, chain_fold, Nat.reduceLT, Nat.reduceAdd]
  refine Eq.trans (show _ = normTile (k0_pay101 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ) x5 x10 from rfl) (congrArg (fun M => normTile M x5 x10) ?_)
  unfold k0_pay101
  refine congrArg (fun S => mixTile S x1 x6 x7 x8 x9) (pieces_scan B A (View.ld xs0 (Rect.unit ![0, 0] ![1, 512] inb_S8x512_S1x512_0_0)) _ _ ?_)
  simp only [k0_pay97, k0_pay96, group_text, last_text, carry_fold, chain_fold, Nat.reduceLT, Nat.reduceAdd]
  exact listed (α := (s : Shape) × (s.Idx → EReal)) fun g => ⟨S8x512, chainOut B A (View.ld xs0 (Rect.unit ![0, 0] ![1, 512] inb_S8x512_S1x512_0_0)) g⟩

set_option maxHeartbeats 4000000 in
/-- At the first tile of a batch, the block of final states is the row handed on by the last group. -/
theorem last_A (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x512x1024 .f32) (harg7 : arg7.IsWhole) (arg8 : Memref sig .tc .vmem S4x1x512x128 .f32) (harg8 : arg8.IsWhole) (arg9 : Memref sig .tc .vmem S1x512x512 .f32) (harg9 : arg9.IsWhole) (arg10 : Memref sig .tc .vmem S1x512x1024 .bf16) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1x1x512 .f32) (harg14 : arg14.IsWhole) (arg15 : Memref sig .tc .vmem S8x512 .f32) (harg15 : arg15.IsWhole) (hc0 : cond0_0 i)
    (x0 : Vec Ideal S1x512x512 .f32) (x1 : Vec Ideal S1x512x512 .f32) (x2 : Vec Ideal S512x1024 .bf16) (x3 : Vec Ideal S1x1024 .f32) (x4 : Vec Ideal S1x512 .f32) (x5 : Vec Ideal S1x512x1024 .f32) (x6 : Vec Ideal S4x1x512x128 .f32) (x7 : Vec Ideal S1x512x512 .f32) (x8 : Vec Ideal S1x512x1024 .bf16) (x9 : Vec Ideal S2048x1024 .bf16) (x10 : Vec Ideal S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = shapeCast S1x1x512 (carried (tileB x0 x2 x3 x4) (tileA x0 x2 x3 x4) zeroRow 64) shapeCasts_S1x512_S1x1x512 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S512x1024) hz2, View.ld_unit_zero (S := S1x512x512) hz3, View.ld_unit_zero (S := S1x512) hz2, View.ld_unit_zero (S := S1x1024) hz2, View.ld_unit_zero (S := S1x512x1024) hz3, reset_row]
  obtain ⟨a, ha⟩ : ∃ a, k0_pay8 (k0_pay5 x0) x2 x3 x4 = a := ⟨_, rfl⟩
  obtain ⟨b, hb⟩ : ∃ b, k0_pay9 (k0_pay4 x0) (k0_pay5 x0) x2 x3 x4 = b := ⟨_, rfl⟩
  obtain ⟨B, hB⟩ : ∃ B, k0_pay15 a b rowNo k0_pay10 1#32 = B := ⟨_, rfl⟩
  obtain ⟨A, hA⟩ : ∃ A, k0_pay16 a rowNo k0_pay10 1#32 = A := ⟨_, rfl⟩
  unfold tileB tileA
  obtain ⟨e0, e1, e2⟩ := first_groups zeroRow a b B A hB hA
  simp only [ha, hb, hB, hA, e0, e1, e2]
  clear e0 e1 e2
  simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, group_text, last_text, carry_fold, chain_fold, Nat.reduceLT, Nat.reduceAdd]
  unfold k0_pay100
  simp only [k0_pay98, k0_pay97, k0_pay96, group_text, last_text, carry_fold, chain_fold, Nat.reduceLT, Nat.reduceAdd]

set_option maxHeartbeats 4000000 in
/-- At the first tile of a batch, every row of the scratch block is the row handed on by the last group. -/
theorem scratch_A (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x512x1024 .f32) (harg7 : arg7.IsWhole) (arg8 : Memref sig .tc .vmem S4x1x512x128 .f32) (harg8 : arg8.IsWhole) (arg9 : Memref sig .tc .vmem S1x512x512 .f32) (harg9 : arg9.IsWhole) (arg10 : Memref sig .tc .vmem S1x512x1024 .bf16) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1x1x512 .f32) (harg14 : arg14.IsWhole) (arg15 : Memref sig .tc .vmem S8x512 .f32) (harg15 : arg15.IsWhole) (hc0 : cond0_0 i)
    (x0 : Vec Ideal S1x512x512 .f32) (x1 : Vec Ideal S1x512x512 .f32) (x2 : Vec Ideal S512x1024 .bf16) (x3 : Vec Ideal S1x1024 .f32) (x4 : Vec Ideal S1x512 .f32) (x5 : Vec Ideal S1x512x1024 .f32) (x6 : Vec Ideal S4x1x512x128 .f32) (x7 : Vec Ideal S1x512x512 .f32) (x8 : Vec Ideal S1x512x1024 .bf16) (x9 : Vec Ideal S2048x1024 .bf16) (x10 : Vec Ideal S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = shapeCast S8x512 (broadcastTo S8x512 (shapeCast S1x512 (carried (tileB x0 x2 x3 x4) (tileA x0 x2 x3 x4) zeroRow 64) shapeCasts_S1x512_S1x512) broadcasts_S1x512_S8x512) shapeCasts_S8x512_S8x512 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_cons_unit_zero (S := S8x512) hz2]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S512x1024) hz2, View.ld_unit_zero (S := S1x512x512) hz3, View.ld_unit_zero (S := S1x512) hz2, View.ld_unit_zero (S := S1x1024) hz2, View.ld_unit_zero (S := S1x512x1024) hz3, reset_row]
  obtain ⟨a, ha⟩ : ∃ a, k0_pay8 (k0_pay5 x0) x2 x3 x4 = a := ⟨_, rfl⟩
  obtain ⟨b, hb⟩ : ∃ b, k0_pay9 (k0_pay4 x0) (k0_pay5 x0) x2 x3 x4 = b := ⟨_, rfl⟩
  obtain ⟨B, hB⟩ : ∃ B, k0_pay15 a b rowNo k0_pay10 1#32 = B := ⟨_, rfl⟩
  obtain ⟨A, hA⟩ : ∃ A, k0_pay16 a rowNo k0_pay10 1#32 = A := ⟨_, rfl⟩
  unfold tileB tileA
  obtain ⟨e0, e1, e2⟩ := first_groups zeroRow a b B A hB hA
  simp only [ha, hb, hB, hA, e0, e1, e2]
  clear e0 e1 e2
  simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, group_text, last_text, carry_fold, chain_fold, Nat.reduceLT, Nat.reduceAdd]
  unfold k0_pay99
  simp only [k0_pay98, k0_pay97, k0_pay96, group_text, last_text, carry_fold, chain_fold, Nat.reduceLT, Nat.reduceAdd]

set_option maxHeartbeats 4000000 in
/-- At the first tile of a batch, the output block is the normalised rows, the states starting from a row of zeros. -/
theorem rows_A (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x512 .f32) (harg6 : arg6.IsWhole) (arg7 : Memref sig .tc .vmem S1x512x1024 .f32) (harg7 : arg7.IsWhole) (arg8 : Memref sig .tc .vmem S4x1x512x128 .f32) (harg8 : arg8.IsWhole) (arg9 : Memref sig .tc .vmem S1x512x512 .f32) (harg9 : arg9.IsWhole) (arg10 : Memref sig .tc .vmem S1x512x1024 .bf16) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1x1x512 .f32) (harg14 : arg14.IsWhole) (arg15 : Memref sig .tc .vmem S8x512 .f32) (harg15 : arg15.IsWhole) (hc0 : cond0_0 i)
    (x0 : Vec Ideal S1x512x512 .f32) (x1 : Vec Ideal S1x512x512 .f32) (x2 : Vec Ideal S512x1024 .bf16) (x3 : Vec Ideal S1x1024 .f32) (x4 : Vec Ideal S1x512 .f32) (x5 : Vec Ideal S1x512x1024 .f32) (x6 : Vec Ideal S4x1x512x128 .f32) (x7 : Vec Ideal S1x512x512 .f32) (x8 : Vec Ideal S1x512x1024 .bf16) (x9 : Vec Ideal S2048x1024 .bf16) (x10 : Vec Ideal S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = normTile (mixTile (scanTile (tileB x0 x2 x3 x4) (tileA x0 x2 x3 x4) zeroRow) x1 x6 x7 x8 x9) x5 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S512x1024) hz2, View.ld_unit_zero (S := S1x512x512) hz3, View.ld_unit_zero (S := S1x512) hz2, View.ld_unit_zero (S := S1x1024) hz2, View.ld_unit_zero (S := S1x512x1024) hz3, reset_row]
  obtain ⟨a, ha⟩ : ∃ a, k0_pay8 (k0_pay5 x0) x2 x3 x4 = a := ⟨_, rfl⟩
  obtain ⟨b, hb⟩ : ∃ b, k0_pay9 (k0_pay4 x0) (k0_pay5 x0) x2 x3 x4 = b := ⟨_, rfl⟩
  obtain ⟨B, hB⟩ : ∃ B, k0_pay15 a b rowNo k0_pay10 1#32 = B := ⟨_, rfl⟩
  obtain ⟨A, hA⟩ : ∃ A, k0_pay16 a rowNo k0_pay10 1#32 = A := ⟨_, rfl⟩
  unfold tileB tileA
  obtain ⟨e0, e1, e2⟩ := first_groups zeroRow a b B A hB hA
  simp only [ha, hb, hB, hA, e0, e1, e2]
  clear e0 e1 e2
  simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, group_text, last_text, carry_fold, chain_fold, Nat.reduceLT, Nat.reduceAdd]
  refine Eq.trans (show _ = normTile (k0_pay101 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ) x5 x10 from rfl) (congrArg (fun M => normTile M x5 x10) ?_)
  unfold k0_pay101
  refine congrArg (fun S => mixTile S x1 x6 x7 x8 x9) (pieces_scan B A zeroRow _ _ ?_)
  simp only [k0_pay97, k0_pay96, group_text, last_text, carry_fold, chain_fold, Nat.reduceLT, Nat.reduceAdd]
  exact listed (α := (s : Shape) × (s.Idx → EReal)) fun g => ⟨S8x512, chainOut B A zeroRow g⟩

end Cert.LruOut

end
-- ==== Proof.LruOut.Layer.lean ====
/- What the layer's part computes, as plain formulas over arrays of extended reals: the gates, the recurrence, the
   projection of the three mixed parts, the normalisation and the residual. -/
module

public import proofs.«01_k».proof.Proof.LruOut.Scalar

@[expose] public section

noncomputable section

namespace Cert.LruOut

open Idealize.ShloMosaic

/-- The decay at a row and column whose gate argument is `u` and whose parameter is `l`. -/
def decay (u l : EReal) : EReal := Ideal.exp (((-8 : ℝ) : EReal) * Ideal.logistic u * softplus (-l))

/-- The input at a row and column: the root of the weight `1 - decay²`, times the gate of `v`, times `x`. -/
def input (u l v x : EReal) : EReal :=
  Ideal.sqrt (-(Ideal.exp (((2 : ℝ) : EReal) * (((-8 : ℝ) : EReal) * Ideal.logistic u * softplus (-l))) - 1)) * (Ideal.logistic v * x)

theorem log_decay_nonpos (u l : EReal) : ((-8 : ℝ) : EReal) * Ideal.logistic u * softplus (-l) ≤ 0 :=
  exponent_nonpos (logistic_nonneg u) (softplus_nonneg _)

theorem decay_nonneg (u l : EReal) : 0 ≤ decay u l := exp_nonneg _

theorem decay_ne_top (u l : EReal) : decay u l ≠ ⊤ := exp_ne_top (log_decay_nonpos u l)

/-- A gate's argument: a block of 64 columns of the row against that block's 64 by 64 weights, plus the bias. -/
def gatePre (x : Fin 512 → EReal) (w : Fin 8 → Fin 64 → Fin 64 → EReal) (b : Fin 512 → EReal) (j : Fin 512) : EReal :=
  ∑ i : Fin 64, x ⟨64 * (j.val / 64) + i.val, by omega⟩ * w ⟨j.val / 64, by omega⟩ i ⟨j.val % 64, by omega⟩ + b j

/-- The arrays the part reads. -/
structure Arrays where
  xc : Fin 4 → Fin 4096 → Fin 512 → EReal
  gate : Fin 4 → Fin 4096 → Fin 512 → EReal
  wa : Fin 8 → Fin 64 → Fin 64 → EReal
  ba : Fin 512 → EReal
  wx : Fin 8 → Fin 64 → Fin 64 → EReal
  bx : Fin 512 → EReal
  lam : Fin 512 → EReal
  x : Fin 4 → Fin 4096 → Fin 1024 → EReal
  o4 : Fin 4 → Fin 4 → Fin 4096 → Fin 128 → EReal
  ga : Fin 4 → Fin 4096 → Fin 512 → EReal
  ys : Fin 4 → Fin 4096 → Fin 1024 → EReal
  wo : Fin 2048 → Fin 1024 → EReal
  pg : Fin 1024 → EReal

namespace Arrays

variable (D : Arrays)

/-- The decays of batch `b`, column `j`, as a sequence. -/
def dec (b : Fin 4) (j : Fin 512) (n : ℕ) : EReal :=
  if h : n < 4096 then decay (gatePre (D.xc b ⟨n, h⟩) D.wa D.ba j) (D.lam j) else 1

/-- The inputs of batch `b`, column `j`, as a sequence. -/
def inp (b : Fin 4) (j : Fin 512) (n : ℕ) : EReal :=
  if h : n < 4096 then
    input (gatePre (D.xc b ⟨n, h⟩) D.wa D.ba j) (D.lam j) (gatePre (D.xc b ⟨n, h⟩) D.wx D.bx j) (D.xc b ⟨n, h⟩ j)
  else 0

/-- The state of batch `b`, column `j`, after `n` rows. -/
def state (b : Fin 4) (j : Fin 512) (n : ℕ) : EReal := recur (D.dec b j) (D.inp b j) 0 n

/-- The mixed row: the gated states, the gated attention and the third part against the output weights. -/
def mix (b : Fin 4) (n : Fin 4096) (d : Fin 1024) : EReal :=
  ∑ j : Fin 512, D.state b j (n.val + 1) * D.gate b n j * D.wo ⟨j.val, by omega⟩ d
    + (∑ j : Fin 512, D.o4 ⟨j.val / 128, by omega⟩ b n ⟨j.val % 128, by omega⟩ * (D.ga b n j * Ideal.logistic (D.ga b n j)) * D.wo ⟨512 + j.val, by omega⟩ d
      + ∑ k : Fin 1024, D.ys b n k * D.wo ⟨1024 + k.val, by omega⟩ d)

/-- The output row: the residual plus the mixed row over the root of its mean square. -/
def out (b : Fin 4) (n : Fin 4096) (d : Fin 1024) : EReal :=
  D.x b n d + D.mix b n d * Ideal.rsqrt (Ideal.div (∑ k : Fin 1024, D.mix b n k * D.mix b n k) (Ideal.ofBits FTy.f32 0x44800000#32)
    + Ideal.ofBits FTy.f32 0x358637BD#32) * D.pg d

end Arrays

/-- A sum over 512 columns is a sum over 8 blocks of 64. -/
theorem sum_blocks (f : Fin 512 → EReal) :
    ∑ x, f x = ∑ k : Fin 8, ∑ i : Fin 64, f ⟨64 * k.val + i.val, by omega⟩ := by
  rw [← Fintype.sum_prod_type' (f := fun (k : Fin 8) (i : Fin 64) => f ⟨64 * k.val + i.val, by omega⟩)]
  refine (Fintype.sum_equiv (finProdFinEquiv (m := 8) (n := 64)) _ _ fun p => ?_).symm
  congr 1
  apply Fin.ext
  show 64 * p.1.val + p.2.val = p.2.val + 64 * p.1.val
  omega

/-- A row against a block diagonal matrix meets the column's own block only. -/
theorem block_diagonal (x : Fin 512 → EReal) (w : Fin 8 → Fin 64 → Fin 64 → EReal) (e : Fin 512 → EReal) (j : Fin 512)
    (he : ∀ k, e k = if k.val / 64 = j.val / 64 then 1 else 0) :
    ∑ k : Fin 512, x k * (w ⟨k.val / 64, by omega⟩ ⟨k.val % 64, by omega⟩ ⟨j.val % 64, by omega⟩ * e k)
      = ∑ i : Fin 64, x ⟨64 * (j.val / 64) + i.val, by omega⟩ * w ⟨j.val / 64, by omega⟩ i ⟨j.val % 64, by omega⟩ := by
  rw [sum_blocks, Finset.sum_eq_single ⟨j.val / 64, by omega⟩]
  · refine Finset.sum_congr rfl fun i _ => ?_
    have h1 : (64 * (j.val / 64) + i.val) / 64 = j.val / 64 := by omega
    have h2 : (64 * (j.val / 64) + i.val) % 64 = i.val := by omega
    rw [he, if_pos h1, mul_one]
    simp only [h1, h2]
  · intro k _ hk
    refine Finset.sum_eq_zero fun i _ => ?_
    rw [he, if_neg, mul_zero, mul_zero]
    intro h
    apply hk
    apply Fin.ext
    show k.val = j.val / 64
    rw [← h]
    show k.val = (64 * k.val + i.val) / 64
    omega
  · simp

/-- A sum over 1536 rows: the first 512, then 1024. -/
theorem sum_1536 (f : Fin 1536 → EReal) :
    ∑ x, f x = ∑ j : Fin 512, f ⟨j.val, by omega⟩ + ∑ k : Fin 1024, f ⟨512 + k.val, by omega⟩ :=
  Fin.sum_univ_add (a := 512) (b := 1024) f

/-- A sum over 2048 rows: 512, 512 and 1024. -/
theorem sum_2048 (f : Fin 2048 → EReal) :
    ∑ x, f x = ∑ j : Fin 512, f ⟨j.val, by omega⟩ + (∑ j : Fin 512, f ⟨512 + j.val, by omega⟩ + ∑ k : Fin 1024, f ⟨1024 + k.val, by omega⟩) := by
  rw [show ∑ x, f x = ∑ j : Fin 512, f ⟨j.val, by omega⟩ + ∑ k : Fin 1536, f ⟨512 + k.val, by omega⟩ from Fin.sum_univ_add (a := 512) (b := 1536) f,
    sum_1536]
  congr 2

end Cert.LruOut

end
-- ==== Proof.LruOut.TileScan.lean ====
/- A tile's states, read at a row and a column, are the plain recurrence over the tile's rows. -/
module

public import proofs.«01_k».proof.Proof.LruOut.Tile
public import proofs.«01_k».proof.Proof.LruOut.Layer

@[expose] public section

noncomputable section

namespace Cert.LruOut

open Idealize.ShloMosaic Idealize.ShloMosaic.TcCoe Cert.KernelIdeal Cert.KernelIdeal.Gen

/-- Column `j` of a tile's 512 rows held as 64 groups of 8, as a sequence that goes on with `z`. -/
def column (A : FVec Ideal S64x8x512 .f32) (z : EReal) (j : Fin 512) (n : ℕ) : EReal :=
  if h : n < 512 then A (ix3 ⟨n / 8, by omega⟩ ⟨n % 8, Nat.mod_lt _ (by decide)⟩ j) else z

theorem column_add (A : FVec Ideal S64x8x512 .f32) (z : EReal) (j : Fin 512) (g : Fin 64) (k : ℕ) (hk : k < 8) :
    column A z j (8 * g + k) = A (ix3 g ⟨k, hk⟩ j) := by
  have hg := g.isLt
  rw [column, dif_pos (by omega)]
  congr 2 <;> apply Fin.ext <;> simp <;> omega

section Scan

variable (A B : FVec Ideal S64x8x512 .f32) (h0 : ∀ g s j, 0 ≤ A (ix3 g s j)) (h1 : ∀ g s j, A (ix3 g s j) ≠ ⊤)

include h0 h1

/-- A group's states: the recurrence over the group's rows from the row carried in. -/
theorem group_scan (c : FVec Ideal S1x512 .f32) (g : Fin 64) (s : Fin 8) (j : Fin 512) :
    groupOut (k0_pay15 A B rowNo k0_pay10 1#32) (k0_pay16 A rowNo k0_pay10 1#32) g c (ix2 s j)
      = recur (fun k => column A 1 j (8 * g + k)) (fun k => column B 0 j (8 * g + k)) (c (ix2 0 j)) (s + 1) := by
  show k0_pay15 A B rowNo k0_pay10 1#32 (ix3 g s j) + k0_pay16 A rowNo k0_pay10 1#32 (ix3 g s j) * c (ix2 0 j) = _
  rw [doubled_inputs, doubled_decays, doubling_scan _ _ _ (fun n => ?_) (fun n => ?_) s s.isLt]
  · refine recur_congr rfl _ (fun k hk => ?_) fun k hk => ?_
    · rw [rowsA, dif_pos (by omega), column_add]
    · rw [rowsB, dif_pos (by omega), column_add]
  · unfold rowsA; split
    · exact h0 _ _ _
    · exact zero_le_one
  · unfold rowsA; split
    · exact h1 _ _ _
    · exact EReal.coe_ne_top 1

/-- The row carried into group `n`: the recurrence over the `8 n` rows before it. -/
theorem carried_scan (c : FVec Ideal S1x512 .f32) (n : ℕ) (hn : n ≤ 64) (j : Fin 512) :
    carried (k0_pay15 A B rowNo k0_pay10 1#32) (k0_pay16 A rowNo k0_pay10 1#32) c n (ix2 0 j)
      = recur (column A 1 j) (column B 0 j) (c (ix2 0 j)) (8 * n) := by
  induction n with
  | zero => rfl
  | succ n ih =>
    rw [carried, dif_pos (by omega)]
    show groupOut _ _ ⟨n, _⟩ _ (ix2 7 j) = _
    rw [group_scan A B h0 h1, ih (by omega), show 8 * (n + 1) = 8 * n + 8 by ring, recur_add]
    rfl

/-- Row `r` of a tile's states: the recurrence over the rows up to it. -/
theorem scan_row (c : FVec Ideal S1x512 .f32) (r : Fin 512) (j : Fin 512) :
    scanTile (k0_pay15 A B rowNo k0_pay10 1#32) (k0_pay16 A rowNo k0_pay10 1#32) c (ix2 r j)
      = recur (column A 1 j) (column B 0 j) (c (ix2 0 j)) (r + 1) := by
  have hr := r.isLt
  show groupOut _ _ ⟨r.val / 8, _⟩ (carried _ _ c (r.val / 8)) (ix2 ⟨r.val % 8, _⟩ j) = _
  rw [group_scan A B h0 h1, carried_scan A B h0 h1 c _ (by omega), ← recur_add]
  congr 1
  show 8 * (r.val / 8) + (r.val % 8 + 1) = _
  omega

end Scan

theorem minus_eight : Ideal.ofBits FTy.f32 3238002688#32 = ((-8 : ℝ) : EReal) := by
  simp [Ideal.ofBits, Ideal.ieee]
  rw [← EReal.coe_mul]; norm_num

theorem minus_two : Ideal.ofBits FTy.f32 3221225472#32 = ((-2 : ℝ) : EReal) := by
  simp [Ideal.ofBits, Ideal.ieee]
  rw [← EReal.coe_mul]; norm_num

/-- A gate's argument at row `r`, column `q` of a tile: the row against the column of the weights, plus the bias. -/
def gateArg (x0 : Vec Ideal S1x512x512 .f32) (x2 : Vec Ideal S512x1024 .bf16) (x3 : Vec Ideal S1x1024 .f32) (r : Fin 512) (q : Fin 1024) : EReal :=
  ∑ x, x0 (ix3 0 r x) * x2 (ix2 x q) + x3 (ix2 0 q)

set_option maxHeartbeats 1000000 in
/-- The decays the kernel computes. -/
theorem decay_at (x0 : Vec Ideal S1x512x512 .f32) (x2 : Vec Ideal S512x1024 .bf16) (x3 : Vec Ideal S1x1024 .f32) (x4 : Vec Ideal S1x512 .f32)
    (g : Fin 64) (s : Fin 8) (j : Fin 512) :
    k0_pay8 (k0_pay5 x0) x2 x3 x4 (ix3 g s j)
      = decay (gateArg x0 x2 x3 ⟨g * 8 + s, by omega⟩ ⟨j, by omega⟩) (x4 (ix2 0 j)) := by
  pointwise [k0_pay8, k0_pay7, k0_pay6, k0_pay5, k0_pay4]
  rw [minus_eight, zero_sub, zero_sub]
  rfl

set_option maxHeartbeats 1000000 in
/-- The inputs the kernel computes. -/
theorem input_at (x0 : Vec Ideal S1x512x512 .f32) (x2 : Vec Ideal S512x1024 .bf16) (x3 : Vec Ideal S1x1024 .f32) (x4 : Vec Ideal S1x512 .f32)
    (g : Fin 64) (s : Fin 8) (j : Fin 512) :
    k0_pay9 (k0_pay4 x0) (k0_pay5 x0) x2 x3 x4 (ix3 g s j)
      = input (gateArg x0 x2 x3 ⟨g * 8 + s, by omega⟩ ⟨j, by omega⟩) (x4 (ix2 0 j))
          (gateArg x0 x2 x3 ⟨g * 8 + s, by omega⟩ ⟨512 + j, by omega⟩) (x0 (ix3 0 ⟨g * 8 + s, by omega⟩ j)) := by
  pointwise [k0_pay9, k0_pay7, k0_pay6, k0_pay5, k0_pay4]
  rw [minus_eight, minus_two, zero_sub, zero_sub]
  rw [input, ← weight_eq (log_decay_nonpos _ _)]
  rfl

/-- Column `j` of a tile's decays, as a sequence. -/
def tileDecay (x0 : Vec Ideal S1x512x512 .f32) (x2 : Vec Ideal S512x1024 .bf16) (x3 : Vec Ideal S1x1024 .f32) (x4 : Vec Ideal S1x512 .f32)
    (j : Fin 512) (n : ℕ) : EReal :=
  if h : n < 512 then decay (gateArg x0 x2 x3 ⟨n, h⟩ ⟨j, by omega⟩) (x4 (ix2 0 j)) else 1

/-- Column `j` of a tile's inputs, as a sequence. -/
def tileInput (x0 : Vec Ideal S1x512x512 .f32) (x2 : Vec Ideal S512x1024 .bf16) (x3 : Vec Ideal S1x1024 .f32) (x4 : Vec Ideal S1x512 .f32)
    (j : Fin 512) (n : ℕ) : EReal :=
  if h : n < 512 then input (gateArg x0 x2 x3 ⟨n, h⟩ ⟨j, by omega⟩) (x4 (ix2 0 j)) (gateArg x0 x2 x3 ⟨n, h⟩ ⟨512 + j, by omega⟩) (x0 (ix3 0 ⟨n, h⟩ j))
  else 0

section Tile

variable (x0 : Vec Ideal S1x512x512 .f32) (x2 : Vec Ideal S512x1024 .bf16) (x3 : Vec Ideal S1x1024 .f32) (x4 : Vec Ideal S1x512 .f32)

theorem column_decay (j : Fin 512) (n : ℕ) : column (k0_pay8 (k0_pay5 x0) x2 x3 x4) 1 j n = tileDecay x0 x2 x3 x4 j n := by
  unfold column tileDecay
  split
  · rw [decay_at]
    simp only [Nat.div_add_mod']
  · rfl

theorem column_input (j : Fin 512) (n : ℕ) :
    column (k0_pay9 (k0_pay4 x0) (k0_pay5 x0) x2 x3 x4) 0 j n = tileInput x0 x2 x3 x4 j n := by
  unfold column tileInput
  split
  · rw [input_at]
    simp only [Nat.div_add_mod']
  · rfl

/-- Row `r` of a tile's states from the row `c` carried in: the recurrence over the tile's rows up to it. -/
theorem tile_scan (c : FVec Ideal S1x512 .f32) (r : Fin 512) (j : Fin 512) :
    scanTile (tileB x0 x2 x3 x4) (tileA x0 x2 x3 x4) c (ix2 r j)
      = recur (tileDecay x0 x2 x3 x4 j) (tileInput x0 x2 x3 x4 j) (c (ix2 0 j)) (r + 1) := by
  rw [← funext (column_decay x0 x2 x3 x4 j), ← funext (column_input x0 x2 x3 x4 j)]
  exact scan_row _ _ (fun g s j => by rw [decay_at]; exact decay_nonneg _ _) (fun g s j => by rw [decay_at]; exact decay_ne_top _ _) c r j

/-- The row a tile hands on: the recurrence over all its rows. -/
theorem tile_carry (c : FVec Ideal S1x512 .f32) (j : Fin 512) :
    carried (tileB x0 x2 x3 x4) (tileA x0 x2 x3 x4) c 64 (ix2 0 j)
      = recur (tileDecay x0 x2 x3 x4 j) (tileInput x0 x2 x3 x4 j) (c (ix2 0 j)) 512 := by
  rw [← funext (column_decay x0 x2 x3 x4 j), ← funext (column_input x0 x2 x3 x4 j)]
  exact carried_scan _ _ (fun g s j => by rw [decay_at]; exact decay_nonneg _ _) (fun g s j => by rw [decay_at]; exact decay_ne_top _ _) c 64 le_rfl j

end Tile

end Cert.LruOut

end
-- ==== Proof.LruOut.Blocks.lean ====
/- The blocks a grid point reads, at an index, as elements of the argument arrays; the prepared weights and biases. -/
module

public import proofs.«01_k».proof.Proof.LruOut.TileScan
public import proofs.«01_k».proof.Proof.Gen.KernelIdeal.Value
public import Idealize.ShloMosaic.Lib.Pipeline.ValueKit.Point
public import Idealize.ShloMosaic.Lib.StableHlo.ReadAt

@[expose] public section

noncomputable section

namespace Cert.LruOut

open Idealize.ShloMosaic Idealize.ShloMosaic.TcCoe Idealize.SL.Sem Cert.KernelIdeal Cert.KernelIdeal.Gen

variable (m : (ℓ : Loc nD τ sig) → Buf (Elt Ideal) ℓ) (c : Dev nD)

/-- The arrays the kernel's arguments hold. -/
def kernelArrays : Arrays where
  xc b n j := (m ((c : Thread nD τ).loc main_arg0) : S4x4096x512.Idx → EReal) (ix3 b n j)
  gate b n j := (m ((c : Thread nD τ).loc main_arg1) : S4x4096x512.Idx → EReal) (ix3 b n j)
  wa k i j := (m ((c : Thread nD τ).loc main_arg2) : S8x64x64.Idx → EReal) (ix3 k i j)
  ba j := (m ((c : Thread nD τ).loc main_arg3) : S512.Idx → EReal) (ix1 j)
  wx k i j := (m ((c : Thread nD τ).loc main_arg4) : S8x64x64.Idx → EReal) (ix3 k i j)
  bx j := (m ((c : Thread nD τ).loc main_arg5) : S512.Idx → EReal) (ix1 j)
  lam j := (m ((c : Thread nD τ).loc main_arg6) : S512.Idx → EReal) (ix1 j)
  x b n d := (m ((c : Thread nD τ).loc main_arg7) : S4x4096x1024.Idx → EReal) (ix3 b n d)
  o4 h b n d := (m ((c : Thread nD τ).loc main_arg8) : S4x4x4096x128.Idx → EReal) (ix4 h b n d)
  ga b n j := (m ((c : Thread nD τ).loc main_arg9) : S4x4096x512.Idx → EReal) (ix3 b n j)
  ys b n d := (m ((c : Thread nD τ).loc main_arg10) : S4x4096x1024.Idx → EReal) (ix3 b n d)
  wo k d := (m ((c : Thread nD τ).loc main_arg11) : S2048x1024.Idx → EReal) (ix2 k d)
  pg d := (m ((c : Thread nD τ).loc main_arg12) : S1024.Idx → EReal) (ix1 d)

/-- The batch and the tile a grid point reads and writes. -/
theorem rows_index (t : Fin cfg0.N) :
    win0_0.index t = ![t.val / 8, t.val % 8, 0] ∧ win0_1.index t = ![t.val / 8, t.val % 8, 0] ∧ win0_5.index t = ![t.val / 8, t.val % 8, 0]
      ∧ win0_6.index t = ![0, t.val / 8, t.val % 8, 0] ∧ win0_7.index t = ![t.val / 8, t.val % 8, 0] ∧ win0_8.index t = ![t.val / 8, t.val % 8, 0] := by
  revert t; decide

theorem whole_index (t : Fin cfg0.N) :
    win0_2.index t = ![0, 0] ∧ win0_3.index t = ![0, 0] ∧ win0_4.index t = ![0, 0] ∧ win0_9.index t = ![0, 0] ∧ win0_10.index t = ![0, 0] := by
  revert t; decide

section Rows

variable (t : Fin cfg0.N) (b : Fin 4) (n : Fin 4096) (r : Fin 512) (hb : b.val = t.val / 8) (hn : n.val = 512 * (t.val % 8) + r.val)

include hb hn

theorem blk0 (j : Fin 512) : iblk m c 0 t (ix3 0 r j) = (kernelArrays m c).xc b n j := by
  unfold kernelArrays; dsimp only; blk_ext [iblk, V, (rows_index t).1]

theorem blk1 (j : Fin 512) : iblk m c 1 t (ix3 0 r j) = (kernelArrays m c).gate b n j := by
  unfold kernelArrays; dsimp only; blk_ext [iblk, V, (rows_index t).2.1]

theorem blk5 (d : Fin 1024) : iblk m c 5 t (ix3 0 r d) = (kernelArrays m c).x b n d := by
  unfold kernelArrays; dsimp only; blk_ext [iblk, V, (rows_index t).2.2.1]

theorem blk6 (h : Fin 4) (d : Fin 128) : iblk m c 6 t (ix4 h 0 r d) = (kernelArrays m c).o4 h b n d := by
  unfold kernelArrays; dsimp only; blk_ext [iblk, V, (rows_index t).2.2.2.1]

theorem blk7 (j : Fin 512) : iblk m c 7 t (ix3 0 r j) = (kernelArrays m c).ga b n j := by
  unfold kernelArrays; dsimp only; blk_ext [iblk, V, (rows_index t).2.2.2.2.1]

theorem blk8 (d : Fin 1024) : iblk m c 8 t (ix3 0 r d) = (kernelArrays m c).ys b n d := by
  unfold kernelArrays; dsimp only; blk_ext [iblk, V, (rows_index t).2.2.2.2.2]

end Rows

theorem blk4 (t : Fin cfg0.N) (j : Fin 512) : iblk m c 4 t (ix2 0 j) = (kernelArrays m c).lam j := by
  have e : iblk m c 4 t (ix2 0 j) = (V m c main_v30 : S1x512.Idx → EReal) (ix2 0 j) := by blk_ext [iblk, (whole_index t).2.2.1]
  rw [e]
  entry_read
  pointwise [kernelArrays]

theorem blk10 (t : Fin cfg0.N) (d : Fin 1024) : iblk m c 10 t (ix2 0 d) = (kernelArrays m c).pg d := by
  have e : iblk m c 10 t (ix2 0 d) = (V m c main_v1 : S1x1024.Idx → EReal) (ix2 0 d) := by blk_ext [iblk, (whole_index t).2.2.2.2]
  rw [e]
  entry_read
  pointwise [kernelArrays]

theorem blk9 (t : Fin cfg0.N) (k : Fin 2048) (d : Fin 1024) : iblk m c 9 t (ix2 k d) = (kernelArrays m c).wo k d := by
  have e : iblk m c 9 t (ix2 k d) = (V m c main_v0 : S2048x1024.Idx → EReal) (ix2 k d) := by blk_ext [iblk, (whole_index t).2.2.2.1]
  rw [e]
  entry_read
  pointwise [kernelArrays]

/-- The biases laid side by side. -/
theorem blk3 (t : Fin cfg0.N) (q : Fin 1024) :
    iblk m c 3 t (ix2 0 q) = if h : q.val < 512 then (kernelArrays m c).ba ⟨q, h⟩ else (kernelArrays m c).bx ⟨q.val - 512, by omega⟩ := by
  have e : iblk m c 3 t (ix2 0 q) = (V m c main_v29 : S1x1024.Idx → EReal) (ix2 0 q) := by blk_ext [iblk, (whole_index t).2.1]
  rw [e]
  entry_read
  pointwise [kernelArrays]

/-- One where two block numbers agree, else zero: an entry of the identity the weights are spread by. -/
def same (p q : ℕ) : EReal :=
  FloatOps.uitofp (F := Ideal) FTy.f32 (IntOp.cmpi CmpIPredicate.eq (IntOp.addi (BitVec.ofNat 32 p) 0#32) (BitVec.ofNat 32 q))

theorem same_eq (p q : ℕ) (hp : p < 8) (hq : q < 8) : same p q = if p = q then 1 else 0 := by
  unfold same
  interval_cases p <;> interval_cases q <;> simp [IntOp.cmpi, IntOp.addi, FloatOps.uitofp]

/-- The two block diagonal weights laid side by side. -/
theorem blk2 (t : Fin cfg0.N) (x : Fin 512) (q : Fin 1024) :
    iblk m c 2 t (ix2 x q) = if h : q.val < 512 then
        (kernelArrays m c).wa ⟨x.val / 64, by omega⟩ ⟨x.val % 64, by omega⟩ ⟨q.val % 64, by omega⟩ * same (x.val / 64) (q.val / 64)
      else (kernelArrays m c).wx ⟨x.val / 64, by omega⟩ ⟨x.val % 64, by omega⟩ ⟨(q.val - 512) % 64, by omega⟩
        * same (x.val / 64) ((q.val - 512) / 64) := by
  have e : iblk m c 2 t (ix2 x q) = (V m c main_v27 : S512x1024.Idx → EReal) (ix2 x q) := by blk_ext [iblk, (whole_index t).1]
  rw [e]
  entry_read
  pointwise [kernelArrays, same]

section Gates

variable (t : Fin cfg0.N) (b : Fin 4) (n : Fin 4096) (r : Fin 512) (hb : b.val = t.val / 8) (hn : n.val = 512 * (t.val % 8) + r.val)

include hb hn

/-- The first gate's argument, as the kernel computes it against the block diagonal weights. -/
theorem gate_a (j : Fin 512) :
    gateArg (iblk m c 0 t) (iblk m c 2 t) (iblk m c 3 t) r ⟨j, by omega⟩
      = gatePre ((kernelArrays m c).xc b n) (kernelArrays m c).wa (kernelArrays m c).ba j := by
  unfold gateArg gatePre
  have hj := j.isLt
  rw [blk3, dif_pos (by exact hj)]
  congr 1
  rw [← block_diagonal ((kernelArrays m c).xc b n) (kernelArrays m c).wa (fun k => same (k.val / 64) (j.val / 64)) j
    (fun k => same_eq _ _ (by omega) (by omega))]
  refine Finset.sum_congr rfl fun k _ => ?_
  rw [blk0 m c t b n r hb hn k, blk2, dif_pos (by exact hj)]

/-- The second gate's argument. -/
theorem gate_x (j : Fin 512) :
    gateArg (iblk m c 0 t) (iblk m c 2 t) (iblk m c 3 t) r ⟨512 + j, by omega⟩
      = gatePre ((kernelArrays m c).xc b n) (kernelArrays m c).wx (kernelArrays m c).bx j := by
  unfold gateArg gatePre
  have hj : ¬ 512 + j.val < 512 := by omega
  have e : 512 + j.val - 512 = j.val := by omega
  rw [blk3, dif_neg (by exact hj)]
  simp only [e]
  congr 1
  rw [← block_diagonal ((kernelArrays m c).xc b n) (kernelArrays m c).wx (fun k => same (k.val / 64) (j.val / 64)) j
    (fun k => same_eq _ _ (by omega) (by omega))]
  refine Finset.sum_congr rfl fun k _ => ?_
  rw [blk0 m c t b n r hb hn k, blk2, dif_neg (by exact hj)]
  simp only [e]

end Gates

/-- A tile's decays are the batch's, from the tile's first row on. -/
theorem tile_decay (t : Fin cfg0.N) (b : Fin 4) (hb : b.val = t.val / 8) (j : Fin 512) (n : ℕ) (hn : n < 512) :
    tileDecay (iblk m c 0 t) (iblk m c 2 t) (iblk m c 3 t) (iblk m c 4 t) j n = (kernelArrays m c).dec b j (512 * (t.val % 8) + n) := by
  have h8 := Nat.mod_lt t.val (show 0 < 8 by decide)
  unfold tileDecay Arrays.dec
  rw [dif_pos hn, dif_pos (by omega), gate_a m c t b ⟨512 * (t.val % 8) + n, by omega⟩ ⟨n, hn⟩ hb rfl, blk4]

/-- A tile's inputs are the batch's, from the tile's first row on. -/
theorem tile_input (t : Fin cfg0.N) (b : Fin 4) (hb : b.val = t.val / 8) (j : Fin 512) (n : ℕ) (hn : n < 512) :
    tileInput (iblk m c 0 t) (iblk m c 2 t) (iblk m c 3 t) (iblk m c 4 t) j n = (kernelArrays m c).inp b j (512 * (t.val % 8) + n) := by
  have h8 := Nat.mod_lt t.val (show 0 < 8 by decide)
  unfold tileInput Arrays.inp
  rw [dif_pos hn, dif_pos (by omega), gate_a m c t b ⟨512 * (t.val % 8) + n, by omega⟩ ⟨n, hn⟩ hb rfl,
    gate_x m c t b ⟨512 * (t.val % 8) + n, by omega⟩ ⟨n, hn⟩ hb rfl, blk4,
    blk0 m c t b ⟨512 * (t.val % 8) + n, by omega⟩ ⟨n, hn⟩ hb rfl]

end Cert.LruOut

end
-- ==== Proof.LruOut.KernelArray.lean ====
/- What the kernel's two result arrays hold: the output rows and the final states of the plain formulas. -/
module

public import proofs.«01_k».proof.Proof.LruOut.Blocks

@[expose] public section

noncomputable section

namespace Cert.LruOut

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

section Tile

variable (t : Fin cfg0.N) (b : Fin 4) (hb : b.val = t.val / 8) (h : FVec Ideal S1x512 .f32)
  (hh : ∀ j, h (ix2 0 j) = (kernelArrays m c).state b j (512 * (t.val % 8)))

include hb hh

/-- The states a tile computes are the batch's states at its rows. -/
theorem states_at (n : Fin 4096) (r : Fin 512) (hn : n.val = 512 * (t.val % 8) + r.val) (j : Fin 512) :
    scanTile (tileB (iblk m c 0 t) (iblk m c 2 t) (iblk m c 3 t) (iblk m c 4 t)) (tileA (iblk m c 0 t) (iblk m c 2 t) (iblk m c 3 t) (iblk m c 4 t)) h
      (ix2 r j) = (kernelArrays m c).state b j (n.val + 1) := by
  rw [tile_scan, hh, hn, add_assoc, Arrays.state, Arrays.state, recur_add _ _ _ (512 * (t.val % 8)) (r.val + 1)]
  exact recur_congr rfl _ (fun k hk => tile_decay m c t b hb j k (by omega)) fun k hk => tile_input m c t b hb j k (by omega)

/-- The row a tile hands on is the batch's state after its rows. -/
theorem handed_on (j : Fin 512) :
    carried (tileB (iblk m c 0 t) (iblk m c 2 t) (iblk m c 3 t) (iblk m c 4 t)) (tileA (iblk m c 0 t) (iblk m c 2 t) (iblk m c 3 t) (iblk m c 4 t)) h 64
      (ix2 0 j) = (kernelArrays m c).state b j (512 * (t.val % 8) + 512) := by
  rw [tile_carry, hh, Arrays.state, Arrays.state, recur_add _ _ _ (512 * (t.val % 8)) 512]
  refine recur_congr rfl 512 (fun k hk => ?_) fun k hk => ?_
  · exact tile_decay m c t b hb j k hk
  · exact tile_input m c t b hb j k hk

set_option maxHeartbeats 2000000 in
/-- The mixed rows a tile computes. -/
theorem mix_at (n : Fin 4096) (r : Fin 512) (hn : n.val = 512 * (t.val % 8) + r.val) (d : Fin 1024) :
    mixTile (scanTile (tileB (iblk m c 0 t) (iblk m c 2 t) (iblk m c 3 t) (iblk m c 4 t))
        (tileA (iblk m c 0 t) (iblk m c 2 t) (iblk m c 3 t) (iblk m c 4 t)) h) (iblk m c 1 t) (iblk m c 6 t) (iblk m c 7 t) (iblk m c 8 t) (iblk m c 9 t)
      (ix2 r d) = (kernelArrays m c).mix b n d := by
  have hs := states_at m c t b hb h hh n r hn
  generalize scanTile (tileB (iblk m c 0 t) (iblk m c 2 t) (iblk m c 3 t) (iblk m c 4 t))
        (tileA (iblk m c 0 t) (iblk m c 2 t) (iblk m c 3 t) (iblk m c 4 t)) h = S at hs ⊢
  pointwise [mixTile, k0_pay3]
  simp only [hs, blk1 m c t b n r hb hn, blk6 m c t b n r hb hn, blk7 m c t b n r hb hn, blk8 m c t b n r hb hn, blk9]
  rw [sum_1536, add_comm]
  unfold Arrays.mix
  refine congr_arg₂ _ rfl (congr_arg₂ _ ?_ ?_)
  · refine Finset.sum_congr rfl fun j _ => ?_
    have hj := j.isLt
    rw [dif_pos hj]
    congr 2
    by_cases h1 : j.val < 128
    · simp only [h1, dite_true]
      congr 1 <;> apply Fin.ext <;> simp <;> omega
    by_cases h2 : j.val - 128 < 128
    · simp only [h1, h2, dite_true, dite_false]
      congr 1 <;> apply Fin.ext <;> simp <;> omega
    by_cases h3 : j.val - 128 - 128 < 128
    · simp only [h1, h2, h3, dite_true, dite_false]
      congr 1 <;> apply Fin.ext <;> simp <;> omega
    · simp only [h1, h2, h3, dite_false]
      congr 1 <;> apply Fin.ext <;> simp <;> omega
  · refine Finset.sum_congr rfl fun k _ => ?_
    rw [dif_neg (by simp)]
    congr 2
    · apply Fin.ext
      simp
    · apply Fin.ext
      show 512 + (512 + k.val) = 1024 + k.val
      omega

set_option maxHeartbeats 1000000 in
/-- The output rows a tile computes. -/
theorem out_at (n : Fin 4096) (r : Fin 512) (hn : n.val = 512 * (t.val % 8) + r.val) (d : Fin 1024) :
    normTile (mixTile (scanTile (tileB (iblk m c 0 t) (iblk m c 2 t) (iblk m c 3 t) (iblk m c 4 t))
        (tileA (iblk m c 0 t) (iblk m c 2 t) (iblk m c 3 t) (iblk m c 4 t)) h) (iblk m c 1 t) (iblk m c 6 t) (iblk m c 7 t) (iblk m c 8 t) (iblk m c 9 t))
      (iblk m c 5 t) (iblk m c 10 t) (ix3 0 r d) = (kernelArrays m c).out b n d := by
  have hs := mix_at m c t b hb h hh n r hn
  generalize mixTile (scanTile (tileB (iblk m c 0 t) (iblk m c 2 t) (iblk m c 3 t) (iblk m c 4 t))
        (tileA (iblk m c 0 t) (iblk m c 2 t) (iblk m c 3 t) (iblk m c 4 t)) h) (iblk m c 1 t) (iblk m c 6 t) (iblk m c 7 t) (iblk m c 8 t) (iblk m c 9 t) = S at hs ⊢
  pointwise [normTile, k0_pay1, k0_pay102, k0_pay104]
  simp only [hs, blk5 m c t b n r hb hn, blk10]
  rfl

end Tile

/-- What point `t` leaves: the output rows, the final states and the scratch row. -/
def Left (t : Fin cfg0.N) (o : Vec Ideal S1x512x1024 .f32 × Vec Ideal S1x1x512 .f32 × Vec Ideal S8x512 .f32) : Prop :=
  ∀ b : Fin 4, b.val = t.val / 8 →
    (∀ (n : Fin 4096) (r : Fin 512), n.val = 512 * (t.val % 8) + r.val → ∀ d, o.1 (ix3 0 r d) = (kernelArrays m c).out b n d)
      ∧ (∀ j, o.2.1 (ix3 0 0 j) = (kernelArrays m c).state b j (512 * (t.val % 8) + 512))
      ∧ (∀ j, o.2.2 (ix2 0 j) = (kernelArrays m c).state b j (512 * (t.val % 8) + 512))

/-- A tile that starts from the batch's state leaves the batch's rows. -/
theorem left_of_start (t : Fin cfg0.N)
    (o1 : Vec Ideal S1x512x1024 .f32) (o2 : Vec Ideal S1x1x512 .f32) (o3 : Vec Ideal S8x512 .f32) (z : FVec Ideal S1x512 .f32)
    (hz : ∀ b : Fin 4, b.val = t.val / 8 → ∀ j, z (ix2 0 j) = (kernelArrays m c).state b j (512 * (t.val % 8)))
    (h1 : o1 = normTile (mixTile (scanTile (tileB (iblk m c 0 t) (iblk m c 2 t) (iblk m c 3 t) (iblk m c 4 t))
        (tileA (iblk m c 0 t) (iblk m c 2 t) (iblk m c 3 t) (iblk m c 4 t)) z) (iblk m c 1 t) (iblk m c 6 t) (iblk m c 7 t) (iblk m c 8 t) (iblk m c 9 t))
      (iblk m c 5 t) (iblk m c 10 t))
    (h2 : o2 = shapeCast S1x1x512 (carried (tileB (iblk m c 0 t) (iblk m c 2 t) (iblk m c 3 t) (iblk m c 4 t))
        (tileA (iblk m c 0 t) (iblk m c 2 t) (iblk m c 3 t) (iblk m c 4 t)) z 64) shapeCasts_S1x512_S1x1x512)
    (h3 : o3 = shapeCast S8x512 (broadcastTo S8x512 (shapeCast S1x512 (carried (tileB (iblk m c 0 t) (iblk m c 2 t) (iblk m c 3 t) (iblk m c 4 t))
        (tileA (iblk m c 0 t) (iblk m c 2 t) (iblk m c 3 t) (iblk m c 4 t)) z 64) shapeCasts_S1x512_S1x512) broadcasts_S1x512_S8x512) shapeCasts_S8x512_S8x512) :
    Left m c t (o1, o2, o3) := by
  intro b hb
  have hc := handed_on m c t b hb z (hz b hb)
  refine ⟨fun n r hn d => ?_, fun j => ?_, fun j => ?_⟩
  · subst h1; exact out_at m c t b hb z (hz b hb) n r hn d
  · subst h2; rw [← hc]
    generalize carried _ _ _ _ = C
    pointwise
  · subst h3; rw [← hc]
    generalize carried _ _ _ _ = C
    pointwise

/-- The first tile of a batch starts from the batch's first state, zero. -/
theorem start_zero (t : Fin cfg0.N) (h0 : t.val % 8 = 0) (b : Fin 4) (j : Fin 512) :
    zeroRow (ix2 0 j) = (kernelArrays m c).state b j (512 * (t.val % 8)) := by
  rw [h0]
  rfl

/-- The first tile of a batch leaves the rows it owes. -/
theorem left_first (t : Fin cfg0.N) (h0 : t.val % 8 = 0) : Left m c t (outsAt0 m c t.val t.isLt) := by
  rw [outsAt0_A m c t h0]
  exact left_of_start m c t _ _ _ zeroRow (fun b _ j => start_zero m c t h0 b j) (rows_A ..) (last_A ..) (scratch_A ..)

/-- A later tile of a batch leaves the rows it owes when the tile before it did. -/
theorem left_later (t : Fin cfg0.N) (h0 : ¬t.val % 8 = 0)
    (ih : ∀ b : Fin 4, b.val = t.val / 8 → ∀ j, (outsAt0 m c (t.val - 1) (Nat.lt_of_le_of_lt (Nat.sub_le _ _) t.isLt)).2.2 (ix2 0 j)
      = (kernelArrays m c).state b j (512 * (t.val % 8))) : Left m c t (outsAt0 m c t.val t.isLt) := by
  rw [outsAt0_B m c t h0]
  generalize (outsAt0 m c (t.val - 1) (Nat.lt_of_le_of_lt (Nat.sub_le _ _) t.isLt)).2.2 = xs0 at ih ⊢
  refine left_of_start m c t _ _ _ (View.ld xs0 (Rect.unit ![0, 0] ![1, 512] inb_S8x512_S1x512_0_0)) (fun b hb j => ?_) (rows_B ..) (last_B ..) (scratch_B ..)
  rw [← ih b hb j]
  pointwise

/-- Every point leaves the rows it owes. -/
theorem left_at (t : ℕ) (ht : t < cfg0.N) : Left m c ⟨t, ht⟩ (outsAt0 m c t ht) := by
  induction t with
  | zero => exact left_first m c ⟨0, ht⟩ (Nat.zero_mod 8)
  | succ t ih =>
    by_cases h0 : (t + 1) % 8 = 0
    · exact left_first m c ⟨t + 1, ht⟩ h0
    · refine left_later m c ⟨t + 1, ht⟩ h0 fun b hb j => ?_
      have hb' : b.val = (t + 1) / 8 := hb
      have e := (ih (Nat.lt_of_succ_lt ht) b (by show b.val = t / 8; omega)).2.2 j
      have e8 : 512 * ((t + 1) % 8) = 512 * (t % 8) + 512 := by omega
      show _ = (kernelArrays m c).state b j (512 * ((t + 1) % 8))
      rw [e8]
      exact e

/-- The kernel's first result holds the output rows. -/
theorem kernel_rows (b : Fin 4) (n : Fin 4096) (d : Fin 1024) : G11 m c (ix3 b n d) = (kernelArrays m c).out b n d := by
  have hp : pt11Of (ix3 b n d) = 8 * b.val + n.val / 512 := by
    show 8 * (b.val / 1 - 0) + 1 * (n.val / 512 - 0) + 1 * (d.val / 1024 - 0) = _
    omega
  have hlt : 8 * b.val + n.val / 512 < cfg0.N := by rw [show cfg0.N = 32 from N_0]; omega
  have hl : loc11Of (ix3 b n d) = ix3 0 ⟨n.val % 512, Nat.mod_lt _ (by norm_num)⟩ d := by
    funext a
    fin_cases a <;> apply Fin.ext
    · exact Nat.mod_one _
    · rfl
    · exact Nat.mod_eq_of_lt d.isLt
  have e := (left_at m c _ hlt b (by show b.val = (8 * b.val + n.val / 512) / 8; omega)).1 n ⟨n.val % 512, Nat.mod_lt _ (by norm_num)⟩
    (by show n.val = 512 * ((8 * b.val + n.val / 512) % 8) + n.val % 512; omega) d
  rw [outsAt0_sweep] at e
  unfold G11
  simp only [hp, hl, hlt, dite_true]
  exact e

/-- The kernel's second result holds the final states. -/
theorem kernel_last (b : Fin 4) (j : Fin 512) : G12 m c (ix3 b 0 j) = (kernelArrays m c).state b j 4096 := by
  have hp : pt12Of (ix3 b 0 j) = 8 * b.val + 7 := by
    show 8 * (1 * (b.val / 1 - 0) + 1 * (0 / 1 - 0) + 1 * (j.val / 512 - 0)) + 7 = _
    omega
  have hlt : 8 * b.val + 7 < cfg0.N := by rw [show cfg0.N = 32 from N_0]; omega
  have hl : loc12Of (ix3 b 0 j) = ix3 0 0 j := by
    funext a
    fin_cases a <;> apply Fin.ext
    · exact Nat.mod_one _
    · rfl
    · exact Nat.mod_eq_of_lt j.isLt
  have e := (left_at m c _ hlt b (by show b.val = (8 * b.val + 7) / 8; omega)).2.1 j
  rw [outsAt0_sweep] at e
  have h7 : 512 * ((8 * b.val + 7) % 8) + 512 = 4096 := by omega
  unfold G12
  simp only [hp, hl, hlt, dite_true]
  rw [e]
  exact congrArg _ h7

end Cert.LruOut

end
-- ==== Proof.LruOut.RefLoop.lean ====
/- The reference's loop: the state after `k` rows and the rows of states written so far. -/
module

public import proofs.«01_k».proof.Proof.Gen.ReferenceIdeal.Run
public import proofs.«01_k».proof.Proof.LruOut.Scalar
public import Idealize.ShloMosaic.Lib.Pipeline.ValueKit.Point
public import Idealize.ShloMosaic.Lib.StableHlo.ReadAt
public import Idealize.ShloMosaic.Lib.DynamicIndex
public import Idealize.ShloMosaic.Lib.WordCmp

@[expose] public section

noncomputable section

namespace Cert.LruOut.Ref

open Idealize.ShloMosaic Idealize.ShloMosaic.TcCoe Idealize.SL.Sem Cert.ReferenceIdeal Cert.ReferenceIdeal.Gen Cert.ReferenceIdeal.Value Idealize.ShloMosaic.StableHlo

/-- The loop's array of decays, by row, batch and column. -/
def decays (V : Valuation τ sig (Elt Ideal)) : S4096x4x512.Idx → EReal := V (Proc.devRef .tc main_v44_0)

/-- The loop's array of inputs. -/
def inputs (V : Valuation τ sig (Elt Ideal)) : S4096x4x512.Idx → EReal := V (Proc.devRef .tc main_v44_1)

/-- The loop's state. -/
def current (V : Valuation τ sig (Elt Ideal)) : S4x512.Idx → EReal := V (Proc.devRef .tc main_v44_3)

/-- The loop's array of states. -/
def written (V : Valuation τ sig (Elt Ideal)) : S4096x4x512.Idx → EReal := V (Proc.devRef .tc main_v44_4)

/-- The start of a slice at row `k`. -/
theorem start_row (k : ℕ) (hk : k < 4096) (w : (⟨S_, .i32⟩ : BufTy).Contents (Elt Ideal)) (hw : w = fun _ => BitVec.ofNat 32 k) (a : Fin 3) :
    (((![w, constantI S_ 32 0#32, constantI S_ 32 0#32] : Fin 3 → (⟨S_, .i32⟩ : BufTy).Contents (Elt Ideal))) a (Shape.Idx.first h_S_)).toInt
      = ((![k, 0, 0] : Fin 3 → ℕ) a : Int) := by
  subst hw
  fin_cases a
  · exact toInt_ofNat_of_lt (by omega)
  · rfl
  · rfl

/-- A slice of one row, at an index. -/
theorem slice_row (k : ℕ) (hk : k < 4096) (w : (⟨S_, .i32⟩ : BufTy).Contents (Elt Ideal)) (hw : w = fun _ => BitVec.ofNat 32 k)
    (x : S4096x4x512.Idx → EReal) (b : Fin 4) (j : Fin 512) :
    shapeCast S4x512 (Host.dynamicSlice S1x4x512 x (fun a => (((![w, constantI S_ 32 0#32, constantI S_ 32 0#32] : Fin 3 → (⟨S_, .i32⟩ : BufTy).Contents (Elt Ideal)))
      a (Shape.Idx.first h_S_)).toInt) sliceFits_S4096x4x512_S1x4x512) shapeCasts_S1x4x512_S4x512 (ix2 b j) = x (ix3 ⟨k, hk⟩ b j) := by
  have hs : S4096x4x512.Slices (![k, 0, 0] : Fin 3 → ℕ) S1x4x512 := by
    refine ⟨rfl, fun a => ?_⟩
    fin_cases a
    · show k + 1 ≤ 4096; omega
    · show 0 + 4 ≤ 4; omega
    · show 0 + 512 ≤ 512; omega
  rw [WordCmp.dynamicSlice_eq_extract S1x4x512 x _ sliceFits_S4096x4x512_S1x4x512 (![k, 0, 0] : Fin 3 → ℕ) hs (start_row k hk w hw)]
  pointwise

/-- Writing one row, at an index. -/
theorem write_row (k : ℕ) (hk : k < 4096) (w : (⟨S_, .i32⟩ : BufTy).Contents (Elt Ideal)) (hw : w = fun _ => BitVec.ofNat 32 k)
    (x : S4096x4x512.Idx → EReal) (y : S4x512.Idx → EReal) (n : Fin 4096) (b : Fin 4) (j : Fin 512) :
    Host.dynamicUpdateSlice x (broadcastInDim S1x4x512 ![1, 2] bcast_S4x512_S1x4x512_1_2 y)
      (fun a => (((![w, constantI S_ 32 0#32, constantI S_ 32 0#32] : Fin 3 → (⟨S_, .i32⟩ : BufTy).Contents (Elt Ideal)))
      a (Shape.Idx.first h_S_)).toInt) updateFits_S4096x4x512_S1x4x512 (ix3 n b j) = if n.val = k then y (ix2 b j) else x (ix3 n b j) := by
  have hs : S4096x4x512.Slices (![k, 0, 0] : Fin 3 → ℕ) S1x4x512 := by
    refine ⟨rfl, fun a => ?_⟩
    fin_cases a
    · show k + 1 ≤ 4096; omega
    · show 0 + 4 ≤ 4; omega
    · show 0 + 512 ≤ 512; omega
  rw [WordCmp.dynamicUpdateSlice_eq_update x _ _ updateFits_S4096x4x512_S1x4x512 (![k, 0, 0] : Fin 3 → ℕ) hs (start_row k hk w hw)]
  pointwise
  rw [dite_eq_ite]
  exact if_congr (by omega) rfl rfl

section Step

variable (V : Valuation τ sig (Elt Ideal)) (k : ℕ) (hk : k < 4096)
  (hc : V (Proc.devRef .tc main_v44_2) = fun _ => BitVec.ofNat 32 k)

include hk hc

/-- One trip's state. -/
theorem step_state (b : Fin 4) (j : Fin 512) :
    current (STEP V) (ix2 b j) = decays V (ix3 ⟨k, hk⟩ b j) * current V (ix2 b j) + inputs V (ix3 ⟨k, hk⟩ b j) := by
  unfold current
  rw [STEP_main_v44_3]
  rw [← slice_row k hk _ hc (decays V), ← slice_row k hk _ hc (inputs V)]
  rfl

/-- One trip's array of states. -/
theorem step_written (n : Fin 4096) (b : Fin 4) (j : Fin 512) :
    written (STEP V) (ix3 n b j) = if n.val = k then current (STEP V) (ix2 b j) else written V (ix3 n b j) := by
  unfold current
  rw [STEP_main_v44_3, ← write_row k hk _ hc (written V)]
  unfold written
  rw [STEP_main_v44_4]
  rfl

end Step

variable (m : (ℓ : Loc nD τ sig) → Buf (Elt Ideal) ℓ) (c : Dev nD)

/-- The buffers before trip `k`. -/
abbrev before (k : ℕ) : Valuation τ sig (Elt Ideal) := STEP^[k] (entryContents preI m c)

/-- The counter before trip `k` is `k`. -/
theorem counter (k : ℕ) : before m c k (Proc.devRef .tc main_v44_2) = fun _ => BitVec.ofNat 32 k := by
  induction k with
  | zero => exact ctr_entry m c
  | succ k ih =>
    rw [before, Function.iterate_succ_apply', STEP_main_v44_2]
    unfold step_main_v44_2
    rw [show (STEP^[k] (entryContents preI m c)) (Proc.devRef .tc main_v44_2) = fun _ => BitVec.ofNat 32 k from ih]
    funext i
    show BitVec.ofNat 32 k + 1#32 = BitVec.ofNat 32 (k + 1)
    rw [BitVec.ofNat_add]

theorem decays_before (k : ℕ) : decays (before m c k) = decays (entryContents preI m c) := by
  induction k with
  | zero => rfl
  | succ k ih => rw [before, Function.iterate_succ_apply', decays, STEP_main_v44_0]; exact ih

theorem inputs_before (k : ℕ) : inputs (before m c k) = inputs (entryContents preI m c) := by
  induction k with
  | zero => rfl
  | succ k ih => rw [before, Function.iterate_succ_apply', inputs, STEP_main_v44_1]; exact ih

/-- The state before trip `k` is the recurrence after `k` rows. -/
theorem current_before (b : Fin 4) (j : Fin 512) (u v : ℕ → EReal)
    (hu : ∀ n : Fin 4096, decays (entryContents preI m c) (ix3 n b j) = u n.val) (hv : ∀ n : Fin 4096, inputs (entryContents preI m c) (ix3 n b j) = v n.val)
    (h0 : current (entryContents preI m c) (ix2 b j) = 0) (k : ℕ) (hk : k ≤ 4096) : current (before m c k) (ix2 b j) = recur u v 0 k := by
  induction k with
  | zero => exact h0
  | succ k ih =>
    have e := step_state (before m c k) k (by omega) (counter m c k) b j
    rw [decays_before, inputs_before, hu, hv, ih (by omega)] at e
    rw [before, Function.iterate_succ_apply']
    exact e

/-- The rows written before trip `k` are the recurrence's states. -/
theorem written_before (b : Fin 4) (j : Fin 512) (u v : ℕ → EReal)
    (hu : ∀ n : Fin 4096, decays (entryContents preI m c) (ix3 n b j) = u n.val) (hv : ∀ n : Fin 4096, inputs (entryContents preI m c) (ix3 n b j) = v n.val)
    (h0 : current (entryContents preI m c) (ix2 b j) = 0) (k : ℕ) (hk : k ≤ 4096) (n : Fin 4096) (hn : n.val < k) :
    written (before m c k) (ix3 n b j) = recur u v 0 (n.val + 1) := by
  induction k with
  | zero => omega
  | succ k ih =>
    have e := step_written (before m c k) k (by omega) (counter m c k) n b j
    have ec := current_before m c b j u v hu hv h0 (k + 1) hk
    rw [before, Function.iterate_succ_apply'] at ec ⊢
    rw [e]
    by_cases h : n.val = k
    · rw [if_pos h, ec, h]
    · rw [if_neg h, ih (by omega) (by omega)]

end Cert.LruOut.Ref

end
-- ==== Proof.LruOut.RefEntry.lean ====
/- The reference's loop starts from a zero state, the plain formulas' decays and their inputs. -/
module

public import proofs.«01_k».proof.Proof.LruOut.RefLoop
public import proofs.«01_k».proof.Proof.LruOut.Layer
public import proofs.«01_k».proof.Proof.LruOut.TileScan

@[expose] public section

noncomputable section

namespace Cert.LruOut.Ref

open Idealize.ShloMosaic Idealize.ShloMosaic.TcCoe Idealize.SL.Sem Cert.ReferenceIdeal Cert.ReferenceIdeal.Gen Cert.ReferenceIdeal.Value Idealize.ShloMosaic.StableHlo

variable (m : (ℓ : Loc nD τ sig) → Buf (Elt Ideal) ℓ) (c : Dev nD)

/-- The arrays the reference's arguments hold. -/
def arrays : Arrays where
  xc b n j := (m ((c : Thread nD τ).loc main_arg0) : S4x4096x512.Idx → EReal) (ix3 b n j)
  gate b n j := (m ((c : Thread nD τ).loc main_arg1) : S4x4096x512.Idx → EReal) (ix3 b n j)
  wa k i j := (m ((c : Thread nD τ).loc main_arg2) : S8x64x64.Idx → EReal) (ix3 k i j)
  ba j := (m ((c : Thread nD τ).loc main_arg3) : S512.Idx → EReal) (ix1 j)
  wx k i j := (m ((c : Thread nD τ).loc main_arg4) : S8x64x64.Idx → EReal) (ix3 k i j)
  bx j := (m ((c : Thread nD τ).loc main_arg5) : S512.Idx → EReal) (ix1 j)
  lam j := (m ((c : Thread nD τ).loc main_arg6) : S512.Idx → EReal) (ix1 j)
  x b n d := (m ((c : Thread nD τ).loc main_arg7) : S4x4096x1024.Idx → EReal) (ix3 b n d)
  o4 h b n d := (m ((c : Thread nD τ).loc main_arg8) : S4x4x4096x128.Idx → EReal) (ix4 h b n d)
  ga b n j := (m ((c : Thread nD τ).loc main_arg9) : S4x4096x512.Idx → EReal) (ix3 b n j)
  ys b n d := (m ((c : Thread nD τ).loc main_arg10) : S4x4096x1024.Idx → EReal) (ix3 b n d)
  wo k d := (m ((c : Thread nD τ).loc main_arg11) : S2048x1024.Idx → EReal) (ix2 k d)
  pg d := (m ((c : Thread nD τ).loc main_arg12) : S1024.Idx → EReal) (ix1 d)

theorem two : Ideal.ofBits FTy.f32 1073741824#32 = ((2 : ℝ) : EReal) := by
  simp [Ideal.ofBits, Ideal.ieee]
  rw [← EReal.coe_mul]; norm_num

/-- A gate's argument with the weight written first. -/
theorem gate_sum (x : Fin 512 → EReal) (w : Fin 8 → Fin 64 → Fin 64 → EReal) (b : Fin 512 → EReal) (j : Fin 512) :
    ∑ i : Fin 64, w ⟨j.val / 64, by omega⟩ i ⟨j.val % 64, by omega⟩ * x ⟨j.val / 64 * 64 + i.val, by omega⟩ + b j = gatePre x w b j := by
  unfold gatePre
  congr 1
  refine Finset.sum_congr rfl fun i _ => ?_
  rw [mul_comm]
  congr 2
  apply Fin.ext
  show j.val / 64 * 64 + i.val = 64 * (j.val / 64) + i.val
  omega

/-- A choice on "`v` differs from itself" is its second branch. -/
theorem select_une_self {s : Shape} {φ : FTy} (v : FVec Ideal s φ) (x y : s.Idx → EReal) : select (cmpf .une v v) x y = y := by
  funext i
  show (if Ideal.cmp .une (v i) (v i) = 1 then x i else y i) = y i
  simp [Ideal.cmp]

/-- The loop's state starts at zero. -/
theorem current_entry (b : Fin 4) (j : Fin 512) : current (entryContents preI m c) (ix2 b j) = 0 := by
  unfold current
  simp only [entryContents, afterL_cons, afterL_nil]
  after_reads_at
  pointwise [id]

set_option maxRecDepth 16384 in
set_option maxHeartbeats 1000000 in
/-- The loop's decays. -/
theorem decays_entry (n : Fin 4096) (b : Fin 4) (j : Fin 512) :
    decays (entryContents preI m c) (ix3 n b j) = (arrays m c).dec b j n.val := by
  have hR : (arrays m c).dec b j n.val = Ideal.exp (((-8 : ℝ) : EReal) * Ideal.logistic (∑ i : Fin 64, (arrays m c).wa ⟨j.val / 64, by omega⟩ i ⟨j.val % 64, by omega⟩
        * (arrays m c).xc b n ⟨j.val / 64 * 64 + i.val, by omega⟩ + (arrays m c).ba j)
      * softplus (-(arrays m c).lam j)) := by
    rw [Arrays.dec, dif_pos n.isLt, decay, ← gate_sum]
  rw [hR]
  unfold decays
  simp only [entryContents, afterL_cons, afterL_nil]
  after_reads_at
  simp only [select_une_self]
  pointwise [id, Host.expm1, Host.divf, Host.negf, Host.sqrt, Host.absf]
  simp only [minus_eight]
  rfl

set_option maxRecDepth 16384 in
set_option maxHeartbeats 1000000 in
/-- The loop's inputs. -/
theorem inputs_entry (n : Fin 4096) (b : Fin 4) (j : Fin 512) :
    inputs (entryContents preI m c) (ix3 n b j) = (arrays m c).inp b j n.val := by
  have hR : (arrays m c).inp b j n.val
      = Ideal.sqrt (-(Ideal.exp (((2 : ℝ) : EReal) * (((-8 : ℝ) : EReal) * Ideal.logistic (∑ i : Fin 64, (arrays m c).wa ⟨j.val / 64, by omega⟩ i ⟨j.val % 64, by omega⟩
        * (arrays m c).xc b n ⟨j.val / 64 * 64 + i.val, by omega⟩ + (arrays m c).ba j)
        * softplus (-(arrays m c).lam j))) - 1))
        * (Ideal.logistic (∑ i : Fin 64, (arrays m c).wx ⟨j.val / 64, by omega⟩ i ⟨j.val % 64, by omega⟩
        * (arrays m c).xc b n ⟨j.val / 64 * 64 + i.val, by omega⟩ + (arrays m c).bx j)
          * (arrays m c).xc b n j) := by
    rw [Arrays.inp, dif_pos n.isLt, input, ← gate_sum, ← gate_sum]
  rw [hR]
  unfold inputs
  simp only [entryContents, afterL_cons, afterL_nil]
  after_reads_at
  simp only [select_une_self]
  pointwise [id, Host.expm1, Host.divf, Host.negf, Host.sqrt, Host.absf]
  simp only [minus_eight, two]
  rfl

end Cert.LruOut.Ref

end
-- ==== Proof.LruOut.RefValue.lean ====
/- What the reference's two results hold: the output rows and the final states of the plain formulas. -/
module

public import proofs.«01_k».proof.Proof.LruOut.RefEntry

@[expose] public section

noncomputable section

namespace Cert.LruOut.Ref

open Idealize.ShloMosaic Idealize.ShloMosaic.TcCoe Idealize.SL.Sem Cert.ReferenceIdeal Cert.ReferenceIdeal.Gen Cert.ReferenceIdeal.Value Idealize.ShloMosaic.StableHlo

variable (m : (ℓ : Loc nD τ sig) → Buf (Elt Ideal) ℓ) (c : Dev nD)

/-- The state the loop ends in. -/
theorem current_end (b : Fin 4) (j : Fin 512) : current (before m c 4096) (ix2 b j) = (arrays m c).state b j 4096 :=
  current_before m c b j _ _ (fun n => decays_entry m c n b j) (fun n => inputs_entry m c n b j) (current_entry m c b j) 4096 le_rfl

/-- The states the loop has written. -/
theorem written_end (n : Fin 4096) (b : Fin 4) (j : Fin 512) : written (before m c 4096) (ix3 n b j) = (arrays m c).state b j (n.val + 1) :=
  written_before m c b j _ _ (fun n => decays_entry m c n b j) (fun n => inputs_entry m c n b j) (current_entry m c b j) 4096 le_rfl n n.isLt

/-- The reference's second result holds the final states. -/
theorem reference_last (b : Fin 4) (j : Fin 512) :
    (out_main_v68 (before m c 4096) : S4x1x512.Idx → EReal) (ix3 b 0 j) = (arrays m c).state b j 4096 := by
  rw [← current_end]
  unfold out_main_v68 current
  pointwise

/-- The reference's mixed row: 2048 columns in three parts against the output weights. -/
theorem mix_parts (D : Arrays) (b : Fin 4) (n : Fin 4096) (d : Fin 1024) :
    ∑ x : Fin 2048, (if h : x.val < 512 then D.state b ⟨x.val, h⟩ (n.val + 1) * D.gate b n ⟨x.val, h⟩
      else if h' : x.val - 512 < 512 then
        D.o4 ⟨(x.val - 512) / 128, by omega⟩ b n ⟨(x.val - 512) % 128, by omega⟩
          * (D.ga b n ⟨x.val - 512, h'⟩ * Ideal.div 1 (1 + Ideal.exp (-D.ga b n ⟨x.val - 512, h'⟩)))
      else D.ys b n ⟨x.val - 512 - 512, by omega⟩) * D.wo x d = D.mix b n d := by
  rw [sum_2048]
  unfold Arrays.mix
  refine congr_arg₂ _ ?_ (congr_arg₂ _ ?_ ?_)
  · refine Finset.sum_congr rfl fun j _ => ?_
    rw [dif_pos j.isLt]
  · refine Finset.sum_congr rfl fun j _ => ?_
    have h2 : 512 + j.val - 512 = j.val := by omega
    have h3 : 512 + j.val - 512 < 512 := by omega
    rw [dif_neg (by simp), dif_pos h3]
    simp only [h2]
    rfl
  · refine Finset.sum_congr rfl fun k _ => ?_
    have h2 : 1024 + k.val - 512 - 512 = k.val := by omega
    rw [dif_neg (by show ¬1024 + k.val < 512; omega), dif_neg (by show ¬1024 + k.val - 512 < 512; omega)]
    simp only [h2]

set_option maxRecDepth 16384 in
set_option maxHeartbeats 2000000 in
/-- The rows the reference returns, from the states written and the arguments. -/
theorem rows_of (V : Valuation τ sig (Elt Ideal)) (D : Arrays)
    (hw : ∀ (n : Fin 4096) (b : Fin 4) (j : Fin 512), (V (Proc.devRef .tc main_v44_4) : S4096x4x512.Idx → EReal) (ix3 n b j) = D.state b j (n.val + 1))
    (hg : ∀ (b : Fin 4) (n : Fin 4096) (j : Fin 512), (V (Proc.devRef .tc main_arg1) : S4x4096x512.Idx → EReal) (ix3 b n j) = D.gate b n j)
    (hx : ∀ (b : Fin 4) (n : Fin 4096) (d : Fin 1024), (V (Proc.devRef .tc main_arg7) : S4x4096x1024.Idx → EReal) (ix3 b n d) = D.x b n d)
    (ho : ∀ (h : Fin 4) (b : Fin 4) (n : Fin 4096) (d : Fin 128), (V (Proc.devRef .tc main_arg8) : S4x4x4096x128.Idx → EReal) (ix4 h b n d) = D.o4 h b n d)
    (ha : ∀ (b : Fin 4) (n : Fin 4096) (j : Fin 512), (V (Proc.devRef .tc main_arg9) : S4x4096x512.Idx → EReal) (ix3 b n j) = D.ga b n j)
    (hy : ∀ (b : Fin 4) (n : Fin 4096) (d : Fin 1024), (V (Proc.devRef .tc main_arg10) : S4x4096x1024.Idx → EReal) (ix3 b n d) = D.ys b n d)
    (hwo : ∀ (k : Fin 2048) (d : Fin 1024), (V (Proc.devRef .tc main_arg11) : S2048x1024.Idx → EReal) (ix2 k d) = D.wo k d)
    (hp : ∀ (d : Fin 1024), (V (Proc.devRef .tc main_arg12) : S1024.Idx → EReal) (ix1 d) = D.pg d)
    (b : Fin 4) (n : Fin 4096) (d : Fin 1024) : (out_main_v67 V : S4x4096x1024.Idx → EReal) (ix3 b n d) = D.out b n d := by
  unfold out_main_v67
  pointwise
  simp only [hw, hg, hx, ho, ha, hy, hwo, hp, mix_parts]
  rfl

/-- The reference's first result holds the output rows. -/
theorem reference_rows (b : Fin 4) (n : Fin 4096) (d : Fin 1024) :
    (out_main_v67 (before m c 4096) : S4x4096x1024.Idx → EReal) (ix3 b n d) = (arrays m c).out b n d :=
  rows_of (before m c 4096) (arrays m c) (written_end m c)
    (fun _ _ _ => by rw [before, iter_main_arg1]; rfl)
    (fun _ _ _ => by rw [before, iter_main_arg7]; rfl)
    (fun _ _ _ _ => by rw [before, iter_main_arg8]; rfl)
    (fun _ _ _ => by rw [before, iter_main_arg9]; rfl)
    (fun _ _ _ => by rw [before, iter_main_arg10]; rfl)
    (fun _ _ => by rw [before, iter_main_arg11]; rfl)
    (fun _ => by rw [before, iter_main_arg12]; rfl)
    b n d

end Cert.LruOut.Ref

end
-- ==== Proof.LruOut.Equation.lean ====
/- The claims about the recurrence call: the reference leaves its arguments as they were, and kernel and reference end
   with the same two arrays when they start from the same arguments. -/
module

public import proofs.«01_k».proof.Defs
public import proofs.«01_k».proof.Proof.LruOut.KernelArray
public import proofs.«01_k».proof.Proof.LruOut.RefValue
public import Idealize.ShloMosaic.Adequacy

@[expose] public section

noncomputable section

namespace Cert.LruOut

open Idealize.ShloMosaic Idealize.ShloMosaic.TcCoe Idealize.SL.Sem Idealize.ShloMosaic.StableHlo

/-- The reference's run ends with its arguments unchanged; it has no semaphore. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

section Equal

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two output arrays are the same when both programs read the same arrays. -/
theorem rows_equal (h : Ref.arrays m' c = kernelArrays m c) :
    (Cert.ReferenceIdeal.Value.out_main_v67 (Ref.before m' c 4096) : Cert.ReferenceIdeal.S4x4096x1024.Idx → EReal)
      = (Cert.KernelIdeal.Value.G11 m c : Cert.KernelIdeal.S4x4096x1024.Idx → EReal) := by
  refine funext fun i => ?_
  obtain ⟨b, n, d, rfl⟩ : ∃ (b : Fin 4) (n : Fin 4096) (d : Fin 1024), i = ix3 b n d := ⟨i 0, i 1, i 2, eq_ix3 i⟩
  exact (Ref.reference_rows m' c b n d).trans (h ▸ (kernel_rows m c b n d).symm)

/-- And so are the final states. -/
theorem last_equal (h : Ref.arrays m' c = kernelArrays m c) :
    (Cert.ReferenceIdeal.Value.out_main_v68 (Ref.before m' c 4096) : Cert.ReferenceIdeal.S4x1x512.Idx → EReal)
      = (Cert.KernelIdeal.Value.G12 m c : Cert.KernelIdeal.S4x1x512.Idx → EReal) := by
  refine funext fun i => ?_
  obtain ⟨b, z, j, rfl⟩ : ∃ (b : Fin 4) (z : Fin 1) (j : Fin 512), i = ix3 b z j := ⟨i 0, i 1, i 2, eq_ix3 i⟩
  obtain rfl : z = 0 := Subsingleton.elim _ _
  exact (Ref.reference_last m' c b j).trans (h ▸ (kernel_last m c b j).symm)

end Equal

/-- Kernel and reference, started from the same arguments, end with the same output rows and the same final states. -/
theorem algebraic : Cert.algebraic_KernelIdeal_ReferenceIdeal := by
  intro m ρ m' ρ' _ hagree
  have hA : ∀ c : Dev Cert.KernelIdeal.nD, Ref.arrays m' c = kernelArrays m c := by
    intro c
    obtain ⟨h0, h1, h2, h3, h4, h5, h6, h7, h8, h9, h10, h11, h12⟩ := hagree c
    unfold Ref.arrays kernelArrays
    simp only [h0, h1, h2, h3, h4, h5, h6, h7, h8, h9, h10, h11, h12]
  refine ⟨fun c => Cert.KernelIdeal.Value.G11 m c, fun c => Cert.KernelIdeal.Value.G12 m c,
    Cert.KernelIdeal.Value.run (F := Ideal) m ρ, ?_⟩
  exact (θ_run _ _ _).mono
    (fun _ h c => ⟨(h c).1.trans (rows_equal m m' c (hA c)), (h c).2.1.trans (last_equal m m' c (hA c)), (h c).2.2⟩)
    (Cert.ReferenceIdeal.Value.run (F := Ideal) m' ρ')

end Cert.LruOut

end
-- ==== Proof.InProj.Layer.lean ====
/- What the layer's first part computes, as plain formulas over arrays of extended reals: the normalised rows, their
   projection, and the causal convolution of four taps. -/
module

public import Idealize.ShloMosaic.PureOps.Ideal
public import Idealize.ShloMosaic.PureOps.Ideal.Laws

@[expose] public section

noncomputable section

namespace Cert.InProj

open Idealize.ShloMosaic

/-- A number times its logistic. -/
def silu (y : EReal) : EReal := y * Ideal.logistic y

/-- A row over the root of its mean square, scaled. -/
def normed (x g : Fin 1024 → EReal) (k : Fin 1024) : EReal :=
  x k * Ideal.rsqrt (Ideal.div (∑ i : Fin 1024, x i * x i) (Ideal.ofBits FTy.f32 0x44800000#32) + Ideal.ofBits FTy.f32 0x358637BD#32) * g k

/-- The causal convolution at row `n` of a sequence that is zero before its start. -/
def conv (f : ℤ → EReal) (w : Fin 4 → EReal) (b : EReal) (n : ℤ) : EReal :=
  b + f n * w 3 + f (n - 1) * w 2 + f (n - 2) * w 1 + f (n - 3) * w 0

/-- The sum of the taps in the other order. -/
theorem conv_rev (f : ℤ → EReal) (w : Fin 4 → EReal) (b : EReal) (n : ℤ) :
    b + f (n - 3) * w 0 + f (n - 2) * w 1 + f (n - 1) * w 2 + f n * w 3 = conv f w b n := by
  unfold conv
  abel

/-- The arrays the part reads. -/
structure Arrays where
  x : Fin 4 → Fin 4096 → Fin 1024 → EReal
  g : Fin 1024 → EReal
  w : Fin 1024 → Fin 5648 → EReal
  lw : Fin 4 → Fin 512 → EReal
  lb : Fin 512 → EReal
  sw : Fin 4 → Fin 1536 → EReal
  sb : Fin 1536 → EReal

namespace Arrays

variable (D : Arrays)

/-- The projected rows. -/
def u (b : Fin 4) (n : Fin 4096) (j : Fin 5648) : EReal := ∑ k : Fin 1024, normed (D.x b n) D.g k * D.w k j

/-- Column `j` of a batch's projected rows, zero outside the 4096 rows. -/
def col (b : Fin 4) (j : Fin 5648) (n : ℤ) : EReal := if h : 0 ≤ n ∧ n < 4096 then D.u b ⟨n.toNat, by omega⟩ j else 0

theorem col_nat (b : Fin 4) (j : Fin 5648) (n : Fin 4096) : D.col b j (n.val : ℤ) = D.u b n j := by
  have hn := n.isLt
  rw [col, dif_pos (by omega)]
  rfl

/-- The rows the recurrence reads: the first 512 columns, convolved. -/
def xlru (b : Fin 4) (n : Fin 4096) (j : Fin 512) : EReal := conv (D.col b ⟨j.val, by omega⟩) (fun a => D.lw a j) (D.lb j) n.val

/-- The rows the state space part reads: 1536 columns, convolved, each times its logistic. -/
def xbc (b : Fin 4) (n : Fin 4096) (j : Fin 1536) : EReal :=
  silu (conv (D.col b ⟨4096 + j.val, by omega⟩) (fun a => D.sw a j) (D.sb j) n.val)

end Arrays

end Cert.InProj

end
-- ==== Proof.InProj.Tile.lean ====
/- What the kernel's body computes at one grid point, at an index: the projected rows of its tile and their convolution. -/
module

public import proofs.«01_k».proof.Proof.Gen.ProjectionIdeal.Skeleton
public import proofs.«01_k».proof.Proof.InProj.Layer
public import Idealize.ShloMosaic.Lib.Pointwise
public import Idealize.ShloMosaic.Lib.Pipeline.Value

@[expose] public section

set_option maxRecDepth 16384

noncomputable section

namespace Cert.InProj

open Idealize.ShloMosaic Idealize.ShloMosaic.TcCoe Cert.ProjectionIdeal Cert.ProjectionIdeal.Gen

section Rows

variable (x0 : Vec Ideal S1x512x1024 .f32) (x1 : Vec Ideal S1x1024 .f32)

/-- A normalised row of the tile. -/
def row (r : Fin 512) (k : Fin 1024) : EReal := normed (fun i => x0 (ix3 0 r i)) (fun i => x1 (ix2 0 i)) k

theorem pay8_at (r : Fin 512) (k : Fin 1024) : k0_pay8 x0 x1 (ix2 r k) = row x0 x1 r k := by
  pointwise [k0_pay8]
  rfl

/-- A projected row of the tile against 512 columns. -/
def pr (w : Vec Ideal S1024x512 .bf16) (r j : Fin 512) : EReal := ∑ k : Fin 1024, row x0 x1 r k * w (ix2 k j)

variable (w : Vec Ideal S1024x512 .bf16) (r j : Fin 512)

theorem pay11_at : k0_pay11 x0 x1 w (ix2 r j) = pr x0 x1 w r j := by
  pointwise [k0_pay11]
  simp only [pay8_at]
  rfl

theorem pay12_at : k0_pay12 x0 x1 w (ix2 r j) = pr x0 x1 w r j * Ideal.ofBits FTy.f32 0x3E000000#32 := by
  pointwise [k0_pay12]
  simp only [pay8_at]
  rfl

theorem pay25_at : k0_pay25 (k0_pay8 x0 x1) w (ix2 r j) = pr x0 x1 w r j := by
  pointwise [k0_pay25]
  simp only [pay8_at]
  rfl

theorem pay26_eq : k0_pay26 (k0_pay8 x0 x1) w = k0_pay25 (k0_pay8 x0 x1) w := rfl
theorem pay34_eq : k0_pay34 (k0_pay8 x0 x1) w = k0_pay25 (k0_pay8 x0 x1) w := rfl
theorem pay35_eq : k0_pay35 (k0_pay8 x0 x1) w = k0_pay25 (k0_pay8 x0 x1) w := rfl
theorem pay50_eq : k0_pay50 (k0_pay8 x0 x1) w = k0_pay25 (k0_pay8 x0 x1) w := rfl
theorem pay59_eq : k0_pay59 (k0_pay8 x0 x1) w = k0_pay25 (k0_pay8 x0 x1) w := rfl
theorem pay11_eq : k0_pay11 x0 x1 w = k0_pay25 (k0_pay8 x0 x1) w := rfl

theorem pay51_at : k0_pay51 (k0_pay8 x0 x1) w (ix3 0 r j) = pr x0 x1 w r j := by
  rw [← pay25_at]
  show shapeCast S1x512x512 (k0_pay25 (k0_pay8 x0 x1) w) shapeCasts_S512x512_S1x512x512 (ix3 0 r j) = _
  generalize k0_pay25 (k0_pay8 x0 x1) w = A
  pointwise

theorem pay2_at : k0_pay2 (k0_pay8 x0 x1) w (ix3 0 r j) = silu (pr x0 x1 w r j) := by
  rw [← pay25_at]
  show shapeCast S1x512x512 (mulf (k0_pay25 (k0_pay8 x0 x1) w) (logistic (k0_pay25 (k0_pay8 x0 x1) w))) shapeCasts_S512x512_S1x512x512 (ix3 0 r j) = _
  generalize k0_pay25 (k0_pay8 x0 x1) w = A
  pointwise [silu]

theorem pay60_at : k0_pay60 (k0_pay8 x0 x1) w (ix3 0 r j) = silu (pr x0 x1 w r j) := pay2_at x0 x1 w r j

theorem pay3_at : k0_pay3 (k0_pay59 (k0_pay8 x0 x1) w) (ix3 0 r j) = silu (pr x0 x1 w r j) := pay2_at x0 x1 w r j

theorem pay1_at (v : Vec Ideal S1024x128 .bf16) (l : Fin 128) :
    k0_pay1 (k0_pay8 x0 x1) v (ix3 0 r l) = ∑ k : Fin 1024, row x0 x1 r k * v (ix2 k l) := by
  pointwise [k0_pay1]
  simp only [pay8_at]

end Rows

section Conv

/-- The rows before a tile's row `r`: the eight rows carried in, then the tile's own. -/
def before (s : Vec Ideal S8x512 .f32) (v : FVec Ideal S512x512 .f32) (j : Fin 512) (n : ℤ) : EReal :=
  if h : 0 ≤ n then if h' : n < 512 then v (ix2 ⟨n.toNat, by omega⟩ j) else 0
  else if h' : -8 ≤ n then s (ix2 ⟨(n + 8).toNat, by omega⟩ j) else 0

/-- A rotation by `d` of the eight carried rows and the tile's rows, read at the tile's row `r`. -/
theorem before_tap (s : Vec Ideal S8x512 .f32) (v : FVec Ideal S512x512 .f32) (r j : Fin 512) (d : ℕ) (h1 : 1 ≤ d) (h3 : d ≤ 3) :
    (if h : (8 + r.val + 520 - d) % 520 < 8 then s (ix2 ⟨(8 + r.val + 520 - d) % 520, h⟩ j)
      else v (ix2 ⟨(8 + r.val + 520 - d) % 520 - 8, by omega⟩ j)) = before s v j ((r.val : ℤ) - (d : ℤ)) := by
  have hr := r.isLt
  have e : (8 + r.val + 520 - d) % 520 = 8 + r.val - d := by omega
  unfold before
  by_cases hd : d ≤ r.val
  · rw [dif_neg (by omega), dif_pos (by omega), dif_pos (by omega)]
    congr 2
    apply Fin.ext
    show (8 + r.val + 520 - d) % 520 - 8 = ((r.val : ℤ) - (d : ℤ)).toNat
    omega
  · rw [dif_pos (by omega), dif_neg (by omega), dif_pos (by omega)]
    congr 2
    apply Fin.ext
    show (8 + r.val + 520 - d) % 520 = ((r.val : ℤ) - (d : ℤ) + 8).toNat
    omega

theorem before_self (s : Vec Ideal S8x512 .f32) (v : FVec Ideal S512x512 .f32) (r j : Fin 512) : before s v j (r.val : ℤ) = v (ix2 r j) := by
  have hr := r.isLt
  unfold before
  rw [dif_pos (by omega), dif_pos (by omega)]
  rfl

variable (v : FVec Ideal S512x512 .f32) (s : Vec Ideal S8x512 .f32) (b w3 w2 w1 w0 : Vec Ideal S1x512 .f32) (r j : Fin 512)

/-- The convolution as the body spells it. -/
def convTile : FVec Ideal S512x512 .f32 :=
  addf (k0_pay19 v s b w3 w2 w1) (mulf (k0_pay20 v s) (broadcastTo S512x512 w0 broadcasts_S1x512_S512x512))

set_option maxHeartbeats 2000000 in
theorem conv_at : convTile v s b w3 w2 w1 w0 (ix2 r j)
    = conv (before s v j) ![w0 (ix2 0 j), w1 (ix2 0 j), w2 (ix2 0 j), w3 (ix2 0 j)] (b (ix2 0 j)) r.val := by
  have hr := r.isLt
  pointwise [convTile, k0_pay18, k0_pay19, k0_pay20]
  unfold conv
  rw [before_tap s v r j 1 (by omega) (by omega), before_tap s v r j 2 (by omega) (by omega), before_tap s v r j 3 (by omega) (by omega), before_self]
  rfl

/-- The first 512 of the second convolution's columns. -/
theorem pay24_at : k0_pay24 (k0_pay19 v s b w3 w2 w1) (k0_pay20 v s) w0 (ix3 0 r j) = silu (convTile v s b w3 w2 w1 w0 (ix2 r j)) := by
  show shapeCast S1x512x512 (mulf (convTile v s b w3 w2 w1 w0) (logistic (convTile v s b w3 w2 w1 w0))) shapeCasts_S512x512_S1x512x512 (ix3 0 r j) = _
  generalize convTile v s b w3 w2 w1 w0 = A
  pointwise [silu]

/-- The last 512. -/
theorem pay40_at : k0_pay40 (k0_pay39 v s b w3 w2 w1 w0) (ix3 0 r j) = silu (convTile v s b w3 w2 w1 w0 (ix2 r j)) :=
  pay24_at v s b w3 w2 w1 w0 r j

variable (h : FVec Ideal S512x1024 .bf16) (w : Vec Ideal S1024x512 .bf16)

/-- The middle 512. -/
theorem pay33_at : k0_pay33 (k0_pay27 h w s) (k0_pay28 h w b w3) (k0_pay29 h w s) w2 w1 w0 (ix3 0 r j)
    = silu (convTile (k0_pay25 h w) s b w3 w2 w1 w0 (ix2 r j)) :=
  pay24_at (k0_pay25 h w) s b w3 w2 w1 w0 r j

/-- The first convolution's columns. -/
theorem pay58_at : k0_pay58 (k0_pay52 h w s) (k0_pay53 h w s b w3 w2) (k0_pay54 h w s) w1 w0 (ix3 0 r j)
    = convTile (k0_pay25 h w) s b w3 w2 w1 w0 (ix2 r j) := by
  show shapeCast S1x512x512 (convTile (k0_pay25 h w) s b w3 w2 w1 w0) shapeCasts_S512x512_S1x512x512 (ix3 0 r j) = _
  generalize convTile (k0_pay25 h w) s b w3 w2 w1 w0 = A
  pointwise

/-- The last eight rows of a tile. -/
theorem pay21_at (v : FVec Ideal S512x512 .f32) (a : Fin 8) : k0_pay21 v (ix2 a j) = v (ix2 ⟨504 + a.val, by omega⟩ j) := by
  pointwise [k0_pay21]

theorem pay22_at (v : FVec Ideal S512x512 .f32) (a : Fin 8) : k0_pay22 v (ix2 a j) = v (ix2 ⟨504 + a.val, by omega⟩ j) := by
  pointwise [k0_pay22, k0_pay21]

theorem pay23_at (v : FVec Ideal S512x512 .f32) (a : Fin 8) : k0_pay23 v (ix3 0 a j) = v (ix2 ⟨504 + a.val, by omega⟩ j) := by
  pointwise [k0_pay23, k0_pay21]

end Conv

section Planes

variable (A : FVec Ideal S512x512 .f32) (r : Fin 512) (l : Fin 128)

theorem pay41_at : k0_pay41 A (ix4 0 0 r l) = A (ix2 r ⟨l.val, by omega⟩) := by pointwise [k0_pay41]
theorem pay42_at : k0_pay42 A (ix4 0 0 r l) = A (ix2 r ⟨128 + l.val, by omega⟩) := by pointwise [k0_pay42]
theorem pay43_at : k0_pay43 A (ix4 0 0 r l) = A (ix2 r ⟨256 + l.val, by omega⟩) := by pointwise [k0_pay43]
theorem pay44_at : k0_pay44 A (ix4 0 0 r l) = A (ix2 r ⟨384 + l.val, by omega⟩) := by pointwise [k0_pay44]
theorem pay4_at (i n : Fin 512) : k0_pay4 A (ix4 0 0 i n) = A (ix2 n i) := by pointwise [k0_pay4]
theorem pay5_at (i n : Fin 512) : k0_pay5 (F := Ideal) (ix4 0 0 i n) = 0 := by
  pointwise [k0_pay5]
theorem pay9_at (a : Fin 8) (j : Fin 512) : k0_pay9 (F := Ideal) (ix2 a j) = 0 := by
  pointwise [k0_pay9]
theorem pay10_at (a : Fin 8) (j : Fin 1536) : k0_pay10 (F := Ideal) (ix2 a j) = 0 := by
  pointwise [k0_pay10]

end Planes

section Pieces

variable {S : Shape} {Val : EltTy → Type} {e : EltTy} [∀ e, Nonempty (Val e)]

/-- An index the last store covers reads that store. -/
theorem stored_at (off size : Fin S.rank → ℕ) (inb : ∀ a, off a + size a ≤ S.size a) (w : (Rect.unit off size inb).shape.Idx → Val e)
    (L : List (View.Piece Val S e)) (y : S.Idx) (x : (Rect.unit off size inb).shape.Idx) (h : ∀ a, (y a).val = off a + (x a).val) :
    View.canon ((⟨Rect.unit off size inb, w⟩ : View.Piece Val S e) :: L) y = w x := by
  have hy : y = (Rect.unit off size inb).emb x := by
    funext a
    apply Fin.ext
    rw [h, Rect.emb_apply]
    show _ = off a + 1 * (x a).val
    omega
  rw [hy]
  exact View.canon_cons_emb _ w L x

/-- An index the last store misses along some axis reads the earlier stores. -/
theorem stored_before (off size : Fin S.rank → ℕ) (inb : ∀ a, off a + size a ≤ S.size a) (w : (Rect.unit off size inb).shape.Idx → Val e)
    (L : List (View.Piece Val S e)) (y : S.Idx) (h : ∃ a : Fin S.rank, (y a).val < off a) :
    View.canon ((⟨Rect.unit off size inb, w⟩ : View.Piece Val S e) :: L) y = View.canon L y := by
  refine View.canon_cons_of_not_mem _ _ fun hm => ?_
  obtain ⟨a, ha⟩ := h
  have := (Rect.mem_set_unit (inb := inb).mp hm) a
  omega

end Pieces

/-- Four planes of 128 columns, stored one after the other. -/
theorem planes_at (p0 p1 p2 p3 : S1x1x512x128.Idx → EReal) (A : Fin 512 → Fin 512 → EReal) (i0 i1 i2 i3)
    (h0 : ∀ r l, p0 (ix4 0 0 r l) = A r ⟨l.val, by omega⟩) (h1 : ∀ r l, p1 (ix4 0 0 r l) = A r ⟨128 + l.val, by omega⟩)
    (h2 : ∀ r l, p2 (ix4 0 0 r l) = A r ⟨256 + l.val, by omega⟩) (h3 : ∀ r l, p3 (ix4 0 0 r l) = A r ⟨384 + l.val, by omega⟩)
    (h : Fin 4) (r : Fin 512) (l : Fin 128) :
    View.canon (Val := Elt Ideal) (s := S4x1x512x128) (e := .f32) [⟨Rect.unit ![3, 0, 0, 0] S1x1x512x128.size i3, p3⟩, ⟨Rect.unit ![2, 0, 0, 0] S1x1x512x128.size i2, p2⟩,
      ⟨Rect.unit ![1, 0, 0, 0] S1x1x512x128.size i1, p1⟩, ⟨Rect.unit ![0, 0, 0, 0] S1x1x512x128.size i0, p0⟩] (ix4 (h : Fin 4) (0 : Fin 1) r l)
      = A r ⟨128 * h.val + l.val, by omega⟩ := by
  have ha : ∀ (n : Fin 4) (a : Fin 4), ((ix4 (n : Fin 4) (0 : Fin 1) r l : S4x1x512x128.Idx) a).val = (![n.val, 0, 0, 0] : Fin 4 → ℕ) a + ((ix4 0 0 r l : S1x1x512x128.Idx) a).val := by
    intro n a
    fin_cases a <;> first | rfl | exact (Nat.zero_add _).symm
  match h with
  | 3 => exact (stored_at _ _ _ _ _ _ _ (by exact ha 3)).trans (h3 r l)
  | 2 =>
    refine (stored_before _ _ _ _ _ _ ?_).trans ?_
    · exact ⟨0, by show 2 < 3; omega⟩
    exact (stored_at _ _ _ _ _ _ _ (by exact ha 2)).trans (h2 r l)
  | 1 =>
    refine (stored_before _ _ _ _ _ _ ?_).trans ?_
    · exact ⟨0, by show 1 < 3; omega⟩
    refine (stored_before _ _ _ _ _ _ ?_).trans ?_
    · exact ⟨0, by show 1 < 2; omega⟩
    exact (stored_at _ _ _ _ _ _ _ (by exact ha 1)).trans (h1 r l)
  | 0 =>
    refine (stored_before _ _ _ _ _ _ ?_).trans ?_
    · exact ⟨0, by show 0 < 3; omega⟩
    refine (stored_before _ _ _ _ _ _ ?_).trans ?_
    · exact ⟨0, by show 0 < 2; omega⟩
    refine (stored_before _ _ _ _ _ _ ?_).trans ?_
    · exact ⟨0, by show 0 < 1; omega⟩
    refine (stored_at _ _ _ _ _ _ _ (by exact ha 0)).trans ((h0 r l).trans ?_)
    congr 1
    apply Fin.ext
    show l.val = 128 * 0 + l.val
    omega

/-- Three stretches of 512 columns, stored one after the other. -/
theorem thirds_at (p0 p1 p2 : S1x512x512.Idx → EReal) (i0 i1 i2) (r : Fin 512) (j : Fin 512) :
    View.canon (Val := Elt Ideal) (s := S1x512x1536) (e := .f32) [⟨Rect.unit ![0, 0, 1024] S1x512x512.size i2, p2⟩,
      ⟨Rect.unit ![0, 0, 512] S1x512x512.size i1, p1⟩, ⟨Rect.unit ![0, 0, 0] S1x512x512.size i0, p0⟩] (ix3 0 r ⟨j.val, by omega⟩) = p0 (ix3 0 r j)
    ∧ View.canon (Val := Elt Ideal) (s := S1x512x1536) (e := .f32) [⟨Rect.unit ![0, 0, 1024] S1x512x512.size i2, p2⟩,
      ⟨Rect.unit ![0, 0, 512] S1x512x512.size i1, p1⟩, ⟨Rect.unit ![0, 0, 0] S1x512x512.size i0, p0⟩] (ix3 0 r ⟨512 + j.val, by omega⟩) = p1 (ix3 0 r j)
    ∧ View.canon (Val := Elt Ideal) (s := S1x512x1536) (e := .f32) [⟨Rect.unit ![0, 0, 1024] S1x512x512.size i2, p2⟩,
      ⟨Rect.unit ![0, 0, 512] S1x512x512.size i1, p1⟩, ⟨Rect.unit ![0, 0, 0] S1x512x512.size i0, p0⟩] (ix3 0 r ⟨1024 + j.val, by omega⟩) = p2 (ix3 0 r j) := by
  have hj := j.isLt
  refine ⟨?_, ?_, ?_⟩
  · refine (stored_before _ _ _ _ _ _ ?_).trans ?_
    · exact ⟨2, by show j.val < 1024; omega⟩
    refine (stored_before _ _ _ _ _ _ ?_).trans ?_
    · exact ⟨2, by show j.val < 512; omega⟩
    exact stored_at _ _ _ _ _ _ _ (by intro a; fin_cases a <;> first | rfl | exact (Nat.zero_add _).symm)
  · refine (stored_before _ _ _ _ _ _ ?_).trans ?_
    · exact ⟨2, by show 512 + j.val < 1024; omega⟩
    exact stored_at _ _ _ _ _ _ _ (by intro a; fin_cases a <;> first | rfl | exact (Nat.zero_add _).symm)
  · exact stored_at _ _ _ _ _ _ _ (by intro a; fin_cases a <;> first | rfl | exact (Nat.zero_add _).symm)

/-- Two stretches of 512 columns, the second stored last. -/
theorem halves_at (p0 p1 : S1x512x512.Idx → EReal) (i0 i1) (r : Fin 512) (j : Fin 512) :
    View.canon (Val := Elt Ideal) (s := S1x512x1024) (e := .f32) [⟨Rect.unit ![0, 0, 512] S1x512x512.size i1, p1⟩,
      ⟨Rect.unit ![0, 0, 0] S1x512x512.size i0, p0⟩] (ix3 0 r ⟨j.val, by omega⟩) = p0 (ix3 0 r j)
    ∧ View.canon (Val := Elt Ideal) (s := S1x512x1024) (e := .f32) [⟨Rect.unit ![0, 0, 512] S1x512x512.size i1, p1⟩,
      ⟨Rect.unit ![0, 0, 0] S1x512x512.size i0, p0⟩] (ix3 0 r ⟨512 + j.val, by omega⟩) = p1 (ix3 0 r j) := by
  have hj := j.isLt
  refine ⟨?_, ?_⟩
  · refine (stored_before _ _ _ _ _ _ ?_).trans ?_
    · exact ⟨2, by show j.val < 512; omega⟩
    exact stored_at _ _ _ _ _ _ _ (by intro a; fin_cases a <;> first | rfl | exact (Nat.zero_add _).symm)
  · exact stored_at _ _ _ _ _ _ _ (by intro a; fin_cases a <;> first | rfl | exact (Nat.zero_add _).symm)

/-- The last eight rows of three stretches of 512 columns. -/
theorem tails_at (p0 p1 p2 : S1x8x512.Idx → EReal) (i0 i1 i2) (r : Fin 8) (j : Fin 512) :
    View.canon (Val := Elt Ideal) (s := S1x8x1536) (e := .f32) [⟨Rect.unit ![0, 0, 1024] S1x8x512.size i2, p2⟩,
      ⟨Rect.unit ![0, 0, 512] S1x8x512.size i1, p1⟩, ⟨Rect.unit ![0, 0, 0] S1x8x512.size i0, p0⟩] (ix3 0 r ⟨j.val, by omega⟩) = p0 (ix3 0 r j)
    ∧ View.canon (Val := Elt Ideal) (s := S1x8x1536) (e := .f32) [⟨Rect.unit ![0, 0, 1024] S1x8x512.size i2, p2⟩,
      ⟨Rect.unit ![0, 0, 512] S1x8x512.size i1, p1⟩, ⟨Rect.unit ![0, 0, 0] S1x8x512.size i0, p0⟩] (ix3 0 r ⟨512 + j.val, by omega⟩) = p1 (ix3 0 r j)
    ∧ View.canon (Val := Elt Ideal) (s := S1x8x1536) (e := .f32) [⟨Rect.unit ![0, 0, 1024] S1x8x512.size i2, p2⟩,
      ⟨Rect.unit ![0, 0, 512] S1x8x512.size i1, p1⟩, ⟨Rect.unit ![0, 0, 0] S1x8x512.size i0, p0⟩] (ix3 0 r ⟨1024 + j.val, by omega⟩) = p2 (ix3 0 r j) := by
  have hj := j.isLt
  refine ⟨?_, ?_, ?_⟩
  · refine (stored_before _ _ _ _ _ _ ?_).trans ?_
    · exact ⟨2, by show j.val < 1024; omega⟩
    refine (stored_before _ _ _ _ _ _ ?_).trans ?_
    · exact ⟨2, by show j.val < 512; omega⟩
    exact stored_at _ _ _ _ _ _ _ (by intro a; fin_cases a <;> first | rfl | exact (Nat.zero_add _).symm)
  · refine (stored_before _ _ _ _ _ _ ?_).trans ?_
    · exact ⟨2, by show 512 + j.val < 1024; omega⟩
    exact stored_at _ _ _ _ _ _ _ (by intro a; fin_cases a <;> first | rfl | exact (Nat.zero_add _).symm)
  · exact stored_at _ _ _ _ _ _ _ (by intro a; fin_cases a <;> first | rfl | exact (Nat.zero_add _).symm)

/-- The same three stretches of the scratch block, over anything stored before. -/
theorem carries_at (p0 p1 p2 : S8x512.Idx → EReal) (i0 i1 i2) (L : List (View.Piece (Elt Ideal) S8x1536 .f32)) (r : Fin 8) (j : Fin 512) :
    View.canon (Val := Elt Ideal) (s := S8x1536) (e := .f32) (⟨Rect.unit ![0, 1024] S8x512.size i2, p2⟩ ::
      ⟨Rect.unit ![0, 512] S8x512.size i1, p1⟩ :: ⟨Rect.unit ![0, 0] S8x512.size i0, p0⟩ :: L) (ix2 r ⟨j.val, by omega⟩) = p0 (ix2 r j)
    ∧ View.canon (Val := Elt Ideal) (s := S8x1536) (e := .f32) (⟨Rect.unit ![0, 1024] S8x512.size i2, p2⟩ ::
      ⟨Rect.unit ![0, 512] S8x512.size i1, p1⟩ :: ⟨Rect.unit ![0, 0] S8x512.size i0, p0⟩ :: L) (ix2 r ⟨512 + j.val, by omega⟩) = p1 (ix2 r j)
    ∧ View.canon (Val := Elt Ideal) (s := S8x1536) (e := .f32) (⟨Rect.unit ![0, 1024] S8x512.size i2, p2⟩ ::
      ⟨Rect.unit ![0, 512] S8x512.size i1, p1⟩ :: ⟨Rect.unit ![0, 0] S8x512.size i0, p0⟩ :: L) (ix2 r ⟨1024 + j.val, by omega⟩) = p2 (ix2 r j) := by
  have hj := j.isLt
  refine ⟨?_, ?_, ?_⟩
  · refine (stored_before _ _ _ _ _ _ ?_).trans ?_
    · exact ⟨1, by show j.val < 1024; omega⟩
    refine (stored_before _ _ _ _ _ _ ?_).trans ?_
    · exact ⟨1, by show j.val < 512; omega⟩
    exact stored_at _ _ _ _ _ _ _ (by intro a; fin_cases a <;> first | rfl | exact (Nat.zero_add _).symm)
  · refine (stored_before _ _ _ _ _ _ ?_).trans ?_
    · exact ⟨1, by show 512 + j.val < 1024; omega⟩
    exact stored_at _ _ _ _ _ _ _ (by intro a; fin_cases a <;> first | rfl | exact (Nat.zero_add _).symm)
  · exact stored_at _ _ _ _ _ _ _ (by intro a; fin_cases a <;> first | rfl | exact (Nat.zero_add _).symm)

/-- The two planes of a window of columns. -/
theorem window_at (p0 p1 : S1x1x512x512.Idx → EReal) (i0 i1) (i n : Fin 512) :
    View.canon (Val := Elt Ideal) (s := S2x1x512x512) (e := .f32) [⟨Rect.unit ![1, 0, 0, 0] S1x1x512x512.size i1, p1⟩,
      ⟨Rect.unit ![0, 0, 0, 0] S1x1x512x512.size i0, p0⟩] (ix4 0 0 i n) = p0 (ix4 0 0 i n)
    ∧ View.canon (Val := Elt Ideal) (s := S2x1x512x512) (e := .f32) [⟨Rect.unit ![1, 0, 0, 0] S1x1x512x512.size i1, p1⟩,
      ⟨Rect.unit ![0, 0, 0, 0] S1x1x512x512.size i0, p0⟩] (ix4 1 0 i n) = p1 (ix4 0 0 i n) := by
  refine ⟨?_, ?_⟩
  · refine (stored_before _ _ _ _ _ _ ?_).trans ?_
    · exact ⟨0, by show 0 < 1; omega⟩
    exact stored_at _ _ _ _ _ _ _ (by intro a; fin_cases a <;> first | rfl | exact (Nat.zero_add _).symm)
  · exact stored_at _ _ _ _ _ _ _ (by intro a; fin_cases a <;> first | rfl | exact (Nat.zero_add _).symm)

end Cert.InProj

end
-- ==== Proof.InProj.Blocks.lean ====
/- The blocks a grid point of the projection call reads, at an index, as elements of the argument arrays. -/
module

public import proofs.«01_k».proof.Proof.InProj.Tile
public import proofs.«01_k».proof.Proof.Gen.ProjectionIdeal.Frame.Runs
public import Idealize.ShloMosaic.Lib.Pipeline.ValueKit.Point
public import Idealize.ShloMosaic.Lib.StableHlo.ReadAt

@[expose] public section

noncomputable section

namespace Cert.InProj

open Idealize.ShloMosaic Idealize.ShloMosaic.TcCoe Idealize.SL.Sem Cert.ProjectionIdeal Cert.ProjectionIdeal.Gen

variable (m : (ℓ : Loc nD τ sig) → Buf (Elt Ideal) ℓ) (c : Dev nD)

/-- The arrays the kernel's arguments hold. -/
def kernelArrays : Arrays where
  x b n k := (m ((c : Thread nD τ).loc main_arg0) : S4x4096x1024.Idx → EReal) (ix3 b n k)
  g k := (m ((c : Thread nD τ).loc main_arg1) : S1024.Idx → EReal) (ix1 k)
  w k j := (m ((c : Thread nD τ).loc main_arg2) : S1024x5648.Idx → EReal) (ix2 k j)
  lw a j := (m ((c : Thread nD τ).loc main_arg3) : S4x512.Idx → EReal) (ix2 a j)
  lb j := (m ((c : Thread nD τ).loc main_arg4) : S512.Idx → EReal) (ix1 j)
  sw a j := (m ((c : Thread nD τ).loc main_arg5) : S4x1536.Idx → EReal) (ix2 a j)
  sb j := (m ((c : Thread nD τ).loc main_arg6) : S1536.Idx → EReal) (ix1 j)

/-- The batch and the tile a grid point reads. -/
theorem rows_index (t : Fin cfg0.N) : win0_0.index t = ![t.val / 8, t.val % 8, 0] := by
  revert t; decide

theorem whole_index (t : Fin cfg0.N) :
    win0_1.index t = ![0, 0] ∧ win0_2.index t = ![0, 0] ∧ win0_3.index t = ![0, 0] ∧ win0_4.index t = ![0, 0] ∧ win0_5.index t = ![0, 0]
      ∧ win0_6.index t = ![0, 0] ∧ win0_7.index t = ![0, 0] := by
  revert t; decide

theorem blk0 (t : Fin cfg0.N) (b : Fin 4) (n : Fin 4096) (r : Fin 512) (hb : b.val = t.val / 8) (hn : n.val = 512 * (t.val % 8) + r.val)
    (k : Fin 1024) : iblk m c 0 t (ix3 0 r k) = (kernelArrays m c).x b n k := by
  unfold kernelArrays; dsimp only; blk_ext [iblk, V, rows_index t]

theorem blk1 (t : Fin cfg0.N) (k : Fin 1024) : iblk m c 1 t (ix2 0 k) = (kernelArrays m c).g k := by
  have e : iblk m c 1 t (ix2 0 k) = (V m c main_v4 : S1x1024.Idx → EReal) (ix2 0 k) := by blk_ext [iblk, (whole_index t).1]
  rw [e]
  unfold V
  simp only [List.flatten_cons, List.flatten_nil, List.append_nil, List.cons_append, List.nil_append]
  after_reads_at
  pointwise [id, kernelArrays]

theorem blk2 (t : Fin cfg0.N) (k : Fin 1024) (j : Fin 5648) : iblk m c 2 t (ix2 k j) = (kernelArrays m c).w k j := by
  have e : iblk m c 2 t (ix2 k j) = (V m c main_v0 : S1024x5648.Idx → EReal) (ix2 k j) := by blk_ext [iblk, (whole_index t).2.1]
  rw [e]
  unfold V
  simp only [List.flatten_cons, List.flatten_nil, List.append_nil, List.cons_append, List.nil_append]
  after_reads_at
  pointwise [id, kernelArrays]

/-- The last 16 columns of the weights, with zero columns up to 128. -/
theorem blk3 (t : Fin cfg0.N) (k : Fin 1024) (l : Fin 128) :
    iblk m c 3 t (ix2 k l) = if h : l.val < 16 then (kernelArrays m c).w k ⟨5632 + l.val, by omega⟩ else 0 := by
  have e : iblk m c 3 t (ix2 k l) = (V m c main_v3 : S1024x128.Idx → EReal) (ix2 k l) := by blk_ext [iblk, (whole_index t).2.2.1]
  rw [e]
  unfold V
  simp only [List.flatten_cons, List.flatten_nil, List.append_nil, List.cons_append, List.nil_append]
  after_reads_at
  pointwise [id, kernelArrays]
  split_ifs
  · rfl
  · show FloatOps.sitofp (F := Ideal) FTy.f32 0#32 = (0 : EReal)
    simp [FloatOps.sitofp]

theorem blk4 (t : Fin cfg0.N) (a : Fin 4) (j : Fin 512) : iblk m c 4 t (ix2 a j) = (kernelArrays m c).lw a j := by
  unfold kernelArrays; dsimp only; blk_ext [iblk, V, (whole_index t).2.2.2.1]

theorem blk5 (t : Fin cfg0.N) (j : Fin 512) : iblk m c 5 t (ix2 0 j) = (kernelArrays m c).lb j := by
  have e : iblk m c 5 t (ix2 0 j) = (V m c main_v5 : S1x512.Idx → EReal) (ix2 0 j) := by blk_ext [iblk, (whole_index t).2.2.2.2.1]
  rw [e]
  unfold V
  simp only [List.flatten_cons, List.flatten_nil, List.append_nil, List.cons_append, List.nil_append]
  after_reads_at
  pointwise [id, kernelArrays]

theorem blk6 (t : Fin cfg0.N) (a : Fin 4) (j : Fin 1536) : iblk m c 6 t (ix2 a j) = (kernelArrays m c).sw a j := by
  unfold kernelArrays; dsimp only; blk_ext [iblk, V, (whole_index t).2.2.2.2.2.1]

theorem blk7 (t : Fin cfg0.N) (j : Fin 1536) : iblk m c 7 t (ix2 0 j) = (kernelArrays m c).sb j := by
  have e : iblk m c 7 t (ix2 0 j) = (V m c main_v6 : S1x1536.Idx → EReal) (ix2 0 j) := by blk_ext [iblk, (whole_index t).2.2.2.2.2.2]
  rw [e]
  unfold V
  simp only [List.flatten_cons, List.flatten_nil, List.append_nil, List.cons_append, List.nil_append]
  after_reads_at
  pointwise [id, kernelArrays]

end Cert.InProj

end
-- ==== Proof.InProj.Rows.lean ====
/- The tile's values as rows of the layer's formulas: the projected columns a tile computes, and its convolution over the
   rows carried in from the tile before it. -/
module

public import proofs.«01_k».proof.Proof.InProj.Blocks

@[expose] public section

noncomputable section

namespace Cert.InProj

open Idealize.ShloMosaic Idealize.ShloMosaic.TcCoe Idealize.SL.Sem Cert.ProjectionIdeal Cert.ProjectionIdeal.Gen

/-- The convolution of a tile, whose rows and carried rows are a batch's column, is the batch's convolution. -/
theorem conv_tile (D : Arrays) (b : Fin 4) (k : ℕ) (J : Fin 5648) (v : FVec Ideal S512x512 .f32) (s : Vec Ideal S8x512 .f32)
    (bias w3 w2 w1 w0 : Vec Ideal S1x512 .f32) (r j : Fin 512)
    (hv : ∀ r : Fin 512, v (ix2 r j) = D.col b J (512 * (k : ℤ) + (r.val : ℤ)))
    (hs : ∀ a : Fin 8, s (ix2 a j) = D.col b J (512 * (k : ℤ) - 8 + (a.val : ℤ)))
    (W : Fin 4 → EReal) (B : EReal) (h0 : w0 (ix2 0 j) = W 0) (h1 : w1 (ix2 0 j) = W 1) (h2 : w2 (ix2 0 j) = W 2) (h3 : w3 (ix2 0 j) = W 3)
    (hB : bias (ix2 0 j) = B) :
    convTile v s bias w3 w2 w1 w0 (ix2 r j) = conv (D.col b J) W B (512 * (k : ℤ) + (r.val : ℤ)) := by
  have hd : ∀ d : ℤ, 0 ≤ d → d ≤ 3 → before s v j ((r.val : ℤ) - d) = D.col b J (512 * (k : ℤ) + (r.val : ℤ) - d) := by
    intro d hd0 hd3
    have hr := r.isLt
    unfold before
    by_cases h : 0 ≤ (r.val : ℤ) - d
    · rw [dif_pos h, dif_pos (by omega), hv]
      refine congrArg _ ?_
      show 512 * (k : ℤ) + ((((r.val : ℤ) - d).toNat : ℕ) : ℤ) = _
      omega
    · rw [dif_neg h, dif_pos (by omega), hs]
      refine congrArg _ ?_
      show 512 * (k : ℤ) - 8 + ((((r.val : ℤ) - d + 8).toNat : ℕ) : ℤ) = _
      omega
  have e0 := hd 0 (by omega) (by omega)
  rw [sub_zero, sub_zero] at e0
  rw [conv_at]
  unfold conv
  rw [e0, hd 1 (by omega) (by omega), hd 2 (by omega) (by omega), hd 3 (by omega) (by omega)]
  show bias (ix2 0 j) + _ * w3 (ix2 0 j) + _ * w2 (ix2 0 j) + _ * w1 (ix2 0 j) + _ * w0 (ix2 0 j) = _
  rw [h0, h1, h2, h3, hB]

variable (m : (ℓ : Loc nD τ sig) → Buf (Elt Ideal) ℓ) (c : Dev nD)

/-- A load of 512 columns. -/
theorem ld_cols (x : Vec Ideal S1024x5648 .bf16) (off : ℕ) (inb) (h : off + 512 ≤ 5648) (k : Fin 1024) (j : Fin 512) :
    View.ld x (Rect.unit (s := S1024x5648) ![0, off] S1024x512.size inb) (ix2 k j) = x (ix2 k ⟨off + j.val, by omega⟩) := by
  refine congrArg x (funext fun a => Fin.ext ?_)
  fin_cases a
  · show 0 + 1 * k.val = k.val
    omega
  · show off + 1 * j.val = off + j.val
    omega

/-- A load of 512 of a row of taps. -/
theorem ld_tap (n : ℕ) (x : (⟨2, ![4, n]⟩ : Shape).Idx → EReal) (p off : ℕ) (inb) (hp : p < 4) (h : off + 512 ≤ n) (j : Fin 512) :
    View.ld (Val := Elt Ideal) (e' := .f32) x (Rect.unit (s := ⟨2, ![4, n]⟩) ![p, off] S1x512.size inb) (ix2 0 j) = x (ix2 ⟨p, hp⟩ ⟨off + j.val, by omega⟩) := by
  refine congrArg x (funext fun a => Fin.ext ?_)
  fin_cases a
  · show p + 1 * 0 = p
    omega
  · show off + 1 * j.val = off + j.val
    omega

/-- A load of 512 of the biases. -/
theorem ld_bias (n : ℕ) (x : (⟨2, ![1, n]⟩ : Shape).Idx → EReal) (off : ℕ) (inb) (h : off + 512 ≤ n) (j : Fin 512) :
    View.ld (Val := Elt Ideal) (e' := .f32) x (Rect.unit (s := ⟨2, ![1, n]⟩) ![0, off] S1x512.size inb) (ix2 0 j) = x (ix2 0 ⟨off + j.val, by omega⟩) := by
  refine congrArg x (funext fun a => Fin.ext ?_)
  fin_cases a
  · rfl
  · show off + 1 * j.val = off + j.val
    omega

/-- A load of 512 columns of the carried rows. -/
theorem ld_carry (n : ℕ) (x : (⟨2, ![8, n]⟩ : Shape).Idx → EReal) (off : ℕ) (inb) (h : off + 512 ≤ n) (a : Fin 8) (j : Fin 512) :
    View.ld (Val := Elt Ideal) (e' := .f32) x (Rect.unit (s := ⟨2, ![8, n]⟩) ![0, off] S8x512.size inb) (ix2 a j) = x (ix2 a ⟨off + j.val, by omega⟩) := by
  refine congrArg x (funext fun q => Fin.ext ?_)
  fin_cases q
  · show 0 + 1 * a.val = a.val
    omega
  · show off + 1 * j.val = off + j.val
    omega

section Tile

variable (t : Fin cfg0.N) (b : Fin 4) (n : Fin 4096) (r : Fin 512) (hb : b.val = t.val / 8) (hn : n.val = 512 * (t.val % 8) + r.val)

include hb hn

/-- A tile's projected row against 512 columns of the weights is the batch's. -/
theorem pr_cols (off : ℕ) (inb) (h : off + 512 ≤ 5648) (j : Fin 512) :
    pr (iblk m c 0 t) (iblk m c 1 t) (View.ld (iblk m c 2 t) (Rect.unit (s := S1024x5648) ![0, off] S1024x512.size inb)) r j
      = (kernelArrays m c).u b n ⟨off + j.val, by omega⟩ := by
  unfold pr Arrays.u row
  refine Finset.sum_congr rfl fun k _ => ?_
  refine congr_arg₂ _ ?_ ((ld_cols (iblk m c 2 t) off inb h k j).trans (blk2 m c t k _))
  have e0 : (fun i => iblk m c 0 t (ix3 0 r i)) = (kernelArrays m c).x b n := funext fun i => blk0 m c t b n r hb hn i
  have e1 : (fun i => iblk m c 1 t (ix2 0 i)) = (kernelArrays m c).g := funext fun i => blk1 m c t i
  exact congr_arg₂ (fun x g => normed x g k) e0 e1

/-- The last sixteen columns, zero beyond. -/
theorem pr_dt (l : Fin 128) : ∑ k : Fin 1024, row (iblk m c 0 t) (iblk m c 1 t) r k * iblk m c 3 t (ix2 k l)
    = if h : l.val < 16 then (kernelArrays m c).u b n ⟨5632 + l.val, by omega⟩ else 0 := by
  have e0 : (fun i => iblk m c 0 t (ix3 0 r i)) = (kernelArrays m c).x b n := funext fun i => blk0 m c t b n r hb hn i
  have e1 : (fun i => iblk m c 1 t (ix2 0 i)) = (kernelArrays m c).g := funext fun i => blk1 m c t i
  split_ifs with h
  · unfold Arrays.u row
    refine Finset.sum_congr rfl fun k _ => ?_
    refine congr_arg₂ _ (congr_arg₂ (fun x g => normed x g k) e0 e1) ((blk3 m c t k l).trans (dif_pos h))
  · refine Finset.sum_eq_zero fun k _ => ?_
    rw [blk3, dif_neg h, mul_zero]

end Tile

end Cert.InProj

end
-- ==== Proof.InProj.Points.lean ====
/- What the pieces a grid point stores hold, as rows of the layer's formulas: the projected columns of its tile, the
   convolutions over the rows carried in, and the rows it reads where the scratch blocks were just zeroed. -/
module

public import proofs.«01_k».proof.Proof.InProj.Rows

@[expose] public section

set_option maxRecDepth 16384

noncomputable section

namespace Cert.InProj

open Idealize.ShloMosaic Idealize.ShloMosaic.TcCoe Idealize.SL.Sem Cert.ProjectionIdeal Cert.ProjectionIdeal.Gen

theorem hz2 : (![0, 0] : Fin 2 → Nat) = fun _ => 0 := funext fun a => by fin_cases a <;> rfl

theorem hz3 : (![0, 0, 0] : Fin 3 → Nat) = fun _ => 0 := funext fun a => by fin_cases a <;> rfl

theorem carry0_read (X : S8x512.Idx → EReal) :
    View.read (Elt Ideal) (View.whole cc0_scratch0) ((Memref.isWhole_whole cc0_scratch0).unread (Val := Elt Ideal) X) = X :=
  Memref.IsWhole.read_unread (Val := Elt Ideal) (Memref.isWhole_whole cc0_scratch0) X

theorem carry1_read (X : S8x1536.Idx → EReal) :
    View.read (Elt Ideal) (View.whole cc0_scratch1) ((Memref.isWhole_whole cc0_scratch1).unread (Val := Elt Ideal) X) = X :=
  Memref.IsWhole.read_unread (Val := Elt Ideal) (Memref.isWhole_whole cc0_scratch1) X

section Zero

/-- The rows of the first scratch block, read after it was zeroed. -/
theorem zero0 (i i') (a : Fin 8) (j : Fin 512) :
    (View.whole cc0_scratch0).readCov (Val := Elt Ideal) [⟨Rect.unit ![0, 0] ![8, 512] i, k0_pay9 (F := Ideal)⟩]
      (Rect.unit (s := S8x512) ![0, 0] ![8, 512] i').toLoadRect (ix2 a j) = (0 : EReal) := by
  rw [View.readCov_eq_canon_ld _ _ (Rect.unit (s := S8x512) ![0, 0] ![8, 512] i') (by
      intro y
      exact ⟨_, List.mem_singleton_self _, View.mem_set_unit_zero (S := S8x512) hz2 i y⟩),
    View.canon_unit_zero (S := S8x512) hz2]
  exact (ld_carry 512 _ 0 _ (by omega) a j).trans (pay9_at a _)

theorem whole1 (i) (L : List (View.Piece (Elt Ideal) S8x1536 .f32)) (h : (⟨Rect.unit (s := S8x1536) ![0, 0] ![8, 1536] i, k0_pay10 (F := Ideal)⟩ : View.Piece (Elt Ideal) S8x1536 .f32) ∈ L)
    (y : S8x1536.Idx) : ∃ p ∈ L, y ∈ p.1.set :=
  ⟨_, h, View.mem_set_unit_zero (S := S8x1536) hz2 i y⟩

/-- The rows of the second scratch block, read after it was zeroed, from the columns not stored since. -/
theorem zero1_0 (i i') (a : Fin 8) (j : Fin 512) :
    (View.whole cc0_scratch1).readCov (Val := Elt Ideal) [⟨Rect.unit ![0, 0] ![8, 1536] i, k0_pay10 (F := Ideal)⟩]
      (Rect.unit (s := S8x1536) ![0, 0] ![8, 512] i').toLoadRect (ix2 a j) = (0 : EReal) := by
  rw [View.readCov_eq_canon_ld _ _ (Rect.unit (s := S8x1536) ![0, 0] ![8, 512] i') (by
      intro y
      exact whole1 i _ (by simp) _),
    View.canon_unit_zero (S := S8x1536) hz2]
  exact (ld_carry 1536 _ 0 _ (by omega) a j).trans (pay10_at a _)

theorem zero1_512 (i i' i0 p0) (a : Fin 8) (j : Fin 512) :
    (View.whole cc0_scratch1).readCov (Val := Elt Ideal) [⟨Rect.unit ![0, 0] ![8, 512] i0, p0⟩, ⟨Rect.unit ![0, 0] ![8, 1536] i, k0_pay10 (F := Ideal)⟩]
      (Rect.unit (s := S8x1536) ![0, 512] ![8, 512] i').toLoadRect (ix2 a j) = (0 : EReal) := by
  rw [View.readCov_eq_canon_ld _ _ (Rect.unit (s := S8x1536) ![0, 512] ![8, 512] i') (by
      intro y
      exact whole1 i _ (by simp) _)]
  refine (ld_carry 1536 _ 512 _ (by omega) a j).trans ?_
  rw [View.canon_cons_of_not_mem _ _ (fun hm => ?_), View.canon_unit_zero (S := S8x1536) hz2]
  · exact pay10_at a _
  · have := (Rect.mem_set_unit (inb := i0).mp hm) 1
    have h2 : 512 + j.val < 0 + 512 := this.2
    omega

theorem zero1_1024 (i i' i0 p0 i1 p1) (a : Fin 8) (j : Fin 512) :
    (View.whole cc0_scratch1).readCov (Val := Elt Ideal) [⟨Rect.unit ![0, 512] ![8, 512] i1, p1⟩, ⟨Rect.unit ![0, 0] ![8, 512] i0, p0⟩,
        ⟨Rect.unit ![0, 0] ![8, 1536] i, k0_pay10 (F := Ideal)⟩]
      (Rect.unit (s := S8x1536) ![0, 1024] ![8, 512] i').toLoadRect (ix2 a j) = (0 : EReal) := by
  rw [View.readCov_eq_canon_ld _ _ (Rect.unit (s := S8x1536) ![0, 1024] ![8, 512] i') (by
      intro y
      exact whole1 i _ (by simp) _)]
  refine (ld_carry 1536 _ 1024 _ (by omega) a j).trans ?_
  rw [View.canon_cons_of_not_mem _ _ (fun hm => ?_), View.canon_cons_of_not_mem _ _ (fun hm => ?_), View.canon_unit_zero (S := S8x1536) hz2]
  · exact pay10_at a _
  · have := (Rect.mem_set_unit (inb := i0).mp hm) 1
    have h2 : 1024 + j.val < 0 + 512 := this.2
    omega
  · have := (Rect.mem_set_unit (inb := i1).mp hm) 1
    have h2 : 1024 + j.val < 512 + 512 := this.2
    omega

/-- Rows before the start of a batch are zero. -/
theorem col_before (D : Arrays) (b : Fin 4) (J : Fin 5648) (n : ℤ) (h : n < 0) : D.col b J n = 0 := by
  unfold Arrays.col
  rw [dif_neg (by omega)]

end Zero

variable (m : (ℓ : Loc nD τ sig) → Buf (Elt Ideal) ℓ) (c : Dev nD) (t : Fin cfg0.N) (b : Fin 4) (hb : b.val = t.val / 8)

/-- Row `r` of the tile at grid point `t`. -/
abbrev rowOf (t : Fin cfg0.N) (r : Fin 512) : ℤ := 512 * ((t.val % 8 : ℕ) : ℤ) + (r.val : ℤ)

/-- A tile's rows against 512 columns of the weights. -/
abbrev tileCols (off : ℕ) (inb : ∀ a, (![0, off] : Fin 2 → ℕ) a + S1024x512.size a ≤ S1024x5648.size a) : FVec Ideal S512x512 .f32 :=
  k0_pay25 (k0_pay8 (iblk m c 0 t) (iblk m c 1 t)) (View.ld (iblk m c 2 t) (Rect.unit (s := S1024x5648) ![0, off] S1024x512.size inb))

include hb

theorem pr_col (off : ℕ) (inb : ∀ a, (![0, off] : Fin 2 → ℕ) a + S1024x512.size a ≤ S1024x5648.size a) (h : off + 512 ≤ 5648) (r j : Fin 512) :
    pr (iblk m c 0 t) (iblk m c 1 t) (View.ld (iblk m c 2 t) (Rect.unit (s := S1024x5648) ![0, off] S1024x512.size inb)) r j
      = (kernelArrays m c).col b ⟨off + j.val, by omega⟩ (rowOf t r) := by
  have hk : 512 * (t.val % 8) + r.val < 4096 := by have := r.isLt; omega
  rw [pr_cols m c t b ⟨512 * (t.val % 8) + r.val, hk⟩ r hb rfl off inb h j, ← Arrays.col_nat]
  refine congrArg _ ?_
  show ((512 * (t.val % 8) + r.val : ℕ) : ℤ) = _
  push_cast
  rfl

theorem cols_col (off : ℕ) (inb : ∀ a, (![0, off] : Fin 2 → ℕ) a + S1024x512.size a ≤ S1024x5648.size a) (h : off + 512 ≤ 5648) (r j : Fin 512) :
    tileCols m c t off inb (ix2 r j) = (kernelArrays m c).col b ⟨off + j.val, by omega⟩ (rowOf t r) :=
  (pay25_at _ _ _ r j).trans (pr_col m c t b hb off inb h r j)

/-- A tile's rows in the layout of head pairs. -/
theorem planes (off : ℕ) (inb : ∀ a, (![0, off] : Fin 2 → ℕ) a + S1024x512.size a ≤ S1024x5648.size a) (h : off + 512 ≤ 5648) (i0 i1 i2 i3) (p : Fin 4) (r : Fin 512) (l : Fin 128) :
    View.canon (Val := Elt Ideal) (s := S4x1x512x128) (e := .f32) [⟨Rect.unit ![3, 0, 0, 0] S1x1x512x128.size i3, k0_pay44 (tileCols m c t off inb)⟩,
      ⟨Rect.unit ![2, 0, 0, 0] S1x1x512x128.size i2, k0_pay43 (tileCols m c t off inb)⟩,
      ⟨Rect.unit ![1, 0, 0, 0] S1x1x512x128.size i1, k0_pay42 (tileCols m c t off inb)⟩,
      ⟨Rect.unit ![0, 0, 0, 0] S1x1x512x128.size i0, k0_pay41 (tileCols m c t off inb)⟩] (ix4 p 0 r l)
      = (kernelArrays m c).col b ⟨off + (128 * p.val + l.val), by omega⟩ (rowOf t r) :=
  planes_at _ _ _ _ (fun r j => (kernelArrays m c).col b ⟨off + j.val, by omega⟩ (rowOf t r)) i0 i1 i2 i3
    (fun r l => (pay41_at _ r l).trans (cols_col m c t b hb off inb h r _))
    (fun r l => (pay42_at _ r l).trans (cols_col m c t b hb off inb h r _))
    (fun r l => (pay43_at _ r l).trans (cols_col m c t b hb off inb h r _))
    (fun r l => (pay44_at _ r l).trans (cols_col m c t b hb off inb h r _)) p r l

/-- The queries' rows, scaled. -/
theorem scaled (inb : ∀ a, (![0, 1024] : Fin 2 → ℕ) a + S1024x512.size a ≤ S1024x5648.size a) (i0 i1 i2 i3) (p : Fin 4) (r : Fin 512) (l : Fin 128) :
    View.canon (Val := Elt Ideal) (s := S4x1x512x128) (e := .f32) [
      ⟨Rect.unit ![3, 0, 0, 0] S1x1x512x128.size i3, k0_pay44 (k0_pay12 (iblk m c 0 t) (iblk m c 1 t) (View.ld (iblk m c 2 t) (Rect.unit (s := S1024x5648) ![0, 1024] S1024x512.size inb)))⟩,
      ⟨Rect.unit ![2, 0, 0, 0] S1x1x512x128.size i2, k0_pay43 (k0_pay12 (iblk m c 0 t) (iblk m c 1 t) (View.ld (iblk m c 2 t) (Rect.unit (s := S1024x5648) ![0, 1024] S1024x512.size inb)))⟩,
      ⟨Rect.unit ![1, 0, 0, 0] S1x1x512x128.size i1, k0_pay42 (k0_pay12 (iblk m c 0 t) (iblk m c 1 t) (View.ld (iblk m c 2 t) (Rect.unit (s := S1024x5648) ![0, 1024] S1024x512.size inb)))⟩,
      ⟨Rect.unit ![0, 0, 0, 0] S1x1x512x128.size i0, k0_pay41 (k0_pay12 (iblk m c 0 t) (iblk m c 1 t) (View.ld (iblk m c 2 t) (Rect.unit (s := S1024x5648) ![0, 1024] S1024x512.size inb)))⟩] (ix4 p 0 r l)
      = (kernelArrays m c).col b ⟨1024 + (128 * p.val + l.val), by omega⟩ (rowOf t r) * Ideal.ofBits FTy.f32 0x3E000000#32 :=
  planes_at _ _ _ _ (fun r j => (kernelArrays m c).col b ⟨1024 + j.val, by omega⟩ (rowOf t r) * Ideal.ofBits FTy.f32 0x3E000000#32) i0 i1 i2 i3
    (fun r l => (pay41_at _ r l).trans ((pay12_at _ _ _ r _).trans (congrArg (· * _) (pr_col m c t b hb 1024 inb (by omega) r _))))
    (fun r l => (pay42_at _ r l).trans ((pay12_at _ _ _ r _).trans (congrArg (· * _) (pr_col m c t b hb 1024 inb (by omega) r _))))
    (fun r l => (pay43_at _ r l).trans ((pay12_at _ _ _ r _).trans (congrArg (· * _) (pr_col m c t b hb 1024 inb (by omega) r _))))
    (fun r l => (pay44_at _ r l).trans ((pay12_at _ _ _ r _).trans (congrArg (· * _) (pr_col m c t b hb 1024 inb (by omega) r _)))) p r l

/-- The window's plane of columns, and the empty one. -/
theorem window (off : ℕ) (inb : ∀ a, (![0, off] : Fin 2 → ℕ) a + S1024x512.size a ≤ S1024x5648.size a) (h : off + 512 ≤ 5648) (i0 i1) (p : Fin 2) (i r : Fin 512) :
    View.canon (Val := Elt Ideal) (s := S2x1x512x512) (e := .f32) [⟨Rect.unit ![1, 0, 0, 0] S1x1x512x512.size i1, k0_pay5 (F := Ideal)⟩,
      ⟨Rect.unit ![0, 0, 0, 0] S1x1x512x512.size i0, k0_pay4 (tileCols m c t off inb)⟩] (ix4 p 0 i r)
      = if p = 0 then (kernelArrays m c).col b ⟨off + i.val, by omega⟩ (rowOf t r) else 0 := by
  match p with
  | 0 =>
    rw [if_pos rfl, ← cols_col m c t b hb off inb h r i, ← pay4_at (tileCols m c t off inb) i r]
    exact (window_at _ _ i0 i1 i r).1
  | 1 => rw [if_neg (by decide)]; exact ((window_at _ _ i0 i1 i r).2).trans (pay5_at i r)

/-- The last eight rows of a tile. -/
theorem last_rows (off : ℕ) (inb : ∀ a, (![0, off] : Fin 2 → ℕ) a + S1024x512.size a ≤ S1024x5648.size a) (h : off + 512 ≤ 5648) (a : Fin 8) (j : Fin 512) :
    tileCols m c t off inb (ix2 ⟨504 + a.val, by omega⟩ j)
      = (kernelArrays m c).col b ⟨off + j.val, by omega⟩ (512 * ((t.val % 8 : ℕ) : ℤ) + 504 + (a.val : ℤ)) := by
  rw [cols_col m c t b hb off inb h]
  refine congrArg _ ?_
  show 512 * ((t.val % 8 : ℕ) : ℤ) + ((504 + a.val : ℕ) : ℤ) = _
  push_cast
  ring

/-- The padded last columns. -/
theorem dt_col (r : Fin 512) (l : Fin 128) : k0_pay1 (k0_pay8 (iblk m c 0 t) (iblk m c 1 t)) (iblk m c 3 t) (ix3 0 r l)
    = if h : l.val < 16 then (kernelArrays m c).col b ⟨5632 + l.val, by omega⟩ (rowOf t r) else 0 := by
  have hk : 512 * (t.val % 8) + r.val < 4096 := by have := r.isLt; omega
  rw [pay1_at, pr_dt m c t b ⟨512 * (t.val % 8) + r.val, hk⟩ r hb rfl]
  split_ifs with h
  · rw [← Arrays.col_nat]
    refine congrArg _ ?_
    show ((512 * (t.val % 8) + r.val : ℕ) : ℤ) = _
    push_cast
    rfl
  · rfl

/-- The first convolution of a tile, over the rows carried in. -/
theorem lru_tile (inb : ∀ a, (![0, 0] : Fin 2 → ℕ) a + S1024x512.size a ≤ S1024x5648.size a) (i3 i2 i1 i0) (x5 : Vec Ideal S1x512 .f32) (e5 : x5 = iblk m c 5 t) (s : Vec Ideal S8x512 .f32) (r j : Fin 512)
    (hs : ∀ a : Fin 8, s (ix2 a j) = (kernelArrays m c).col b ⟨j.val, by omega⟩ (512 * ((t.val % 8 : ℕ) : ℤ) - 8 + (a.val : ℤ))) :
    convTile (tileCols m c t 0 inb) s x5
      (View.ld (iblk m c 4 t) (Rect.unit (s := S4x512) ![3, 0] S1x512.size i3)) (View.ld (iblk m c 4 t) (Rect.unit (s := S4x512) ![2, 0] S1x512.size i2))
      (View.ld (iblk m c 4 t) (Rect.unit (s := S4x512) ![1, 0] S1x512.size i1)) (View.ld (iblk m c 4 t) (Rect.unit (s := S4x512) ![0, 0] S1x512.size i0)) (ix2 r j)
      = conv ((kernelArrays m c).col b ⟨j.val, by omega⟩) (fun a => (kernelArrays m c).lw a j) ((kernelArrays m c).lb j) (rowOf t r) := by
  have hj : (⟨0 + j.val, by omega⟩ : Fin 512) = j := Fin.ext (Nat.zero_add _)
  have hJ : (⟨0 + j.val, by omega⟩ : Fin 5648) = ⟨j.val, by omega⟩ := Fin.ext (Nat.zero_add _)
  have tap : ∀ (p : ℕ) (hp : p < 4) (i), View.ld (Val := Elt Ideal) (e' := .f32) (iblk m c 4 t) (Rect.unit (s := S4x512) ![p, 0] S1x512.size i) (ix2 0 j) = (kernelArrays m c).lw ⟨p, hp⟩ j := by
    intro p hp i
    refine (ld_tap 512 (iblk m c 4 t) p 0 i hp (by omega) j).trans ((blk4 m c t _ _).trans ?_)
    rw [hj]
  refine conv_tile (kernelArrays m c) b (t.val % 8) ⟨j.val, by omega⟩ _ s _ _ _ _ _ r j (fun r => ?_) hs _ _
    (tap 0 (by omega) i0) (tap 1 (by omega) i1) (tap 2 (by omega) i2) (tap 3 (by omega) i3) ?_
  · rw [cols_col m c t b hb 0 inb (by omega), hJ]
  · rw [e5]
    exact blk5 m c t j

/-- A third of the second convolution of a tile, over the rows carried in. -/
theorem xbc_tile (off O : ℕ) (hO : O = 4096 + off) (hoff : off + 512 ≤ 1536) (inb : ∀ a, (![0, O] : Fin 2 → ℕ) a + S1024x512.size a ≤ S1024x5648.size a) (ib i3 i2 i1 i0) (s : Vec Ideal S8x512 .f32) (r j : Fin 512)
    (hs : ∀ a : Fin 8, s (ix2 a j) = (kernelArrays m c).col b ⟨4096 + (off + j.val), by omega⟩ (512 * ((t.val % 8 : ℕ) : ℤ) - 8 + (a.val : ℤ))) :
    silu (convTile (tileCols m c t O inb) s (View.ld (iblk m c 7 t) (Rect.unit (s := S1x1536) ![0, off] S1x512.size ib))
      (View.ld (iblk m c 6 t) (Rect.unit (s := S4x1536) ![3, off] S1x512.size i3)) (View.ld (iblk m c 6 t) (Rect.unit (s := S4x1536) ![2, off] S1x512.size i2))
      (View.ld (iblk m c 6 t) (Rect.unit (s := S4x1536) ![1, off] S1x512.size i1)) (View.ld (iblk m c 6 t) (Rect.unit (s := S4x1536) ![0, off] S1x512.size i0)) (ix2 r j))
      = silu (conv ((kernelArrays m c).col b ⟨4096 + (off + j.val), by omega⟩) (fun a => (kernelArrays m c).sw a ⟨off + j.val, by omega⟩) ((kernelArrays m c).sb ⟨off + j.val, by omega⟩) (rowOf t r)) := by
  subst hO
  have hJ : (⟨4096 + off + j.val, by omega⟩ : Fin 5648) = ⟨4096 + (off + j.val), by omega⟩ := Fin.ext (Nat.add_assoc _ _ _)
  have tap : ∀ (p : ℕ) (hp : p < 4) (i), View.ld (Val := Elt Ideal) (e' := .f32) (iblk m c 6 t) (Rect.unit (s := S4x1536) ![p, off] S1x512.size i) (ix2 0 j) = (kernelArrays m c).sw ⟨p, hp⟩ ⟨off + j.val, by omega⟩ :=
    fun p hp i => (ld_tap 1536 (iblk m c 6 t) p off i hp hoff j).trans (blk6 m c t _ _)
  refine congrArg silu (conv_tile (kernelArrays m c) b (t.val % 8) ⟨4096 + (off + j.val), by omega⟩ _ s _ _ _ _ _ r j (fun r => ?_) hs _ _
    (tap 0 (by omega) i0) (tap 1 (by omega) i1) (tap 2 (by omega) i2) (tap 3 (by omega) i3) ?_)
  · rw [cols_col m c t b hb (4096 + off) inb (by omega), hJ]
  · exact (ld_bias 1536 (iblk m c 7 t) off ib hoff j).trans (blk7 m c t _)

end Cert.InProj

end
-- ==== Proof.InProj.OutA.lean ====
/- What the first tile of a batch leaves in each output block. -/
module

public import proofs.«01_k».proof.Proof.InProj.Points
public import proofs.«01_k».proof.Proof.Gen.ProjectionIdeal.Frame

@[expose] public section

set_option maxRecDepth 16384

noncomputable section

namespace Cert.InProj

open Idealize.ShloMosaic Idealize.ShloMosaic.TcCoe Idealize.ShloMosaic.Tactic Idealize.SL.Sem Cert.ProjectionIdeal Cert.ProjectionIdeal.Gen

variable (m : (ℓ : Loc nD τ sig) → Buf (Elt Ideal) ℓ) (c : Dev nD) (t : Fin cfg0.N) (b : Fin 4) (hb : b.val = t.val / 8)

include hb

theorem out_8_A (h0 : t.val % 8 = 0) (h1 : ¬4 ≤ t.val % 8) (r j : Fin 512) :
    (outsAt0 m c t.val t.isLt).1 (ix3 0 r j) = conv ((kernelArrays m c).col b ⟨j.val, by omega⟩) (fun a => (kernelArrays m c).lw a j) ((kernelArrays m c).lb j) (rowOf t r) := by
  refine (congrFun (congrArg (fun o => o.1) (outsAt0_A m c t h0 h1)) (ix3 0 r j)).trans ?_
  dsimp only
  unfold out0_A_8
  rw [View.read_writes_eq_canon _ _ _ (fun y => cover0_A_8 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  refine (pay58_at _ _ _ _ _ _ r j _ _).trans ?_
  refine lru_tile m c t b hb _ _ _ _ _ _ rfl _ r j fun a => ?_
  refine (zero0 _ _ a j).trans (col_before _ _ _ _ ?_).symm
  have := a.isLt
  omega

theorem out_9_A (h0 : t.val % 8 = 0) (h1 : ¬4 ≤ t.val % 8) (r j : Fin 512) :
    (outsAt0 m c t.val t.isLt).2.1 (ix3 0 r j) = silu ((kernelArrays m c).col b ⟨512 + j.val, by omega⟩ (rowOf t r)) := by
  refine (congrFun (congrArg (fun o => o.2.1) (outsAt0_A m c t h0 h1)) (ix3 0 r j)).trans ?_
  dsimp only
  unfold out0_A_9
  rw [View.read_writes_eq_canon _ _ _ (fun y => cover0_A_9 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay3_at _ _ _ r j).trans (congrArg silu (pr_col m c t b hb 512 _ (by omega) r j))

theorem out_10_A (h0 : t.val % 8 = 0) (h1 : ¬4 ≤ t.val % 8) (p : Fin 4) (r : Fin 512) (l : Fin 128) :
    (outsAt0 m c t.val t.isLt).2.2.1 (ix4 p 0 r l) = (kernelArrays m c).col b ⟨1024 + (128 * p.val + l.val), by omega⟩ (rowOf t r) * Ideal.ofBits FTy.f32 0x3E000000#32 := by
  refine (congrFun (congrArg (fun o => o.2.2.1) (outsAt0_A m c t h0 h1)) (ix4 p 0 r l)).trans ?_
  dsimp only
  unfold out0_A_10
  rw [View.read_writes_eq_canon _ _ _ (fun y => cover0_A_10 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact scaled m c t b hb _ _ _ _ _ p r l

theorem out_11_A (h0 : t.val % 8 = 0) (h1 : ¬4 ≤ t.val % 8) (p : Fin 4) (r : Fin 512) (l : Fin 128) :
    (outsAt0 m c t.val t.isLt).2.2.2.1 (ix4 p 0 r l) = (kernelArrays m c).col b ⟨1536 + (128 * p.val + l.val), by omega⟩ (rowOf t r) := by
  refine (congrFun (congrArg (fun o => o.2.2.2.1) (outsAt0_A m c t h0 h1)) (ix4 p 0 r l)).trans ?_
  dsimp only
  unfold out0_A_11
  rw [View.read_writes_eq_canon _ _ _ (fun y => cover0_A_11 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact planes m c t b hb 1536 _ (by omega) _ _ _ _ p r l

theorem out_12_A (h0 : t.val % 8 = 0) (h1 : ¬4 ≤ t.val % 8) (p : Fin 4) (r : Fin 512) (l : Fin 128) :
    (outsAt0 m c t.val t.isLt).2.2.2.2.1 (ix4 p 0 r l) = (kernelArrays m c).col b ⟨2048 + (128 * p.val + l.val), by omega⟩ (rowOf t r) := by
  refine (congrFun (congrArg (fun o => o.2.2.2.2.1) (outsAt0_A m c t h0 h1)) (ix4 p 0 r l)).trans ?_
  dsimp only
  unfold out0_A_12
  rw [View.read_writes_eq_canon _ _ _ (fun y => cover0_A_12 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact planes m c t b hb 2048 _ (by omega) _ _ _ _ p r l

theorem out_13_A (h0 : t.val % 8 = 0) (h1 : ¬4 ≤ t.val % 8) (r j : Fin 512) :
    (outsAt0 m c t.val t.isLt).2.2.2.2.2.1 (ix3 0 r j) = (kernelArrays m c).col b ⟨2560 + j.val, by omega⟩ (rowOf t r) := by
  refine (congrFun (congrArg (fun o => o.2.2.2.2.2.1) (outsAt0_A m c t h0 h1)) (ix3 0 r j)).trans ?_
  dsimp only
  unfold out0_A_13
  rw [View.read_writes_eq_canon _ _ _ (fun y => cover0_A_13 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay51_at _ _ _ r j).trans (pr_col m c t b hb 2560 _ (by omega) r j)

theorem out_14_A_0 (h0 : t.val % 8 = 0) (h1 : ¬4 ≤ t.val % 8) (r j : Fin 512) :
    (outsAt0 m c t.val t.isLt).2.2.2.2.2.2.1 (ix3 0 r ⟨j.val, by omega⟩) = silu ((kernelArrays m c).col b ⟨3072 + j.val, by omega⟩ (rowOf t r)) := by
  refine (congrFun (congrArg (fun o => o.2.2.2.2.2.2.1) (outsAt0_A m c t h0 h1)) (ix3 0 r ⟨j.val, by omega⟩)).trans ?_
  dsimp only
  unfold out0_A_14
  rw [View.read_writes_eq_canon _ _ _ (fun y => cover0_A_14 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((halves_at _ _ _ _ r j).1).trans ?_
  exact (pay2_at _ _ _ r j).trans (congrArg silu (pr_col m c t b hb 3072 _ (by omega) r j))

theorem out_14_A_1 (h0 : t.val % 8 = 0) (h1 : ¬4 ≤ t.val % 8) (r j : Fin 512) :
    (outsAt0 m c t.val t.isLt).2.2.2.2.2.2.1 (ix3 0 r ⟨512 + j.val, by omega⟩) = silu ((kernelArrays m c).col b ⟨3584 + j.val, by omega⟩ (rowOf t r)) := by
  refine (congrFun (congrArg (fun o => o.2.2.2.2.2.2.1) (outsAt0_A m c t h0 h1)) (ix3 0 r ⟨512 + j.val, by omega⟩)).trans ?_
  dsimp only
  unfold out0_A_14
  rw [View.read_writes_eq_canon _ _ _ (fun y => cover0_A_14 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((halves_at _ _ _ _ r j).2).trans ?_
  exact (pay2_at _ _ _ r j).trans (congrArg silu (pr_col m c t b hb 3584 _ (by omega) r j))

theorem out_15_A_0 (h0 : t.val % 8 = 0) (h1 : ¬4 ≤ t.val % 8) (r j : Fin 512) :
    (outsAt0 m c t.val t.isLt).2.2.2.2.2.2.2.1 (ix3 0 r ⟨j.val, by omega⟩) = silu (conv ((kernelArrays m c).col b ⟨4096 + (0 + j.val), by omega⟩) (fun a => (kernelArrays m c).sw a ⟨0 + j.val, by omega⟩) ((kernelArrays m c).sb ⟨0 + j.val, by omega⟩) (rowOf t r)) := by
  refine (congrFun (congrArg (fun o => o.2.2.2.2.2.2.2.1) (outsAt0_A m c t h0 h1)) (ix3 0 r ⟨j.val, by omega⟩)).trans ?_
  dsimp only
  unfold out0_A_15
  rw [View.read_writes_eq_canon _ _ _ (fun y => cover0_A_15 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).1).trans ?_
  refine (pay24_at _ _ _ _ _ _ _ r j).trans ?_
  refine xbc_tile m c t b hb 0 4096 rfl (by omega) _ _ _ _ _ _ _ r j fun a => ?_
  refine (zero1_0 _ _ a j).trans (col_before _ _ _ _ ?_).symm
  have := a.isLt
  omega

theorem out_15_A_1 (h0 : t.val % 8 = 0) (h1 : ¬4 ≤ t.val % 8) (r j : Fin 512) :
    (outsAt0 m c t.val t.isLt).2.2.2.2.2.2.2.1 (ix3 0 r ⟨512 + j.val, by omega⟩) = silu (conv ((kernelArrays m c).col b ⟨4096 + (512 + j.val), by omega⟩) (fun a => (kernelArrays m c).sw a ⟨512 + j.val, by omega⟩) ((kernelArrays m c).sb ⟨512 + j.val, by omega⟩) (rowOf t r)) := by
  refine (congrFun (congrArg (fun o => o.2.2.2.2.2.2.2.1) (outsAt0_A m c t h0 h1)) (ix3 0 r ⟨512 + j.val, by omega⟩)).trans ?_
  dsimp only
  unfold out0_A_15
  rw [View.read_writes_eq_canon _ _ _ (fun y => cover0_A_15 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).2.1).trans ?_
  refine (pay33_at _ _ _ _ _ _ r j _ _).trans ?_
  refine xbc_tile m c t b hb 512 4608 rfl (by omega) _ _ _ _ _ _ _ r j fun a => ?_
  refine (zero1_512 _ _ _ _ a j).trans (col_before _ _ _ _ ?_).symm
  have := a.isLt
  omega

theorem out_15_A_2 (h0 : t.val % 8 = 0) (h1 : ¬4 ≤ t.val % 8) (r j : Fin 512) :
    (outsAt0 m c t.val t.isLt).2.2.2.2.2.2.2.1 (ix3 0 r ⟨1024 + j.val, by omega⟩) = silu (conv ((kernelArrays m c).col b ⟨4096 + (1024 + j.val), by omega⟩) (fun a => (kernelArrays m c).sw a ⟨1024 + j.val, by omega⟩) ((kernelArrays m c).sb ⟨1024 + j.val, by omega⟩) (rowOf t r)) := by
  refine (congrFun (congrArg (fun o => o.2.2.2.2.2.2.2.1) (outsAt0_A m c t h0 h1)) (ix3 0 r ⟨1024 + j.val, by omega⟩)).trans ?_
  dsimp only
  unfold out0_A_15
  rw [View.read_writes_eq_canon _ _ _ (fun y => cover0_A_15 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).2.2).trans ?_
  refine (pay40_at _ _ _ _ _ _ _ r j).trans ?_
  refine xbc_tile m c t b hb 1024 5120 rfl (by omega) _ _ _ _ _ _ _ r j fun a => ?_
  refine (zero1_1024 _ _ _ _ _ _ a j).trans (col_before _ _ _ _ ?_).symm
  have := a.isLt
  omega

theorem out_16_A (h0 : t.val % 8 = 0) (h1 : ¬4 ≤ t.val % 8) (r : Fin 512) (l : Fin 128) :
    (outsAt0 m c t.val t.isLt).2.2.2.2.2.2.2.2.1 (ix3 0 r l) = if h : l.val < 16 then (kernelArrays m c).col b ⟨5632 + l.val, by omega⟩ (rowOf t r) else 0 := by
  refine (congrFun (congrArg (fun o => o.2.2.2.2.2.2.2.2.1) (outsAt0_A m c t h0 h1)) (ix3 0 r l)).trans ?_
  dsimp only
  unfold out0_A_16
  rw [View.read_writes_eq_canon _ _ _ (fun y => cover0_A_16 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact dt_col m c t b hb r l

theorem out_19_A (h0 : t.val % 8 = 0) (h1 : ¬4 ≤ t.val % 8) (a : Fin 8) (j : Fin 512) :
    (outsAt0 m c t.val t.isLt).2.2.2.2.2.2.2.2.2.2.2.1 (ix3 0 a j) = (kernelArrays m c).col b ⟨0 + j.val, by omega⟩ (512 * ((t.val % 8 : ℕ) : ℤ) + 504 + (a.val : ℤ)) := by
  refine (congrFun (congrArg (fun o => o.2.2.2.2.2.2.2.2.2.2.2.1) (outsAt0_A m c t h0 h1)) (ix3 0 a j)).trans ?_
  dsimp only
  unfold out0_A_19
  rw [View.read_writes_eq_canon _ _ _ (fun y => cover0_A_19 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay23_at j _ a).trans (last_rows m c t b hb 0 _ (by omega) a j)

theorem out_20_A_0 (h0 : t.val % 8 = 0) (h1 : ¬4 ≤ t.val % 8) (a : Fin 8) (j : Fin 512) :
    (outsAt0 m c t.val t.isLt).2.2.2.2.2.2.2.2.2.2.2.2.1 (ix3 0 a ⟨j.val, by omega⟩) = (kernelArrays m c).col b ⟨4096 + j.val, by omega⟩ (512 * ((t.val % 8 : ℕ) : ℤ) + 504 + (a.val : ℤ)) := by
  refine (congrFun (congrArg (fun o => o.2.2.2.2.2.2.2.2.2.2.2.2.1) (outsAt0_A m c t h0 h1)) (ix3 0 a ⟨j.val, by omega⟩)).trans ?_
  dsimp only
  unfold out0_A_20
  rw [View.read_writes_eq_canon _ _ _ (fun y => cover0_A_20 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).1).trans ?_
  exact (pay23_at j _ a).trans (last_rows m c t b hb 4096 _ (by omega) a j)

theorem out_20_A_1 (h0 : t.val % 8 = 0) (h1 : ¬4 ≤ t.val % 8) (a : Fin 8) (j : Fin 512) :
    (outsAt0 m c t.val t.isLt).2.2.2.2.2.2.2.2.2.2.2.2.1 (ix3 0 a ⟨512 + j.val, by omega⟩) = (kernelArrays m c).col b ⟨4608 + j.val, by omega⟩ (512 * ((t.val % 8 : ℕ) : ℤ) + 504 + (a.val : ℤ)) := by
  refine (congrFun (congrArg (fun o => o.2.2.2.2.2.2.2.2.2.2.2.2.1) (outsAt0_A m c t h0 h1)) (ix3 0 a ⟨512 + j.val, by omega⟩)).trans ?_
  dsimp only
  unfold out0_A_20
  rw [View.read_writes_eq_canon _ _ _ (fun y => cover0_A_20 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).2.1).trans ?_
  exact (pay23_at j _ a).trans (last_rows m c t b hb 4608 _ (by omega) a j)

theorem out_20_A_2 (h0 : t.val % 8 = 0) (h1 : ¬4 ≤ t.val % 8) (a : Fin 8) (j : Fin 512) :
    (outsAt0 m c t.val t.isLt).2.2.2.2.2.2.2.2.2.2.2.2.1 (ix3 0 a ⟨1024 + j.val, by omega⟩) = (kernelArrays m c).col b ⟨5120 + j.val, by omega⟩ (512 * ((t.val % 8 : ℕ) : ℤ) + 504 + (a.val : ℤ)) := by
  refine (congrFun (congrArg (fun o => o.2.2.2.2.2.2.2.2.2.2.2.2.1) (outsAt0_A m c t h0 h1)) (ix3 0 a ⟨1024 + j.val, by omega⟩)).trans ?_
  dsimp only
  unfold out0_A_20
  rw [View.read_writes_eq_canon _ _ _ (fun y => cover0_A_20 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).2.2).trans ?_
  exact (pay23_at j _ a).trans (last_rows m c t b hb 5120 _ (by omega) a j)

end Cert.InProj

end
-- ==== Proof.InProj.Carry.lean ====
/- The rows a grid point of the projection call hands on in its scratch blocks, to the convolutions of the next tile. -/
module

public import proofs.«01_k».proof.Proof.InProj.Points
public import proofs.«01_k».proof.Proof.Gen.ProjectionIdeal.Frame

@[expose] public section

set_option maxRecDepth 16384

noncomputable section

namespace Cert.InProj

open Idealize.ShloMosaic Idealize.ShloMosaic.TcCoe Idealize.ShloMosaic.Tactic Idealize.SL.Sem Cert.ProjectionIdeal Cert.ProjectionIdeal.Gen

variable (m : (ℓ : Loc nD τ sig) → Buf (Elt Ideal) ℓ) (c : Dev nD) (t : Fin cfg0.N) (b : Fin 4) (hb : b.val = t.val / 8)

include hb

theorem carry_0_A (h0 : t.val % 8 = 0) (h1 : ¬4 ≤ t.val % 8) (a : Fin 8) (j : Fin 512) :
    (outsAt0 m c t.val t.isLt).2.2.2.2.2.2.2.2.2.2.2.2.2.1 (ix2 a j) = (kernelArrays m c).col b ⟨0 + j.val, by omega⟩ (512 * ((t.val % 8 : ℕ) : ℤ) + 504 + (a.val : ℤ)) := by
  refine (congrFun (congrArg (fun o => o.2.2.2.2.2.2.2.2.2.2.2.2.2.1) (outsAt0_A m c t h0 h1)) (ix2 a j)).trans ?_
  dsimp only
  unfold sout0_A_0
  rw [View.read_writes_eq_canon _ _ _ (fun y => scover0_A_0 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine (stored_at _ _ _ _ _ _ (ix2 a j) (by intro q; fin_cases q <;> exact (Nat.zero_add _).symm)).trans ?_
  exact (pay22_at j _ a).trans (last_rows m c t b hb 0 _ (by omega) a j)

theorem carry_0_B (h0 : ¬t.val % 8 = 0) (h1 : ¬4 ≤ t.val % 8) (a : Fin 8) (j : Fin 512) :
    (outsAt0 m c t.val t.isLt).2.2.2.2.2.2.2.2.2.2.2.2.2.1 (ix2 a j) = (kernelArrays m c).col b ⟨0 + j.val, by omega⟩ (512 * ((t.val % 8 : ℕ) : ℤ) + 504 + (a.val : ℤ)) := by
  refine (congrFun (congrArg (fun o => o.2.2.2.2.2.2.2.2.2.2.2.2.2.1) (outsAt0_B m c t h0 h1)) (ix2 a j)).trans ?_
  dsimp only
  unfold sout0_B_0
  rw [View.read_writes_eq_canon _ _ _ (fun y => scover0_B_0 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine (stored_at _ _ _ _ _ _ (ix2 a j) (by intro q; fin_cases q <;> exact (Nat.zero_add _).symm)).trans ?_
  exact (pay22_at j _ a).trans (last_rows m c t b hb 0 _ (by omega) a j)

theorem carry_0_C (h0 : ¬t.val % 8 = 0) (h1 : 4 ≤ t.val % 8) (a : Fin 8) (j : Fin 512) :
    (outsAt0 m c t.val t.isLt).2.2.2.2.2.2.2.2.2.2.2.2.2.1 (ix2 a j) = (kernelArrays m c).col b ⟨0 + j.val, by omega⟩ (512 * ((t.val % 8 : ℕ) : ℤ) + 504 + (a.val : ℤ)) := by
  refine (congrFun (congrArg (fun o => o.2.2.2.2.2.2.2.2.2.2.2.2.2.1) (outsAt0_C m c t h0 h1)) (ix2 a j)).trans ?_
  dsimp only
  unfold sout0_C_0
  rw [View.read_writes_eq_canon _ _ _ (fun y => scover0_C_0 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine (stored_at _ _ _ _ _ _ (ix2 a j) (by intro q; fin_cases q <;> exact (Nat.zero_add _).symm)).trans ?_
  exact (pay22_at j _ a).trans (last_rows m c t b hb 0 _ (by omega) a j)

theorem carry_1_A_0 (h0 : t.val % 8 = 0) (h1 : ¬4 ≤ t.val % 8) (a : Fin 8) (j : Fin 512) :
    (outsAt0 m c t.val t.isLt).2.2.2.2.2.2.2.2.2.2.2.2.2.2 (ix2 a ⟨j.val, by omega⟩) = (kernelArrays m c).col b ⟨4096 + j.val, by omega⟩ (512 * ((t.val % 8 : ℕ) : ℤ) + 504 + (a.val : ℤ)) := by
  refine (congrFun (congrArg (fun o => o.2.2.2.2.2.2.2.2.2.2.2.2.2.2) (outsAt0_A m c t h0 h1)) (ix2 a ⟨j.val, by omega⟩)).trans ?_
  dsimp only
  unfold sout0_A_1
  rw [View.read_writes_eq_canon _ _ _ (fun y => scover0_A_1 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).1).trans ?_
  exact (pay22_at j _ a).trans (last_rows m c t b hb 4096 _ (by omega) a j)

theorem carry_1_A_1 (h0 : t.val % 8 = 0) (h1 : ¬4 ≤ t.val % 8) (a : Fin 8) (j : Fin 512) :
    (outsAt0 m c t.val t.isLt).2.2.2.2.2.2.2.2.2.2.2.2.2.2 (ix2 a ⟨512 + j.val, by omega⟩) = (kernelArrays m c).col b ⟨4608 + j.val, by omega⟩ (512 * ((t.val % 8 : ℕ) : ℤ) + 504 + (a.val : ℤ)) := by
  refine (congrFun (congrArg (fun o => o.2.2.2.2.2.2.2.2.2.2.2.2.2.2) (outsAt0_A m c t h0 h1)) (ix2 a ⟨512 + j.val, by omega⟩)).trans ?_
  dsimp only
  unfold sout0_A_1
  rw [View.read_writes_eq_canon _ _ _ (fun y => scover0_A_1 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).2.1).trans ?_
  exact (pay22_at j _ a).trans (last_rows m c t b hb 4608 _ (by omega) a j)

theorem carry_1_A_2 (h0 : t.val % 8 = 0) (h1 : ¬4 ≤ t.val % 8) (a : Fin 8) (j : Fin 512) :
    (outsAt0 m c t.val t.isLt).2.2.2.2.2.2.2.2.2.2.2.2.2.2 (ix2 a ⟨1024 + j.val, by omega⟩) = (kernelArrays m c).col b ⟨5120 + j.val, by omega⟩ (512 * ((t.val % 8 : ℕ) : ℤ) + 504 + (a.val : ℤ)) := by
  refine (congrFun (congrArg (fun o => o.2.2.2.2.2.2.2.2.2.2.2.2.2.2) (outsAt0_A m c t h0 h1)) (ix2 a ⟨1024 + j.val, by omega⟩)).trans ?_
  dsimp only
  unfold sout0_A_1
  rw [View.read_writes_eq_canon _ _ _ (fun y => scover0_A_1 (y := y) ..)]
  unfold kernelRun0_A
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).2.2).trans ?_
  exact (pay22_at j _ a).trans (last_rows m c t b hb 5120 _ (by omega) a j)

theorem carry_1_B_0 (h0 : ¬t.val % 8 = 0) (h1 : ¬4 ≤ t.val % 8) (a : Fin 8) (j : Fin 512) :
    (outsAt0 m c t.val t.isLt).2.2.2.2.2.2.2.2.2.2.2.2.2.2 (ix2 a ⟨j.val, by omega⟩) = (kernelArrays m c).col b ⟨4096 + j.val, by omega⟩ (512 * ((t.val % 8 : ℕ) : ℤ) + 504 + (a.val : ℤ)) := by
  refine (congrFun (congrArg (fun o => o.2.2.2.2.2.2.2.2.2.2.2.2.2.2) (outsAt0_B m c t h0 h1)) (ix2 a ⟨j.val, by omega⟩)).trans ?_
  dsimp only
  unfold sout0_B_1
  rw [View.read_writes_eq_canon _ _ _ (fun y => scover0_B_1 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).1).trans ?_
  exact (pay22_at j _ a).trans (last_rows m c t b hb 4096 _ (by omega) a j)

theorem carry_1_B_1 (h0 : ¬t.val % 8 = 0) (h1 : ¬4 ≤ t.val % 8) (a : Fin 8) (j : Fin 512) :
    (outsAt0 m c t.val t.isLt).2.2.2.2.2.2.2.2.2.2.2.2.2.2 (ix2 a ⟨512 + j.val, by omega⟩) = (kernelArrays m c).col b ⟨4608 + j.val, by omega⟩ (512 * ((t.val % 8 : ℕ) : ℤ) + 504 + (a.val : ℤ)) := by
  refine (congrFun (congrArg (fun o => o.2.2.2.2.2.2.2.2.2.2.2.2.2.2) (outsAt0_B m c t h0 h1)) (ix2 a ⟨512 + j.val, by omega⟩)).trans ?_
  dsimp only
  unfold sout0_B_1
  rw [View.read_writes_eq_canon _ _ _ (fun y => scover0_B_1 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).2.1).trans ?_
  exact (pay22_at j _ a).trans (last_rows m c t b hb 4608 _ (by omega) a j)

theorem carry_1_B_2 (h0 : ¬t.val % 8 = 0) (h1 : ¬4 ≤ t.val % 8) (a : Fin 8) (j : Fin 512) :
    (outsAt0 m c t.val t.isLt).2.2.2.2.2.2.2.2.2.2.2.2.2.2 (ix2 a ⟨1024 + j.val, by omega⟩) = (kernelArrays m c).col b ⟨5120 + j.val, by omega⟩ (512 * ((t.val % 8 : ℕ) : ℤ) + 504 + (a.val : ℤ)) := by
  refine (congrFun (congrArg (fun o => o.2.2.2.2.2.2.2.2.2.2.2.2.2.2) (outsAt0_B m c t h0 h1)) (ix2 a ⟨1024 + j.val, by omega⟩)).trans ?_
  dsimp only
  unfold sout0_B_1
  rw [View.read_writes_eq_canon _ _ _ (fun y => scover0_B_1 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).2.2).trans ?_
  exact (pay22_at j _ a).trans (last_rows m c t b hb 5120 _ (by omega) a j)

theorem carry_1_C_0 (h0 : ¬t.val % 8 = 0) (h1 : 4 ≤ t.val % 8) (a : Fin 8) (j : Fin 512) :
    (outsAt0 m c t.val t.isLt).2.2.2.2.2.2.2.2.2.2.2.2.2.2 (ix2 a ⟨j.val, by omega⟩) = (kernelArrays m c).col b ⟨4096 + j.val, by omega⟩ (512 * ((t.val % 8 : ℕ) : ℤ) + 504 + (a.val : ℤ)) := by
  refine (congrFun (congrArg (fun o => o.2.2.2.2.2.2.2.2.2.2.2.2.2.2) (outsAt0_C m c t h0 h1)) (ix2 a ⟨j.val, by omega⟩)).trans ?_
  dsimp only
  unfold sout0_C_1
  rw [View.read_writes_eq_canon _ _ _ (fun y => scover0_C_1 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).1).trans ?_
  exact (pay22_at j _ a).trans (last_rows m c t b hb 4096 _ (by omega) a j)

theorem carry_1_C_1 (h0 : ¬t.val % 8 = 0) (h1 : 4 ≤ t.val % 8) (a : Fin 8) (j : Fin 512) :
    (outsAt0 m c t.val t.isLt).2.2.2.2.2.2.2.2.2.2.2.2.2.2 (ix2 a ⟨512 + j.val, by omega⟩) = (kernelArrays m c).col b ⟨4608 + j.val, by omega⟩ (512 * ((t.val % 8 : ℕ) : ℤ) + 504 + (a.val : ℤ)) := by
  refine (congrFun (congrArg (fun o => o.2.2.2.2.2.2.2.2.2.2.2.2.2.2) (outsAt0_C m c t h0 h1)) (ix2 a ⟨512 + j.val, by omega⟩)).trans ?_
  dsimp only
  unfold sout0_C_1
  rw [View.read_writes_eq_canon _ _ _ (fun y => scover0_C_1 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).2.1).trans ?_
  exact (pay22_at j _ a).trans (last_rows m c t b hb 4608 _ (by omega) a j)

theorem carry_1_C_2 (h0 : ¬t.val % 8 = 0) (h1 : 4 ≤ t.val % 8) (a : Fin 8) (j : Fin 512) :
    (outsAt0 m c t.val t.isLt).2.2.2.2.2.2.2.2.2.2.2.2.2.2 (ix2 a ⟨1024 + j.val, by omega⟩) = (kernelArrays m c).col b ⟨5120 + j.val, by omega⟩ (512 * ((t.val % 8 : ℕ) : ℤ) + 504 + (a.val : ℤ)) := by
  refine (congrFun (congrArg (fun o => o.2.2.2.2.2.2.2.2.2.2.2.2.2.2) (outsAt0_C m c t h0 h1)) (ix2 a ⟨1024 + j.val, by omega⟩)).trans ?_
  dsimp only
  unfold sout0_C_1
  rw [View.read_writes_eq_canon _ _ _ (fun y => scover0_C_1 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((carries_at _ _ _ _ _ _ _ a j).2.2).trans ?_
  exact (pay22_at j _ a).trans (last_rows m c t b hb 5120 _ (by omega) a j)

theorem carry0_at (a : Fin 8) (j : Fin 512) :
    (outsAt0 m c t.val t.isLt).2.2.2.2.2.2.2.2.2.2.2.2.2.1 (ix2 a j) = (kernelArrays m c).col b ⟨0 + j.val, by omega⟩ (512 * ((t.val % 8 : ℕ) : ℤ) + 504 + (a.val : ℤ)) := by
  by_cases h0 : t.val % 8 = 0
  · exact carry_0_A m c t b hb h0 (by omega) a j
  · by_cases h1 : 4 ≤ t.val % 8
    · exact carry_0_C m c t b hb h0 h1 a j
    · exact carry_0_B m c t b hb h0 h1 a j

theorem carry1_at_0 (a : Fin 8) (j : Fin 512) :
    (outsAt0 m c t.val t.isLt).2.2.2.2.2.2.2.2.2.2.2.2.2.2 (ix2 a ⟨j.val, by omega⟩) = (kernelArrays m c).col b ⟨4096 + j.val, by omega⟩ (512 * ((t.val % 8 : ℕ) : ℤ) + 504 + (a.val : ℤ)) := by
  by_cases h0 : t.val % 8 = 0
  · exact carry_1_A_0 m c t b hb h0 (by omega) a j
  · by_cases h1 : 4 ≤ t.val % 8
    · exact carry_1_C_0 m c t b hb h0 h1 a j
    · exact carry_1_B_0 m c t b hb h0 h1 a j

theorem carry1_at_1 (a : Fin 8) (j : Fin 512) :
    (outsAt0 m c t.val t.isLt).2.2.2.2.2.2.2.2.2.2.2.2.2.2 (ix2 a ⟨512 + j.val, by omega⟩) = (kernelArrays m c).col b ⟨4608 + j.val, by omega⟩ (512 * ((t.val % 8 : ℕ) : ℤ) + 504 + (a.val : ℤ)) := by
  by_cases h0 : t.val % 8 = 0
  · exact carry_1_A_1 m c t b hb h0 (by omega) a j
  · by_cases h1 : 4 ≤ t.val % 8
    · exact carry_1_C_1 m c t b hb h0 h1 a j
    · exact carry_1_B_1 m c t b hb h0 h1 a j

theorem carry1_at_2 (a : Fin 8) (j : Fin 512) :
    (outsAt0 m c t.val t.isLt).2.2.2.2.2.2.2.2.2.2.2.2.2.2 (ix2 a ⟨1024 + j.val, by omega⟩) = (kernelArrays m c).col b ⟨5120 + j.val, by omega⟩ (512 * ((t.val % 8 : ℕ) : ℤ) + 504 + (a.val : ℤ)) := by
  by_cases h0 : t.val % 8 = 0
  · exact carry_1_A_2 m c t b hb h0 (by omega) a j
  · by_cases h1 : 4 ≤ t.val % 8
    · exact carry_1_C_2 m c t b hb h0 h1 a j
    · exact carry_1_B_2 m c t b hb h0 h1 a j

end Cert.InProj

end
-- ==== Proof.InProj.Hand.lean ====
/- The rows a tile of the projection call reads in its scratch blocks: those that the tile before it handed on. -/
module

public import proofs.«01_k».proof.Proof.InProj.Points
public import proofs.«01_k».proof.Proof.Gen.ProjectionIdeal.Frame
public import proofs.«01_k».proof.Proof.InProj.Carry

@[expose] public section

set_option maxRecDepth 16384

noncomputable section

namespace Cert.InProj

open Idealize.ShloMosaic Idealize.ShloMosaic.TcCoe Idealize.ShloMosaic.Tactic Idealize.SL.Sem Cert.ProjectionIdeal Cert.ProjectionIdeal.Gen

variable (m : (ℓ : Loc nD τ sig) → Buf (Elt Ideal) ℓ) (c : Dev nD) (t : Fin cfg0.N) (b : Fin 4) (hb : b.val = t.val / 8)

include hb

/-- What the tile before handed on. -/
theorem hand0 (h0 : ¬t.val % 8 = 0) (a : Fin 8) (j : Fin 512) :
    (outsAt0 m c (t.val - 1) (lt_of_le_of_lt (Nat.sub_le _ _) t.isLt)).2.2.2.2.2.2.2.2.2.2.2.2.2.1 (ix2 a ⟨0 + j.val, by omega⟩) = (kernelArrays m c).col b ⟨j.val, by omega⟩ (512 * ((t.val % 8 : ℕ) : ℤ) - 8 + (a.val : ℤ)) := by
  refine (carry0_at m c ⟨t.val - 1, lt_of_le_of_lt (Nat.sub_le _ _) t.isLt⟩ b (by show b.val = (t.val - 1) / 8; omega) a ⟨0 + j.val, by omega⟩).trans ?_
  have e : (512 * (((t.val - 1) % 8 : ℕ) : ℤ) + 504 + (a.val : ℤ)) = (512 * ((t.val % 8 : ℕ) : ℤ) - 8 + (a.val : ℤ)) := by omega
  show (kernelArrays m c).col b ⟨0 + (0 + j.val), by omega⟩ (512 * (((t.val - 1) % 8 : ℕ) : ℤ) + 504 + (a.val : ℤ)) = _
  rw [e]
  exact congrArg (fun J => (kernelArrays m c).col b J (512 * ((t.val % 8 : ℕ) : ℤ) - 8 + (a.val : ℤ))) (Fin.ext (by show 0 + (0 + j.val) = j.val; omega))

/-- What the tile before handed on. -/
theorem hand1_0 (h0 : ¬t.val % 8 = 0) (a : Fin 8) (j : Fin 512) :
    (outsAt0 m c (t.val - 1) (lt_of_le_of_lt (Nat.sub_le _ _) t.isLt)).2.2.2.2.2.2.2.2.2.2.2.2.2.2 (ix2 a ⟨0 + j.val, by omega⟩) = (kernelArrays m c).col b ⟨4096 + (0 + j.val), by omega⟩ (512 * ((t.val % 8 : ℕ) : ℤ) - 8 + (a.val : ℤ)) := by
  refine (carry1_at_0 m c ⟨t.val - 1, lt_of_le_of_lt (Nat.sub_le _ _) t.isLt⟩ b (by show b.val = (t.val - 1) / 8; omega) a ⟨0 + j.val, by omega⟩).trans ?_
  have e : (512 * (((t.val - 1) % 8 : ℕ) : ℤ) + 504 + (a.val : ℤ)) = (512 * ((t.val % 8 : ℕ) : ℤ) - 8 + (a.val : ℤ)) := by omega
  show (kernelArrays m c).col b ⟨4096 + (0 + j.val), by omega⟩ (512 * (((t.val - 1) % 8 : ℕ) : ℤ) + 504 + (a.val : ℤ)) = _
  rw [e]

/-- What the tile before handed on. -/
theorem hand1_1 (h0 : ¬t.val % 8 = 0) (a : Fin 8) (j : Fin 512) :
    (outsAt0 m c (t.val - 1) (lt_of_le_of_lt (Nat.sub_le _ _) t.isLt)).2.2.2.2.2.2.2.2.2.2.2.2.2.2 (ix2 a ⟨512 + j.val, by omega⟩) = (kernelArrays m c).col b ⟨4096 + (512 + j.val), by omega⟩ (512 * ((t.val % 8 : ℕ) : ℤ) - 8 + (a.val : ℤ)) := by
  refine (carry1_at_1 m c ⟨t.val - 1, lt_of_le_of_lt (Nat.sub_le _ _) t.isLt⟩ b (by show b.val = (t.val - 1) / 8; omega) a j).trans ?_
  have e : (512 * (((t.val - 1) % 8 : ℕ) : ℤ) + 504 + (a.val : ℤ)) = (512 * ((t.val % 8 : ℕ) : ℤ) - 8 + (a.val : ℤ)) := by omega
  show (kernelArrays m c).col b ⟨4608 + j.val, by omega⟩ (512 * (((t.val - 1) % 8 : ℕ) : ℤ) + 504 + (a.val : ℤ)) = _
  rw [e]
  exact congrArg (fun J => (kernelArrays m c).col b J (512 * ((t.val % 8 : ℕ) : ℤ) - 8 + (a.val : ℤ))) (Fin.ext (by show 4608 + j.val = 4096 + (512 + j.val); omega))

/-- What the tile before handed on. -/
theorem hand1_2 (h0 : ¬t.val % 8 = 0) (a : Fin 8) (j : Fin 512) :
    (outsAt0 m c (t.val - 1) (lt_of_le_of_lt (Nat.sub_le _ _) t.isLt)).2.2.2.2.2.2.2.2.2.2.2.2.2.2 (ix2 a ⟨1024 + j.val, by omega⟩) = (kernelArrays m c).col b ⟨4096 + (1024 + j.val), by omega⟩ (512 * ((t.val % 8 : ℕ) : ℤ) - 8 + (a.val : ℤ)) := by
  refine (carry1_at_2 m c ⟨t.val - 1, lt_of_le_of_lt (Nat.sub_le _ _) t.isLt⟩ b (by show b.val = (t.val - 1) / 8; omega) a j).trans ?_
  have e : (512 * (((t.val - 1) % 8 : ℕ) : ℤ) + 504 + (a.val : ℤ)) = (512 * ((t.val % 8 : ℕ) : ℤ) - 8 + (a.val : ℤ)) := by omega
  show (kernelArrays m c).col b ⟨5120 + j.val, by omega⟩ (512 * (((t.val - 1) % 8 : ℕ) : ℤ) + 504 + (a.val : ℤ)) = _
  rw [e]
  exact congrArg (fun J => (kernelArrays m c).col b J (512 * ((t.val % 8 : ℕ) : ℤ) - 8 + (a.val : ℤ))) (Fin.ext (by show 5120 + j.val = 4096 + (1024 + j.val); omega))

end Cert.InProj

end
-- ==== Proof.InProj.OutB.lean ====
/- What the next three tiles of a batch leave in each output block. -/
module

public import proofs.«01_k».proof.Proof.InProj.Points
public import proofs.«01_k».proof.Proof.Gen.ProjectionIdeal.Frame
public import proofs.«01_k».proof.Proof.InProj.Hand

@[expose] public section

set_option maxRecDepth 16384

noncomputable section

namespace Cert.InProj

open Idealize.ShloMosaic Idealize.ShloMosaic.TcCoe Idealize.ShloMosaic.Tactic Idealize.SL.Sem Cert.ProjectionIdeal Cert.ProjectionIdeal.Gen

variable (m : (ℓ : Loc nD τ sig) → Buf (Elt Ideal) ℓ) (c : Dev nD) (t : Fin cfg0.N) (b : Fin 4) (hb : b.val = t.val / 8)

include hb

theorem out_8_B (h0 : ¬t.val % 8 = 0) (h1 : ¬4 ≤ t.val % 8) (r j : Fin 512) :
    (outsAt0 m c t.val t.isLt).1 (ix3 0 r j) = conv ((kernelArrays m c).col b ⟨j.val, by omega⟩) (fun a => (kernelArrays m c).lw a j) ((kernelArrays m c).lb j) (rowOf t r) := by
  refine (congrFun (congrArg (fun o => o.1) (outsAt0_B m c t h0 h1)) (ix3 0 r j)).trans ?_
  dsimp only
  unfold out0_B_8
  rw [View.read_writes_eq_canon _ _ _ (fun y => cover0_B_8 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  refine (pay58_at _ _ _ _ _ _ r j _ _).trans ?_
  refine lru_tile m c t b hb _ _ _ _ _ _ rfl _ r j fun a => ?_
  exact (ld_carry 512 _ 0 _ (by omega) a j).trans (hand0 m c t b hb h0 a j)

theorem out_9_B (h0 : ¬t.val % 8 = 0) (h1 : ¬4 ≤ t.val % 8) (r j : Fin 512) :
    (outsAt0 m c t.val t.isLt).2.1 (ix3 0 r j) = silu ((kernelArrays m c).col b ⟨512 + j.val, by omega⟩ (rowOf t r)) := by
  refine (congrFun (congrArg (fun o => o.2.1) (outsAt0_B m c t h0 h1)) (ix3 0 r j)).trans ?_
  dsimp only
  unfold out0_B_9
  rw [View.read_writes_eq_canon _ _ _ (fun y => cover0_B_9 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay3_at _ _ _ r j).trans (congrArg silu (pr_col m c t b hb 512 _ (by omega) r j))

theorem out_10_B (h0 : ¬t.val % 8 = 0) (h1 : ¬4 ≤ t.val % 8) (p : Fin 4) (r : Fin 512) (l : Fin 128) :
    (outsAt0 m c t.val t.isLt).2.2.1 (ix4 p 0 r l) = (kernelArrays m c).col b ⟨1024 + (128 * p.val + l.val), by omega⟩ (rowOf t r) * Ideal.ofBits FTy.f32 0x3E000000#32 := by
  refine (congrFun (congrArg (fun o => o.2.2.1) (outsAt0_B m c t h0 h1)) (ix4 p 0 r l)).trans ?_
  dsimp only
  unfold out0_B_10
  rw [View.read_writes_eq_canon _ _ _ (fun y => cover0_B_10 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact scaled m c t b hb _ _ _ _ _ p r l

theorem out_11_B (h0 : ¬t.val % 8 = 0) (h1 : ¬4 ≤ t.val % 8) (p : Fin 4) (r : Fin 512) (l : Fin 128) :
    (outsAt0 m c t.val t.isLt).2.2.2.1 (ix4 p 0 r l) = (kernelArrays m c).col b ⟨1536 + (128 * p.val + l.val), by omega⟩ (rowOf t r) := by
  refine (congrFun (congrArg (fun o => o.2.2.2.1) (outsAt0_B m c t h0 h1)) (ix4 p 0 r l)).trans ?_
  dsimp only
  unfold out0_B_11
  rw [View.read_writes_eq_canon _ _ _ (fun y => cover0_B_11 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact planes m c t b hb 1536 _ (by omega) _ _ _ _ p r l

theorem out_12_B (h0 : ¬t.val % 8 = 0) (h1 : ¬4 ≤ t.val % 8) (p : Fin 4) (r : Fin 512) (l : Fin 128) :
    (outsAt0 m c t.val t.isLt).2.2.2.2.1 (ix4 p 0 r l) = (kernelArrays m c).col b ⟨2048 + (128 * p.val + l.val), by omega⟩ (rowOf t r) := by
  refine (congrFun (congrArg (fun o => o.2.2.2.2.1) (outsAt0_B m c t h0 h1)) (ix4 p 0 r l)).trans ?_
  dsimp only
  unfold out0_B_12
  rw [View.read_writes_eq_canon _ _ _ (fun y => cover0_B_12 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact planes m c t b hb 2048 _ (by omega) _ _ _ _ p r l

theorem out_13_B (h0 : ¬t.val % 8 = 0) (h1 : ¬4 ≤ t.val % 8) (r j : Fin 512) :
    (outsAt0 m c t.val t.isLt).2.2.2.2.2.1 (ix3 0 r j) = (kernelArrays m c).col b ⟨2560 + j.val, by omega⟩ (rowOf t r) := by
  refine (congrFun (congrArg (fun o => o.2.2.2.2.2.1) (outsAt0_B m c t h0 h1)) (ix3 0 r j)).trans ?_
  dsimp only
  unfold out0_B_13
  rw [View.read_writes_eq_canon _ _ _ (fun y => cover0_B_13 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay51_at _ _ _ r j).trans (pr_col m c t b hb 2560 _ (by omega) r j)

theorem out_14_B_0 (h0 : ¬t.val % 8 = 0) (h1 : ¬4 ≤ t.val % 8) (r j : Fin 512) :
    (outsAt0 m c t.val t.isLt).2.2.2.2.2.2.1 (ix3 0 r ⟨j.val, by omega⟩) = silu ((kernelArrays m c).col b ⟨3072 + j.val, by omega⟩ (rowOf t r)) := by
  refine (congrFun (congrArg (fun o => o.2.2.2.2.2.2.1) (outsAt0_B m c t h0 h1)) (ix3 0 r ⟨j.val, by omega⟩)).trans ?_
  dsimp only
  unfold out0_B_14
  rw [View.read_writes_eq_canon _ _ _ (fun y => cover0_B_14 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((halves_at _ _ _ _ r j).1).trans ?_
  exact (pay2_at _ _ _ r j).trans (congrArg silu (pr_col m c t b hb 3072 _ (by omega) r j))

theorem out_14_B_1 (h0 : ¬t.val % 8 = 0) (h1 : ¬4 ≤ t.val % 8) (r j : Fin 512) :
    (outsAt0 m c t.val t.isLt).2.2.2.2.2.2.1 (ix3 0 r ⟨512 + j.val, by omega⟩) = silu ((kernelArrays m c).col b ⟨3584 + j.val, by omega⟩ (rowOf t r)) := by
  refine (congrFun (congrArg (fun o => o.2.2.2.2.2.2.1) (outsAt0_B m c t h0 h1)) (ix3 0 r ⟨512 + j.val, by omega⟩)).trans ?_
  dsimp only
  unfold out0_B_14
  rw [View.read_writes_eq_canon _ _ _ (fun y => cover0_B_14 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((halves_at _ _ _ _ r j).2).trans ?_
  exact (pay2_at _ _ _ r j).trans (congrArg silu (pr_col m c t b hb 3584 _ (by omega) r j))

theorem out_15_B_0 (h0 : ¬t.val % 8 = 0) (h1 : ¬4 ≤ t.val % 8) (r j : Fin 512) :
    (outsAt0 m c t.val t.isLt).2.2.2.2.2.2.2.1 (ix3 0 r ⟨j.val, by omega⟩) = silu (conv ((kernelArrays m c).col b ⟨4096 + (0 + j.val), by omega⟩) (fun a => (kernelArrays m c).sw a ⟨0 + j.val, by omega⟩) ((kernelArrays m c).sb ⟨0 + j.val, by omega⟩) (rowOf t r)) := by
  refine (congrFun (congrArg (fun o => o.2.2.2.2.2.2.2.1) (outsAt0_B m c t h0 h1)) (ix3 0 r ⟨j.val, by omega⟩)).trans ?_
  dsimp only
  unfold out0_B_15
  rw [View.read_writes_eq_canon _ _ _ (fun y => cover0_B_15 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).1).trans ?_
  refine (pay24_at _ _ _ _ _ _ _ r j).trans ?_
  refine xbc_tile m c t b hb 0 4096 rfl (by omega) _ _ _ _ _ _ _ r j fun a => ?_
  exact (ld_carry 1536 _ 0 _ (by omega) a j).trans (hand1_0 m c t b hb h0 a j)

theorem out_15_B_1 (h0 : ¬t.val % 8 = 0) (h1 : ¬4 ≤ t.val % 8) (r j : Fin 512) :
    (outsAt0 m c t.val t.isLt).2.2.2.2.2.2.2.1 (ix3 0 r ⟨512 + j.val, by omega⟩) = silu (conv ((kernelArrays m c).col b ⟨4096 + (512 + j.val), by omega⟩) (fun a => (kernelArrays m c).sw a ⟨512 + j.val, by omega⟩) ((kernelArrays m c).sb ⟨512 + j.val, by omega⟩) (rowOf t r)) := by
  refine (congrFun (congrArg (fun o => o.2.2.2.2.2.2.2.1) (outsAt0_B m c t h0 h1)) (ix3 0 r ⟨512 + j.val, by omega⟩)).trans ?_
  dsimp only
  unfold out0_B_15
  rw [View.read_writes_eq_canon _ _ _ (fun y => cover0_B_15 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).2.1).trans ?_
  refine (pay33_at _ _ _ _ _ _ r j _ _).trans ?_
  refine xbc_tile m c t b hb 512 4608 rfl (by omega) _ _ _ _ _ _ _ r j fun a => ?_
  exact (ld_carry 1536 _ 512 _ (by omega) a j).trans (hand1_1 m c t b hb h0 a j)

theorem out_15_B_2 (h0 : ¬t.val % 8 = 0) (h1 : ¬4 ≤ t.val % 8) (r j : Fin 512) :
    (outsAt0 m c t.val t.isLt).2.2.2.2.2.2.2.1 (ix3 0 r ⟨1024 + j.val, by omega⟩) = silu (conv ((kernelArrays m c).col b ⟨4096 + (1024 + j.val), by omega⟩) (fun a => (kernelArrays m c).sw a ⟨1024 + j.val, by omega⟩) ((kernelArrays m c).sb ⟨1024 + j.val, by omega⟩) (rowOf t r)) := by
  refine (congrFun (congrArg (fun o => o.2.2.2.2.2.2.2.1) (outsAt0_B m c t h0 h1)) (ix3 0 r ⟨1024 + j.val, by omega⟩)).trans ?_
  dsimp only
  unfold out0_B_15
  rw [View.read_writes_eq_canon _ _ _ (fun y => cover0_B_15 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).2.2).trans ?_
  refine (pay40_at _ _ _ _ _ _ _ r j).trans ?_
  refine xbc_tile m c t b hb 1024 5120 rfl (by omega) _ _ _ _ _ _ _ r j fun a => ?_
  exact (ld_carry 1536 _ 1024 _ (by omega) a j).trans (hand1_2 m c t b hb h0 a j)

theorem out_16_B (h0 : ¬t.val % 8 = 0) (h1 : ¬4 ≤ t.val % 8) (r : Fin 512) (l : Fin 128) :
    (outsAt0 m c t.val t.isLt).2.2.2.2.2.2.2.2.1 (ix3 0 r l) = if h : l.val < 16 then (kernelArrays m c).col b ⟨5632 + l.val, by omega⟩ (rowOf t r) else 0 := by
  refine (congrFun (congrArg (fun o => o.2.2.2.2.2.2.2.2.1) (outsAt0_B m c t h0 h1)) (ix3 0 r l)).trans ?_
  dsimp only
  unfold out0_B_16
  rw [View.read_writes_eq_canon _ _ _ (fun y => cover0_B_16 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact dt_col m c t b hb r l

theorem out_19_B (h0 : ¬t.val % 8 = 0) (h1 : ¬4 ≤ t.val % 8) (a : Fin 8) (j : Fin 512) :
    (outsAt0 m c t.val t.isLt).2.2.2.2.2.2.2.2.2.2.2.1 (ix3 0 a j) = (kernelArrays m c).col b ⟨0 + j.val, by omega⟩ (512 * ((t.val % 8 : ℕ) : ℤ) + 504 + (a.val : ℤ)) := by
  refine (congrFun (congrArg (fun o => o.2.2.2.2.2.2.2.2.2.2.2.1) (outsAt0_B m c t h0 h1)) (ix3 0 a j)).trans ?_
  dsimp only
  unfold out0_B_19
  rw [View.read_writes_eq_canon _ _ _ (fun y => cover0_B_19 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay23_at j _ a).trans (last_rows m c t b hb 0 _ (by omega) a j)

theorem out_20_B_0 (h0 : ¬t.val % 8 = 0) (h1 : ¬4 ≤ t.val % 8) (a : Fin 8) (j : Fin 512) :
    (outsAt0 m c t.val t.isLt).2.2.2.2.2.2.2.2.2.2.2.2.1 (ix3 0 a ⟨j.val, by omega⟩) = (kernelArrays m c).col b ⟨4096 + j.val, by omega⟩ (512 * ((t.val % 8 : ℕ) : ℤ) + 504 + (a.val : ℤ)) := by
  refine (congrFun (congrArg (fun o => o.2.2.2.2.2.2.2.2.2.2.2.2.1) (outsAt0_B m c t h0 h1)) (ix3 0 a ⟨j.val, by omega⟩)).trans ?_
  dsimp only
  unfold out0_B_20
  rw [View.read_writes_eq_canon _ _ _ (fun y => cover0_B_20 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).1).trans ?_
  exact (pay23_at j _ a).trans (last_rows m c t b hb 4096 _ (by omega) a j)

theorem out_20_B_1 (h0 : ¬t.val % 8 = 0) (h1 : ¬4 ≤ t.val % 8) (a : Fin 8) (j : Fin 512) :
    (outsAt0 m c t.val t.isLt).2.2.2.2.2.2.2.2.2.2.2.2.1 (ix3 0 a ⟨512 + j.val, by omega⟩) = (kernelArrays m c).col b ⟨4608 + j.val, by omega⟩ (512 * ((t.val % 8 : ℕ) : ℤ) + 504 + (a.val : ℤ)) := by
  refine (congrFun (congrArg (fun o => o.2.2.2.2.2.2.2.2.2.2.2.2.1) (outsAt0_B m c t h0 h1)) (ix3 0 a ⟨512 + j.val, by omega⟩)).trans ?_
  dsimp only
  unfold out0_B_20
  rw [View.read_writes_eq_canon _ _ _ (fun y => cover0_B_20 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).2.1).trans ?_
  exact (pay23_at j _ a).trans (last_rows m c t b hb 4608 _ (by omega) a j)

theorem out_20_B_2 (h0 : ¬t.val % 8 = 0) (h1 : ¬4 ≤ t.val % 8) (a : Fin 8) (j : Fin 512) :
    (outsAt0 m c t.val t.isLt).2.2.2.2.2.2.2.2.2.2.2.2.1 (ix3 0 a ⟨1024 + j.val, by omega⟩) = (kernelArrays m c).col b ⟨5120 + j.val, by omega⟩ (512 * ((t.val % 8 : ℕ) : ℤ) + 504 + (a.val : ℤ)) := by
  refine (congrFun (congrArg (fun o => o.2.2.2.2.2.2.2.2.2.2.2.2.1) (outsAt0_B m c t h0 h1)) (ix3 0 a ⟨1024 + j.val, by omega⟩)).trans ?_
  dsimp only
  unfold out0_B_20
  rw [View.read_writes_eq_canon _ _ _ (fun y => cover0_B_20 (y := y) ..)]
  unfold kernelRun0_B
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).2.2).trans ?_
  exact (pay23_at j _ a).trans (last_rows m c t b hb 5120 _ (by omega) a j)

end Cert.InProj

end
-- ==== Proof.InProj.OutC.lean ====
/- What the last four tiles of a batch, whose keys and values the window keeps, leave in each output block. -/
module

public import proofs.«01_k».proof.Proof.InProj.Points
public import proofs.«01_k».proof.Proof.Gen.ProjectionIdeal.Frame
public import proofs.«01_k».proof.Proof.InProj.Hand

@[expose] public section

set_option maxRecDepth 16384

noncomputable section

namespace Cert.InProj

open Idealize.ShloMosaic Idealize.ShloMosaic.TcCoe Idealize.ShloMosaic.Tactic Idealize.SL.Sem Cert.ProjectionIdeal Cert.ProjectionIdeal.Gen

variable (m : (ℓ : Loc nD τ sig) → Buf (Elt Ideal) ℓ) (c : Dev nD) (t : Fin cfg0.N) (b : Fin 4) (hb : b.val = t.val / 8)

include hb

theorem out_8_C (h0 : ¬t.val % 8 = 0) (h1 : 4 ≤ t.val % 8) (r j : Fin 512) :
    (outsAt0 m c t.val t.isLt).1 (ix3 0 r j) = conv ((kernelArrays m c).col b ⟨j.val, by omega⟩) (fun a => (kernelArrays m c).lw a j) ((kernelArrays m c).lb j) (rowOf t r) := by
  refine (congrFun (congrArg (fun o => o.1) (outsAt0_C m c t h0 h1)) (ix3 0 r j)).trans ?_
  dsimp only
  unfold out0_C_8
  rw [View.read_writes_eq_canon _ _ _ (fun y => cover0_C_8 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  refine (pay58_at _ _ _ _ _ _ r j _ _).trans ?_
  refine lru_tile m c t b hb _ _ _ _ _ _ rfl _ r j fun a => ?_
  exact (ld_carry 512 _ 0 _ (by omega) a j).trans (hand0 m c t b hb h0 a j)

theorem out_9_C (h0 : ¬t.val % 8 = 0) (h1 : 4 ≤ t.val % 8) (r j : Fin 512) :
    (outsAt0 m c t.val t.isLt).2.1 (ix3 0 r j) = silu ((kernelArrays m c).col b ⟨512 + j.val, by omega⟩ (rowOf t r)) := by
  refine (congrFun (congrArg (fun o => o.2.1) (outsAt0_C m c t h0 h1)) (ix3 0 r j)).trans ?_
  dsimp only
  unfold out0_C_9
  rw [View.read_writes_eq_canon _ _ _ (fun y => cover0_C_9 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay3_at _ _ _ r j).trans (congrArg silu (pr_col m c t b hb 512 _ (by omega) r j))

theorem out_10_C (h0 : ¬t.val % 8 = 0) (h1 : 4 ≤ t.val % 8) (p : Fin 4) (r : Fin 512) (l : Fin 128) :
    (outsAt0 m c t.val t.isLt).2.2.1 (ix4 p 0 r l) = (kernelArrays m c).col b ⟨1024 + (128 * p.val + l.val), by omega⟩ (rowOf t r) * Ideal.ofBits FTy.f32 0x3E000000#32 := by
  refine (congrFun (congrArg (fun o => o.2.2.1) (outsAt0_C m c t h0 h1)) (ix4 p 0 r l)).trans ?_
  dsimp only
  unfold out0_C_10
  rw [View.read_writes_eq_canon _ _ _ (fun y => cover0_C_10 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact scaled m c t b hb _ _ _ _ _ p r l

theorem out_11_C (h0 : ¬t.val % 8 = 0) (h1 : 4 ≤ t.val % 8) (p : Fin 4) (r : Fin 512) (l : Fin 128) :
    (outsAt0 m c t.val t.isLt).2.2.2.1 (ix4 p 0 r l) = (kernelArrays m c).col b ⟨1536 + (128 * p.val + l.val), by omega⟩ (rowOf t r) := by
  refine (congrFun (congrArg (fun o => o.2.2.2.1) (outsAt0_C m c t h0 h1)) (ix4 p 0 r l)).trans ?_
  dsimp only
  unfold out0_C_11
  rw [View.read_writes_eq_canon _ _ _ (fun y => cover0_C_11 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact planes m c t b hb 1536 _ (by omega) _ _ _ _ p r l

theorem out_12_C (h0 : ¬t.val % 8 = 0) (h1 : 4 ≤ t.val % 8) (p : Fin 4) (r : Fin 512) (l : Fin 128) :
    (outsAt0 m c t.val t.isLt).2.2.2.2.1 (ix4 p 0 r l) = (kernelArrays m c).col b ⟨2048 + (128 * p.val + l.val), by omega⟩ (rowOf t r) := by
  refine (congrFun (congrArg (fun o => o.2.2.2.2.1) (outsAt0_C m c t h0 h1)) (ix4 p 0 r l)).trans ?_
  dsimp only
  unfold out0_C_12
  rw [View.read_writes_eq_canon _ _ _ (fun y => cover0_C_12 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact planes m c t b hb 2048 _ (by omega) _ _ _ _ p r l

theorem out_13_C (h0 : ¬t.val % 8 = 0) (h1 : 4 ≤ t.val % 8) (r j : Fin 512) :
    (outsAt0 m c t.val t.isLt).2.2.2.2.2.1 (ix3 0 r j) = (kernelArrays m c).col b ⟨2560 + j.val, by omega⟩ (rowOf t r) := by
  refine (congrFun (congrArg (fun o => o.2.2.2.2.2.1) (outsAt0_C m c t h0 h1)) (ix3 0 r j)).trans ?_
  dsimp only
  unfold out0_C_13
  rw [View.read_writes_eq_canon _ _ _ (fun y => cover0_C_13 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay51_at _ _ _ r j).trans (pr_col m c t b hb 2560 _ (by omega) r j)

theorem out_14_C_0 (h0 : ¬t.val % 8 = 0) (h1 : 4 ≤ t.val % 8) (r j : Fin 512) :
    (outsAt0 m c t.val t.isLt).2.2.2.2.2.2.1 (ix3 0 r ⟨j.val, by omega⟩) = silu ((kernelArrays m c).col b ⟨3072 + j.val, by omega⟩ (rowOf t r)) := by
  refine (congrFun (congrArg (fun o => o.2.2.2.2.2.2.1) (outsAt0_C m c t h0 h1)) (ix3 0 r ⟨j.val, by omega⟩)).trans ?_
  dsimp only
  unfold out0_C_14
  rw [View.read_writes_eq_canon _ _ _ (fun y => cover0_C_14 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((halves_at _ _ _ _ r j).1).trans ?_
  exact (pay2_at _ _ _ r j).trans (congrArg silu (pr_col m c t b hb 3072 _ (by omega) r j))

theorem out_14_C_1 (h0 : ¬t.val % 8 = 0) (h1 : 4 ≤ t.val % 8) (r j : Fin 512) :
    (outsAt0 m c t.val t.isLt).2.2.2.2.2.2.1 (ix3 0 r ⟨512 + j.val, by omega⟩) = silu ((kernelArrays m c).col b ⟨3584 + j.val, by omega⟩ (rowOf t r)) := by
  refine (congrFun (congrArg (fun o => o.2.2.2.2.2.2.1) (outsAt0_C m c t h0 h1)) (ix3 0 r ⟨512 + j.val, by omega⟩)).trans ?_
  dsimp only
  unfold out0_C_14
  rw [View.read_writes_eq_canon _ _ _ (fun y => cover0_C_14 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((halves_at _ _ _ _ r j).2).trans ?_
  exact (pay2_at _ _ _ r j).trans (congrArg silu (pr_col m c t b hb 3584 _ (by omega) r j))

theorem out_15_C_0 (h0 : ¬t.val % 8 = 0) (h1 : 4 ≤ t.val % 8) (r j : Fin 512) :
    (outsAt0 m c t.val t.isLt).2.2.2.2.2.2.2.1 (ix3 0 r ⟨j.val, by omega⟩) = silu (conv ((kernelArrays m c).col b ⟨4096 + (0 + j.val), by omega⟩) (fun a => (kernelArrays m c).sw a ⟨0 + j.val, by omega⟩) ((kernelArrays m c).sb ⟨0 + j.val, by omega⟩) (rowOf t r)) := by
  refine (congrFun (congrArg (fun o => o.2.2.2.2.2.2.2.1) (outsAt0_C m c t h0 h1)) (ix3 0 r ⟨j.val, by omega⟩)).trans ?_
  dsimp only
  unfold out0_C_15
  rw [View.read_writes_eq_canon _ _ _ (fun y => cover0_C_15 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).1).trans ?_
  refine (pay24_at _ _ _ _ _ _ _ r j).trans ?_
  refine xbc_tile m c t b hb 0 4096 rfl (by omega) _ _ _ _ _ _ _ r j fun a => ?_
  exact (ld_carry 1536 _ 0 _ (by omega) a j).trans (hand1_0 m c t b hb h0 a j)

theorem out_15_C_1 (h0 : ¬t.val % 8 = 0) (h1 : 4 ≤ t.val % 8) (r j : Fin 512) :
    (outsAt0 m c t.val t.isLt).2.2.2.2.2.2.2.1 (ix3 0 r ⟨512 + j.val, by omega⟩) = silu (conv ((kernelArrays m c).col b ⟨4096 + (512 + j.val), by omega⟩) (fun a => (kernelArrays m c).sw a ⟨512 + j.val, by omega⟩) ((kernelArrays m c).sb ⟨512 + j.val, by omega⟩) (rowOf t r)) := by
  refine (congrFun (congrArg (fun o => o.2.2.2.2.2.2.2.1) (outsAt0_C m c t h0 h1)) (ix3 0 r ⟨512 + j.val, by omega⟩)).trans ?_
  dsimp only
  unfold out0_C_15
  rw [View.read_writes_eq_canon _ _ _ (fun y => cover0_C_15 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).2.1).trans ?_
  refine (pay33_at _ _ _ _ _ _ r j _ _).trans ?_
  refine xbc_tile m c t b hb 512 4608 rfl (by omega) _ _ _ _ _ _ _ r j fun a => ?_
  exact (ld_carry 1536 _ 512 _ (by omega) a j).trans (hand1_1 m c t b hb h0 a j)

theorem out_15_C_2 (h0 : ¬t.val % 8 = 0) (h1 : 4 ≤ t.val % 8) (r j : Fin 512) :
    (outsAt0 m c t.val t.isLt).2.2.2.2.2.2.2.1 (ix3 0 r ⟨1024 + j.val, by omega⟩) = silu (conv ((kernelArrays m c).col b ⟨4096 + (1024 + j.val), by omega⟩) (fun a => (kernelArrays m c).sw a ⟨1024 + j.val, by omega⟩) ((kernelArrays m c).sb ⟨1024 + j.val, by omega⟩) (rowOf t r)) := by
  refine (congrFun (congrArg (fun o => o.2.2.2.2.2.2.2.1) (outsAt0_C m c t h0 h1)) (ix3 0 r ⟨1024 + j.val, by omega⟩)).trans ?_
  dsimp only
  unfold out0_C_15
  rw [View.read_writes_eq_canon _ _ _ (fun y => cover0_C_15 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((thirds_at _ _ _ _ _ _ r j).2.2).trans ?_
  refine (pay40_at _ _ _ _ _ _ _ r j).trans ?_
  refine xbc_tile m c t b hb 1024 5120 rfl (by omega) _ _ _ _ _ _ _ r j fun a => ?_
  exact (ld_carry 1536 _ 1024 _ (by omega) a j).trans (hand1_2 m c t b hb h0 a j)

theorem out_16_C (h0 : ¬t.val % 8 = 0) (h1 : 4 ≤ t.val % 8) (r : Fin 512) (l : Fin 128) :
    (outsAt0 m c t.val t.isLt).2.2.2.2.2.2.2.2.1 (ix3 0 r l) = if h : l.val < 16 then (kernelArrays m c).col b ⟨5632 + l.val, by omega⟩ (rowOf t r) else 0 := by
  refine (congrFun (congrArg (fun o => o.2.2.2.2.2.2.2.2.1) (outsAt0_C m c t h0 h1)) (ix3 0 r l)).trans ?_
  dsimp only
  unfold out0_C_16
  rw [View.read_writes_eq_canon _ _ _ (fun y => cover0_C_16 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact dt_col m c t b hb r l

theorem out_19_C (h0 : ¬t.val % 8 = 0) (h1 : 4 ≤ t.val % 8) (a : Fin 8) (j : Fin 512) :
    (outsAt0 m c t.val t.isLt).2.2.2.2.2.2.2.2.2.2.2.1 (ix3 0 a j) = (kernelArrays m c).col b ⟨0 + j.val, by omega⟩ (512 * ((t.val % 8 : ℕ) : ℤ) + 504 + (a.val : ℤ)) := by
  refine (congrFun (congrArg (fun o => o.2.2.2.2.2.2.2.2.2.2.2.1) (outsAt0_C m c t h0 h1)) (ix3 0 a j)).trans ?_
  dsimp only
  unfold out0_C_19
  rw [View.read_writes_eq_canon _ _ _ (fun y => cover0_C_19 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  rw [View.canon_unit_zero hz3]
  exact (pay23_at j _ a).trans (last_rows m c t b hb 0 _ (by omega) a j)

theorem out_20_C_0 (h0 : ¬t.val % 8 = 0) (h1 : 4 ≤ t.val % 8) (a : Fin 8) (j : Fin 512) :
    (outsAt0 m c t.val t.isLt).2.2.2.2.2.2.2.2.2.2.2.2.1 (ix3 0 a ⟨j.val, by omega⟩) = (kernelArrays m c).col b ⟨4096 + j.val, by omega⟩ (512 * ((t.val % 8 : ℕ) : ℤ) + 504 + (a.val : ℤ)) := by
  refine (congrFun (congrArg (fun o => o.2.2.2.2.2.2.2.2.2.2.2.2.1) (outsAt0_C m c t h0 h1)) (ix3 0 a ⟨j.val, by omega⟩)).trans ?_
  dsimp only
  unfold out0_C_20
  rw [View.read_writes_eq_canon _ _ _ (fun y => cover0_C_20 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).1).trans ?_
  exact (pay23_at j _ a).trans (last_rows m c t b hb 4096 _ (by omega) a j)

theorem out_20_C_1 (h0 : ¬t.val % 8 = 0) (h1 : 4 ≤ t.val % 8) (a : Fin 8) (j : Fin 512) :
    (outsAt0 m c t.val t.isLt).2.2.2.2.2.2.2.2.2.2.2.2.1 (ix3 0 a ⟨512 + j.val, by omega⟩) = (kernelArrays m c).col b ⟨4608 + j.val, by omega⟩ (512 * ((t.val % 8 : ℕ) : ℤ) + 504 + (a.val : ℤ)) := by
  refine (congrFun (congrArg (fun o => o.2.2.2.2.2.2.2.2.2.2.2.2.1) (outsAt0_C m c t h0 h1)) (ix3 0 a ⟨512 + j.val, by omega⟩)).trans ?_
  dsimp only
  unfold out0_C_20
  rw [View.read_writes_eq_canon _ _ _ (fun y => cover0_C_20 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).2.1).trans ?_
  exact (pay23_at j _ a).trans (last_rows m c t b hb 4608 _ (by omega) a j)

theorem out_20_C_2 (h0 : ¬t.val % 8 = 0) (h1 : 4 ≤ t.val % 8) (a : Fin 8) (j : Fin 512) :
    (outsAt0 m c t.val t.isLt).2.2.2.2.2.2.2.2.2.2.2.2.1 (ix3 0 a ⟨1024 + j.val, by omega⟩) = (kernelArrays m c).col b ⟨5120 + j.val, by omega⟩ (512 * ((t.val % 8 : ℕ) : ℤ) + 504 + (a.val : ℤ)) := by
  refine (congrFun (congrArg (fun o => o.2.2.2.2.2.2.2.2.2.2.2.2.1) (outsAt0_C m c t h0 h1)) (ix3 0 a ⟨1024 + j.val, by omega⟩)).trans ?_
  dsimp only
  unfold out0_C_20
  rw [View.read_writes_eq_canon _ _ _ (fun y => cover0_C_20 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  refine ((tails_at _ _ _ _ _ _ a j).2.2).trans ?_
  exact (pay23_at j _ a).trans (last_rows m c t b hb 5120 _ (by omega) a j)

theorem out_17_C (h0 : ¬t.val % 8 = 0) (h1 : 4 ≤ t.val % 8) (p : Fin 2) (i r : Fin 512) :
    (outsAt0 m c t.val t.isLt).2.2.2.2.2.2.2.2.2.1 (ix4 p 0 i r) = if p = 0 then (kernelArrays m c).col b ⟨1536 + i.val, by omega⟩ (rowOf t r) else 0 := by
  refine (congrFun (congrArg (fun o => o.2.2.2.2.2.2.2.2.2.1) (outsAt0_C m c t h0 h1)) (ix4 p 0 i r)).trans ?_
  dsimp only
  unfold out0_C_17
  rw [View.read_writes_eq_canon _ _ _ (fun y => cover0_C_17 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact window m c t b hb 1536 _ (by omega) _ _ p i r

theorem out_18_C (h0 : ¬t.val % 8 = 0) (h1 : 4 ≤ t.val % 8) (p : Fin 2) (i r : Fin 512) :
    (outsAt0 m c t.val t.isLt).2.2.2.2.2.2.2.2.2.2.1 (ix4 p 0 i r) = if p = 0 then (kernelArrays m c).col b ⟨2048 + i.val, by omega⟩ (rowOf t r) else 0 := by
  refine (congrFun (congrArg (fun o => o.2.2.2.2.2.2.2.2.2.2.1) (outsAt0_C m c t h0 h1)) (ix4 p 0 i r)).trans ?_
  dsimp only
  unfold out0_C_18
  rw [View.read_writes_eq_canon _ _ _ (fun y => cover0_C_18 (y := y) ..)]
  unfold kernelRun0_C
  dsimp only
  sl_unfold_words
  simp only [View.readAt_eq_ld, carry0_read, carry1_read, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x512x1024) hz3, View.ld_unit_zero (S := S1x1024) hz2, View.ld_unit_zero (S := S1024x128) hz2, View.ld_unit_zero (S := S1x512) hz2]
  exact window m c t b hb 2048 _ (by omega) _ _ p i r

end Cert.InProj

end
-- ==== Proof.InProj.Results.lean ====
/- What the call leaves, index by index: each result as a function of the layer's arrays. -/
module

public import proofs.«01_k».proof.Proof.InProj.Layer

@[expose] public section

noncomputable section

namespace Cert.InProj

open Idealize.ShloMosaic

namespace Arrays

variable (D : Arrays)

/-- The first gate's columns, each times its logistic. -/
def gate (b : Fin 4) (n : Fin 4096) (j : Fin 512) : EReal := silu (D.u b n ⟨512 + j.val, by omega⟩)

/-- The queries, scaled, by pair of heads. -/
def query (p b : Fin 4) (n : Fin 4096) (l : Fin 128) : EReal :=
  D.u b n ⟨1024 + (128 * p.val + l.val), by omega⟩ * Ideal.ofBits FTy.f32 0x3E000000#32

/-- The keys by pair of heads. -/
def key (p b : Fin 4) (n : Fin 4096) (l : Fin 128) : EReal := D.u b n ⟨1536 + (128 * p.val + l.val), by omega⟩

/-- The values by pair of heads. -/
def value (p b : Fin 4) (n : Fin 4096) (l : Fin 128) : EReal := D.u b n ⟨2048 + (128 * p.val + l.val), by omega⟩

/-- The attention's gate. -/
def attnGate (b : Fin 4) (n : Fin 4096) (j : Fin 512) : EReal := D.u b n ⟨2560 + j.val, by omega⟩

/-- The last gate's columns, each times its logistic. -/
def stateGate (b : Fin 4) (n : Fin 4096) (j : Fin 1024) : EReal := silu (D.u b n ⟨3072 + j.val, by omega⟩)

/-- The last sixteen columns, with zeros after them. -/
def steps (b : Fin 4) (n : Fin 4096) (l : Fin 128) : EReal := if h : l.val < 16 then D.u b n ⟨5632 + l.val, by omega⟩ else 0

/-- The last 2048 positions of the keys, and zeros for the other layer. -/
def keyWindow (p : Fin 2) (b : Fin 4) (i : Fin 512) (n : Fin 2048) : EReal :=
  if p = 0 then D.u b ⟨2048 + n.val, by omega⟩ ⟨1536 + i.val, by omega⟩ else 0

/-- The last 2048 positions of the values, and zeros for the other layer. -/
def valueWindow (p : Fin 2) (b : Fin 4) (i : Fin 512) (n : Fin 2048) : EReal :=
  if p = 0 then D.u b ⟨2048 + n.val, by omega⟩ ⟨2048 + i.val, by omega⟩ else 0

/-- The last eight rows of the first convolution's columns. -/
def lruTail (b : Fin 4) (a : Fin 8) (j : Fin 512) : EReal := D.u b ⟨4088 + a.val, by omega⟩ ⟨j.val, by omega⟩

/-- The last eight rows of the second convolution's columns. -/
def stateTail (b : Fin 4) (a : Fin 8) (j : Fin 1536) : EReal := D.u b ⟨4088 + a.val, by omega⟩ ⟨4096 + j.val, by omega⟩

end Arrays

end Cert.InProj

end
-- ==== Proof.InProj.OutAll.lean ====
/- What every tile leaves in each output block, as rows of the layer. -/
module

public import proofs.«01_k».proof.Proof.InProj.OutA
public import proofs.«01_k».proof.Proof.InProj.OutB
public import proofs.«01_k».proof.Proof.InProj.OutC
public import proofs.«01_k».proof.Proof.InProj.Results

@[expose] public section

set_option maxRecDepth 16384

noncomputable section

namespace Cert.InProj

open Idealize.ShloMosaic Idealize.ShloMosaic.TcCoe Idealize.ShloMosaic.Tactic Idealize.SL.Sem Cert.ProjectionIdeal Cert.ProjectionIdeal.Gen

variable (m : (ℓ : Loc nD τ sig) → Buf (Elt Ideal) ℓ) (c : Dev nD)
variable (t : Fin cfg0.N) (b : Fin 4) (hb : b.val = t.val / 8)

theorem row_nat (t : Fin cfg0.N) (r : Fin 512) (n : Fin 4096) (hn : n.val = 512 * (t.val % 8) + r.val) : rowOf t r = (n.val : ℤ) := by
  show 512 * ((t.val % 8 : ℕ) : ℤ) + (r.val : ℤ) = (n.val : ℤ)
  omega

/-- A column in the 512 columns from `off`. -/
theorem part {n : ℕ} (off : ℕ) (hn : off + 512 ≤ n) (j : Fin n) (h : off ≤ j.val) (h' : j.val < off + 512) :
    ∃ i : Fin 512, j = ⟨off + i.val, lt_of_lt_of_le (Nat.add_lt_add_left i.isLt off) hn⟩ :=
  ⟨⟨j.val - off, by omega⟩, Fin.ext (by show j.val = off + (j.val - off); omega)⟩

include hb

theorem at_8 (r j : Fin 512) (n : Fin 4096) (hn : n.val = 512 * (t.val % 8) + r.val) :
    (outsAt0 m c t.val t.isLt).1 (ix3 0 r j) = (kernelArrays m c).xlru b n j := by
  have e := row_nat t r n hn
  unfold Arrays.xlru
  rw [← e]
  by_cases h0 : t.val % 8 = 0
  · exact out_8_A m c t b hb h0 (by omega) r j
  · by_cases h1 : 4 ≤ t.val % 8
    · exact out_8_C m c t b hb h0 h1 r j
    · exact out_8_B m c t b hb h0 h1 r j

theorem at_9 (r j : Fin 512) (n : Fin 4096) (hn : n.val = 512 * (t.val % 8) + r.val) :
    (outsAt0 m c t.val t.isLt).2.1 (ix3 0 r j) = (kernelArrays m c).gate b n j := by
  have e := row_nat t r n hn
  unfold Arrays.gate
  rw [← Arrays.col_nat, ← e]
  by_cases h0 : t.val % 8 = 0
  · exact out_9_A m c t b hb h0 (by omega) r j
  · by_cases h1 : 4 ≤ t.val % 8
    · exact out_9_C m c t b hb h0 h1 r j
    · exact out_9_B m c t b hb h0 h1 r j

theorem at_13 (r j : Fin 512) (n : Fin 4096) (hn : n.val = 512 * (t.val % 8) + r.val) :
    (outsAt0 m c t.val t.isLt).2.2.2.2.2.1 (ix3 0 r j) = (kernelArrays m c).attnGate b n j := by
  have e := row_nat t r n hn
  unfold Arrays.attnGate
  rw [← Arrays.col_nat, ← e]
  by_cases h0 : t.val % 8 = 0
  · exact out_13_A m c t b hb h0 (by omega) r j
  · by_cases h1 : 4 ≤ t.val % 8
    · exact out_13_C m c t b hb h0 h1 r j
    · exact out_13_B m c t b hb h0 h1 r j

theorem at_10 (p : Fin 4) (r : Fin 512) (l : Fin 128) (n : Fin 4096) (hn : n.val = 512 * (t.val % 8) + r.val) :
    (outsAt0 m c t.val t.isLt).2.2.1 (ix4 p 0 r l) = (kernelArrays m c).query p b n l := by
  have e := row_nat t r n hn
  unfold Arrays.query
  rw [← Arrays.col_nat, ← e]
  by_cases h0 : t.val % 8 = 0
  · exact out_10_A m c t b hb h0 (by omega) p r l
  · by_cases h1 : 4 ≤ t.val % 8
    · exact out_10_C m c t b hb h0 h1 p r l
    · exact out_10_B m c t b hb h0 h1 p r l

theorem at_11 (p : Fin 4) (r : Fin 512) (l : Fin 128) (n : Fin 4096) (hn : n.val = 512 * (t.val % 8) + r.val) :
    (outsAt0 m c t.val t.isLt).2.2.2.1 (ix4 p 0 r l) = (kernelArrays m c).key p b n l := by
  have e := row_nat t r n hn
  unfold Arrays.key
  rw [← Arrays.col_nat, ← e]
  by_cases h0 : t.val % 8 = 0
  · exact out_11_A m c t b hb h0 (by omega) p r l
  · by_cases h1 : 4 ≤ t.val % 8
    · exact out_11_C m c t b hb h0 h1 p r l
    · exact out_11_B m c t b hb h0 h1 p r l

theorem at_12 (p : Fin 4) (r : Fin 512) (l : Fin 128) (n : Fin 4096) (hn : n.val = 512 * (t.val % 8) + r.val) :
    (outsAt0 m c t.val t.isLt).2.2.2.2.1 (ix4 p 0 r l) = (kernelArrays m c).value p b n l := by
  have e := row_nat t r n hn
  unfold Arrays.value
  rw [← Arrays.col_nat, ← e]
  by_cases h0 : t.val % 8 = 0
  · exact out_12_A m c t b hb h0 (by omega) p r l
  · by_cases h1 : 4 ≤ t.val % 8
    · exact out_12_C m c t b hb h0 h1 p r l
    · exact out_12_B m c t b hb h0 h1 p r l

theorem at_14 (r : Fin 512) (j : Fin 1024) (n : Fin 4096) (hn : n.val = 512 * (t.val % 8) + r.val) :
    (outsAt0 m c t.val t.isLt).2.2.2.2.2.2.1 (ix3 0 r j) = (kernelArrays m c).stateGate b n j := by
  have e := row_nat t r n hn
  unfold Arrays.stateGate
  rw [← Arrays.col_nat, ← e]
  by_cases hj : j.val < 512
  · let i : Fin 512 := ⟨j.val, hj⟩
    by_cases h0 : t.val % 8 = 0
    · exact out_14_A_0 m c t b hb h0 (by omega) r i
    · by_cases h1 : 4 ≤ t.val % 8
      · exact out_14_C_0 m c t b hb h0 h1 r i
      · exact out_14_B_0 m c t b hb h0 h1 r i
  · obtain ⟨i, rfl⟩ := part 512 (by decide) j (by omega) (by omega)
    have ej : (⟨3584 + i.val, by omega⟩ : Fin 5648) = ⟨3072 + (512 + i.val), by omega⟩ := Fin.ext (by show 3584 + i.val = 3072 + (512 + i.val); omega)
    show _ = silu ((kernelArrays m c).col b ⟨3072 + (512 + i.val), by omega⟩ (rowOf t r))
    rw [← ej]
    by_cases h0 : t.val % 8 = 0
    · exact out_14_A_1 m c t b hb h0 (by omega) r i
    · by_cases h1 : 4 ≤ t.val % 8
      · exact out_14_C_1 m c t b hb h0 h1 r i
      · exact out_14_B_1 m c t b hb h0 h1 r i

theorem at_15 (r : Fin 512) (j : Fin 1536) (n : Fin 4096) (hn : n.val = 512 * (t.val % 8) + r.val) :
    (outsAt0 m c t.val t.isLt).2.2.2.2.2.2.2.1 (ix3 0 r j) = (kernelArrays m c).xbc b n j := by
  have e := row_nat t r n hn
  unfold Arrays.xbc
  rw [← e]
  by_cases hj : j.val < 512
  · have ej : j = (⟨0 + j.val, by omega⟩ : Fin 1536) := Fin.ext (Nat.zero_add _).symm
    have ec : (⟨4096 + j.val, by omega⟩ : Fin 5648) = ⟨4096 + (0 + j.val), by omega⟩ := Fin.ext (by show 4096 + j.val = 4096 + (0 + j.val); omega)
    refine Eq.trans (b := silu (conv ((kernelArrays m c).col b ⟨4096 + (0 + j.val), by omega⟩) (fun a => (kernelArrays m c).sw a ⟨0 + j.val, by omega⟩) ((kernelArrays m c).sb ⟨0 + j.val, by omega⟩) (rowOf t r))) ?_ (by rw [← ec, ← ej])
    by_cases h0 : t.val % 8 = 0
    · exact out_15_A_0 m c t b hb h0 (by omega) r ⟨j.val, hj⟩
    · by_cases h1 : 4 ≤ t.val % 8
      · exact out_15_C_0 m c t b hb h0 h1 r ⟨j.val, hj⟩
      · exact out_15_B_0 m c t b hb h0 h1 r ⟨j.val, hj⟩
  · by_cases hj2 : j.val < 1024
    · obtain ⟨i, rfl⟩ := part 512 (by decide) j (by omega) (by omega)
      by_cases h0 : t.val % 8 = 0
      · exact out_15_A_1 m c t b hb h0 (by omega) r i
      · by_cases h1 : 4 ≤ t.val % 8
        · exact out_15_C_1 m c t b hb h0 h1 r i
        · exact out_15_B_1 m c t b hb h0 h1 r i
    · obtain ⟨i, rfl⟩ := part 1024 (by decide) j (by omega) (by omega)
      by_cases h0 : t.val % 8 = 0
      · exact out_15_A_2 m c t b hb h0 (by omega) r i
      · by_cases h1 : 4 ≤ t.val % 8
        · exact out_15_C_2 m c t b hb h0 h1 r i
        · exact out_15_B_2 m c t b hb h0 h1 r i

theorem at_16 (r : Fin 512) (l : Fin 128) (n : Fin 4096) (hn : n.val = 512 * (t.val % 8) + r.val) :
    (outsAt0 m c t.val t.isLt).2.2.2.2.2.2.2.2.1 (ix3 0 r l) = (kernelArrays m c).steps b n l := by
  have e := row_nat t r n hn
  unfold Arrays.steps
  simp only [← Arrays.col_nat, ← e]
  by_cases h0 : t.val % 8 = 0
  · exact out_16_A m c t b hb h0 (by omega) r l
  · by_cases h1 : 4 ≤ t.val % 8
    · exact out_16_C m c t b hb h0 h1 r l
    · exact out_16_B m c t b hb h0 h1 r l

theorem at_17 (h1 : 4 ≤ t.val % 8) (p : Fin 2) (i r : Fin 512) (n : Fin 2048) (hn : n.val = 512 * (t.val % 8 - 4) + r.val) :
    (outsAt0 m c t.val t.isLt).2.2.2.2.2.2.2.2.2.1 (ix4 p 0 i r) = (kernelArrays m c).keyWindow p b i n := by
  have e := row_nat t r ⟨2048 + n.val, by omega⟩ (by show 2048 + n.val = _; omega)
  unfold Arrays.keyWindow
  rw [← Arrays.col_nat, ← e]
  exact out_17_C m c t b hb (by omega) h1 p i r

theorem at_18 (h1 : 4 ≤ t.val % 8) (p : Fin 2) (i r : Fin 512) (n : Fin 2048) (hn : n.val = 512 * (t.val % 8 - 4) + r.val) :
    (outsAt0 m c t.val t.isLt).2.2.2.2.2.2.2.2.2.2.1 (ix4 p 0 i r) = (kernelArrays m c).valueWindow p b i n := by
  have e := row_nat t r ⟨2048 + n.val, by omega⟩ (by show 2048 + n.val = _; omega)
  unfold Arrays.valueWindow
  rw [← Arrays.col_nat, ← e]
  exact out_18_C m c t b hb (by omega) h1 p i r

theorem at_19 (h7 : t.val % 8 = 7) (a : Fin 8) (j : Fin 512) :
    (outsAt0 m c t.val t.isLt).2.2.2.2.2.2.2.2.2.2.2.1 (ix3 0 a j) = (kernelArrays m c).lruTail b a j := by
  have e : (512 * ((t.val % 8 : ℕ) : ℤ) + 504 + (a.val : ℤ)) = (((⟨4088 + a.val, by omega⟩ : Fin 4096).val : ℕ) : ℤ) := by
    show _ = ((4088 + a.val : ℕ) : ℤ)
    omega
  have ej : (⟨0 + j.val, by omega⟩ : Fin 5648) = ⟨j.val, by omega⟩ := Fin.ext (Nat.zero_add _)
  unfold Arrays.lruTail
  rw [← Arrays.col_nat, ← e, ← ej]
  exact out_19_C m c t b hb (by omega) (by omega) a j

theorem at_20 (h7 : t.val % 8 = 7) (a : Fin 8) (j : Fin 1536) :
    (outsAt0 m c t.val t.isLt).2.2.2.2.2.2.2.2.2.2.2.2.1 (ix3 0 a j) = (kernelArrays m c).stateTail b a j := by
  have e : (512 * ((t.val % 8 : ℕ) : ℤ) + 504 + (a.val : ℤ)) = (((⟨4088 + a.val, by omega⟩ : Fin 4096).val : ℕ) : ℤ) := by
    show _ = ((4088 + a.val : ℕ) : ℤ)
    omega
  unfold Arrays.stateTail
  rw [← Arrays.col_nat, ← e]
  by_cases hj : j.val < 512
  · exact out_20_C_0 m c t b hb (by omega) (by omega) a ⟨j.val, hj⟩
  · by_cases hj2 : j.val < 1024
    · obtain ⟨i, rfl⟩ := part 512 (by decide) j (by omega) (by omega)
      have ej : (⟨4608 + i.val, by omega⟩ : Fin 5648) = ⟨4096 + (512 + i.val), by omega⟩ := Fin.ext (by show 4608 + i.val = 4096 + (512 + i.val); omega)
      show _ = (kernelArrays m c).col b ⟨4096 + (512 + i.val), by omega⟩ _
      rw [← ej]
      exact out_20_C_1 m c t b hb (by omega) (by omega) a i
    · obtain ⟨i, rfl⟩ := part 1024 (by decide) j (by omega) (by omega)
      have ej : (⟨5120 + i.val, by omega⟩ : Fin 5648) = ⟨4096 + (1024 + i.val), by omega⟩ := Fin.ext (by show 5120 + i.val = 4096 + (1024 + i.val); omega)
      show _ = (kernelArrays m c).col b ⟨4096 + (1024 + i.val), by omega⟩ _
      rw [← ej]
      exact out_20_C_2 m c t b hb (by omega) (by omega) a i

end Cert.InProj

end
-- ==== Proof.InProj.Final.lean ====
/- The arrays the call leaves, index by index. -/
module

public import proofs.«01_k».proof.Proof.InProj.OutAll
public import Idealize.ShloMosaic.Lib.Pipeline.ValueKit.Point

@[expose] public section

set_option maxRecDepth 16384

noncomputable section

namespace Cert.InProj

open Idealize.ShloMosaic Idealize.ShloMosaic.TcCoe Idealize.ShloMosaic.Tactic Idealize.SL.Sem Cert.ProjectionIdeal Cert.ProjectionIdeal.Gen

variable (m : (ℓ : Loc nD τ sig) → Buf (Elt Ideal) ℓ) (c : Dev nD)

theorem index8 (t : Fin cfg0.N) : win0_8.index t = ![t.val / 8, t.val % 8, 0] := by
  revert t; decide

theorem index9 (t : Fin cfg0.N) : win0_9.index t = ![t.val / 8, t.val % 8, 0] := by
  revert t; decide

theorem index10 (t : Fin cfg0.N) : win0_10.index t = ![0, t.val / 8, t.val % 8, 0] := by
  revert t; decide

theorem index11 (t : Fin cfg0.N) : win0_11.index t = ![0, t.val / 8, t.val % 8, 0] := by
  revert t; decide

theorem index12 (t : Fin cfg0.N) : win0_12.index t = ![0, t.val / 8, t.val % 8, 0] := by
  revert t; decide

theorem index13 (t : Fin cfg0.N) : win0_13.index t = ![t.val / 8, t.val % 8, 0] := by
  revert t; decide

theorem index14 (t : Fin cfg0.N) : win0_14.index t = ![t.val / 8, t.val % 8, 0] := by
  revert t; decide

theorem index15 (t : Fin cfg0.N) : win0_15.index t = ![t.val / 8, t.val % 8, 0] := by
  revert t; decide

theorem index16 (t : Fin cfg0.N) : win0_16.index t = ![t.val / 8, t.val % 8, 0] := by
  revert t; decide

theorem index17 (t : Fin cfg0.N) : win0_17.index t = ![0, t.val / 8, 0, t.val % 8 - 4] := by
  revert t; decide

theorem index18 (t : Fin cfg0.N) : win0_18.index t = ![0, t.val / 8, 0, t.val % 8 - 4] := by
  revert t; decide

theorem index19 (t : Fin cfg0.N) : win0_19.index t = ![t.val / 8, 0, 0] := by
  revert t; decide

theorem index20 (t : Fin cfg0.N) : win0_20.index t = ![t.val / 8, 0, 0] := by
  revert t; decide

theorem flush17 : ∀ t : Fin cfg0.N, (cfg0.win 17).flush t = true → 4 ≤ t.val % 8 := by
  decide +kernel

theorem flush18 : ∀ t : Fin cfg0.N, (cfg0.win 18).flush t = true → 4 ≤ t.val % 8 := by
  decide +kernel

theorem flush19 : ∀ t : Fin cfg0.N, (cfg0.win 19).flush t = true → t.val % 8 = 7 := by
  decide +kernel

theorem flush20 : ∀ t : Fin cfg0.N, (cfg0.win 20).flush t = true → t.val % 8 = 7 := by
  decide +kernel

/-- The array of output 0. -/
def G8 : S4x4096x512.Idx → EReal := fun i => (kernelArrays m c).xlru (i 0) (i 1) (i 2)

theorem array8 : (dats m 0 c).arrAt 8 cfg0.N = G8 m c := by
  refine (dats m 0 c).arrAt_eq_of_covers 8 (G8 m c) (by decide +kernel) fun t hf y => ?_
  blk_simp
  rw [after0_8]
  obtain ⟨z, r, l, rfl⟩ : ∃ (z : Fin 1) (r : Fin 512) (l : Fin 512), y = ix3 z r l := ⟨y 0, y 1, y 2, eq_ix3 y⟩
  obtain rfl : z = 0 := Subsingleton.elim _ _
  have ht : t.val < 32 := t.isLt
  have hb : t.val / 8 < 4 := by omega
  have e : (win0_8.blk t).view.emb (ix3 0 r l) = (ix3 ⟨t.val / 8, hb⟩ ⟨512 * (t.val % 8) + r.val, by omega⟩ l : S4x4096x512.Idx) := by blk_ext [index8 t]
  exact (at_8 m c t ⟨t.val / 8, hb⟩ rfl r l ⟨512 * (t.val % 8) + r.val, by omega⟩ rfl).trans (congrArg (G8 m c) e).symm

/-- The array of output 1. -/
def G9 : S4x4096x512.Idx → EReal := fun i => (kernelArrays m c).gate (i 0) (i 1) (i 2)

theorem array9 : (dats m 0 c).arrAt 9 cfg0.N = G9 m c := by
  refine (dats m 0 c).arrAt_eq_of_covers 9 (G9 m c) (by decide +kernel) fun t hf y => ?_
  blk_simp
  rw [after0_9]
  obtain ⟨z, r, l, rfl⟩ : ∃ (z : Fin 1) (r : Fin 512) (l : Fin 512), y = ix3 z r l := ⟨y 0, y 1, y 2, eq_ix3 y⟩
  obtain rfl : z = 0 := Subsingleton.elim _ _
  have ht : t.val < 32 := t.isLt
  have hb : t.val / 8 < 4 := by omega
  have e : (win0_9.blk t).view.emb (ix3 0 r l) = (ix3 ⟨t.val / 8, hb⟩ ⟨512 * (t.val % 8) + r.val, by omega⟩ l : S4x4096x512.Idx) := by blk_ext [index9 t]
  exact (at_9 m c t ⟨t.val / 8, hb⟩ rfl r l ⟨512 * (t.val % 8) + r.val, by omega⟩ rfl).trans (congrArg (G9 m c) e).symm

/-- The array of output 2. -/
def G10 : S4x4x4096x128.Idx → EReal := fun i => (kernelArrays m c).query (i 0) (i 1) (i 2) (i 3)

theorem array10 : (dats m 0 c).arrAt 10 cfg0.N = G10 m c := by
  refine (dats m 0 c).arrAt_eq_of_covers 10 (G10 m c) (by decide +kernel) fun t hf y => ?_
  blk_simp
  rw [after0_10]
  obtain ⟨p, z, r, l, rfl⟩ : ∃ (p : Fin 4) (z : Fin 1) (r : Fin 512) (l : Fin 128), y = ix4 p z r l := ⟨y 0, y 1, y 2, y 3, eq_ix4 y⟩
  obtain rfl : z = 0 := Subsingleton.elim _ _
  have ht : t.val < 32 := t.isLt
  have hb : t.val / 8 < 4 := by omega
  have e : (win0_10.blk t).view.emb (ix4 p 0 r l) = (ix4 p ⟨t.val / 8, hb⟩ ⟨512 * (t.val % 8) + r.val, by omega⟩ l : S4x4x4096x128.Idx) := by blk_ext [index10 t]
  exact (at_10 m c t ⟨t.val / 8, hb⟩ rfl p r l ⟨512 * (t.val % 8) + r.val, by omega⟩ rfl).trans (congrArg (G10 m c) e).symm

/-- The array of output 3. -/
def G11 : S4x4x4096x128.Idx → EReal := fun i => (kernelArrays m c).key (i 0) (i 1) (i 2) (i 3)

theorem array11 : (dats m 0 c).arrAt 11 cfg0.N = G11 m c := by
  refine (dats m 0 c).arrAt_eq_of_covers 11 (G11 m c) (by decide +kernel) fun t hf y => ?_
  blk_simp
  rw [after0_11]
  obtain ⟨p, z, r, l, rfl⟩ : ∃ (p : Fin 4) (z : Fin 1) (r : Fin 512) (l : Fin 128), y = ix4 p z r l := ⟨y 0, y 1, y 2, y 3, eq_ix4 y⟩
  obtain rfl : z = 0 := Subsingleton.elim _ _
  have ht : t.val < 32 := t.isLt
  have hb : t.val / 8 < 4 := by omega
  have e : (win0_11.blk t).view.emb (ix4 p 0 r l) = (ix4 p ⟨t.val / 8, hb⟩ ⟨512 * (t.val % 8) + r.val, by omega⟩ l : S4x4x4096x128.Idx) := by blk_ext [index11 t]
  exact (at_11 m c t ⟨t.val / 8, hb⟩ rfl p r l ⟨512 * (t.val % 8) + r.val, by omega⟩ rfl).trans (congrArg (G11 m c) e).symm

/-- The array of output 4. -/
def G12 : S4x4x4096x128.Idx → EReal := fun i => (kernelArrays m c).value (i 0) (i 1) (i 2) (i 3)

theorem array12 : (dats m 0 c).arrAt 12 cfg0.N = G12 m c := by
  refine (dats m 0 c).arrAt_eq_of_covers 12 (G12 m c) (by decide +kernel) fun t hf y => ?_
  blk_simp
  rw [after0_12]
  obtain ⟨p, z, r, l, rfl⟩ : ∃ (p : Fin 4) (z : Fin 1) (r : Fin 512) (l : Fin 128), y = ix4 p z r l := ⟨y 0, y 1, y 2, y 3, eq_ix4 y⟩
  obtain rfl : z = 0 := Subsingleton.elim _ _
  have ht : t.val < 32 := t.isLt
  have hb : t.val / 8 < 4 := by omega
  have e : (win0_12.blk t).view.emb (ix4 p 0 r l) = (ix4 p ⟨t.val / 8, hb⟩ ⟨512 * (t.val % 8) + r.val, by omega⟩ l : S4x4x4096x128.Idx) := by blk_ext [index12 t]
  exact (at_12 m c t ⟨t.val / 8, hb⟩ rfl p r l ⟨512 * (t.val % 8) + r.val, by omega⟩ rfl).trans (congrArg (G12 m c) e).symm

/-- The array of output 5. -/
def G13 : S4x4096x512.Idx → EReal := fun i => (kernelArrays m c).attnGate (i 0) (i 1) (i 2)

theorem array13 : (dats m 0 c).arrAt 13 cfg0.N = G13 m c := by
  refine (dats m 0 c).arrAt_eq_of_covers 13 (G13 m c) (by decide +kernel) fun t hf y => ?_
  blk_simp
  rw [after0_13]
  obtain ⟨z, r, l, rfl⟩ : ∃ (z : Fin 1) (r : Fin 512) (l : Fin 512), y = ix3 z r l := ⟨y 0, y 1, y 2, eq_ix3 y⟩
  obtain rfl : z = 0 := Subsingleton.elim _ _
  have ht : t.val < 32 := t.isLt
  have hb : t.val / 8 < 4 := by omega
  have e : (win0_13.blk t).view.emb (ix3 0 r l) = (ix3 ⟨t.val / 8, hb⟩ ⟨512 * (t.val % 8) + r.val, by omega⟩ l : S4x4096x512.Idx) := by blk_ext [index13 t]
  exact (at_13 m c t ⟨t.val / 8, hb⟩ rfl r l ⟨512 * (t.val % 8) + r.val, by omega⟩ rfl).trans (congrArg (G13 m c) e).symm

/-- The array of output 6. -/
def G14 : S4x4096x1024.Idx → EReal := fun i => (kernelArrays m c).stateGate (i 0) (i 1) (i 2)

theorem array14 : (dats m 0 c).arrAt 14 cfg0.N = G14 m c := by
  refine (dats m 0 c).arrAt_eq_of_covers 14 (G14 m c) (by decide +kernel) fun t hf y => ?_
  blk_simp
  rw [after0_14]
  obtain ⟨z, r, l, rfl⟩ : ∃ (z : Fin 1) (r : Fin 512) (l : Fin 1024), y = ix3 z r l := ⟨y 0, y 1, y 2, eq_ix3 y⟩
  obtain rfl : z = 0 := Subsingleton.elim _ _
  have ht : t.val < 32 := t.isLt
  have hb : t.val / 8 < 4 := by omega
  have e : (win0_14.blk t).view.emb (ix3 0 r l) = (ix3 ⟨t.val / 8, hb⟩ ⟨512 * (t.val % 8) + r.val, by omega⟩ l : S4x4096x1024.Idx) := by blk_ext [index14 t]
  exact (at_14 m c t ⟨t.val / 8, hb⟩ rfl r l ⟨512 * (t.val % 8) + r.val, by omega⟩ rfl).trans (congrArg (G14 m c) e).symm

/-- The array of output 7. -/
def G15 : S4x4096x1536.Idx → EReal := fun i => (kernelArrays m c).xbc (i 0) (i 1) (i 2)

theorem array15 : (dats m 0 c).arrAt 15 cfg0.N = G15 m c := by
  refine (dats m 0 c).arrAt_eq_of_covers 15 (G15 m c) (by decide +kernel) fun t hf y => ?_
  blk_simp
  rw [after0_15]
  obtain ⟨z, r, l, rfl⟩ : ∃ (z : Fin 1) (r : Fin 512) (l : Fin 1536), y = ix3 z r l := ⟨y 0, y 1, y 2, eq_ix3 y⟩
  obtain rfl : z = 0 := Subsingleton.elim _ _
  have ht : t.val < 32 := t.isLt
  have hb : t.val / 8 < 4 := by omega
  have e : (win0_15.blk t).view.emb (ix3 0 r l) = (ix3 ⟨t.val / 8, hb⟩ ⟨512 * (t.val % 8) + r.val, by omega⟩ l : S4x4096x1536.Idx) := by blk_ext [index15 t]
  exact (at_15 m c t ⟨t.val / 8, hb⟩ rfl r l ⟨512 * (t.val % 8) + r.val, by omega⟩ rfl).trans (congrArg (G15 m c) e).symm

/-- The array of output 8. -/
def G16 : S4x4096x128.Idx → EReal := fun i => (kernelArrays m c).steps (i 0) (i 1) (i 2)

theorem array16 : (dats m 0 c).arrAt 16 cfg0.N = G16 m c := by
  refine (dats m 0 c).arrAt_eq_of_covers 16 (G16 m c) (by decide +kernel) fun t hf y => ?_
  blk_simp
  rw [after0_16]
  obtain ⟨z, r, l, rfl⟩ : ∃ (z : Fin 1) (r : Fin 512) (l : Fin 128), y = ix3 z r l := ⟨y 0, y 1, y 2, eq_ix3 y⟩
  obtain rfl : z = 0 := Subsingleton.elim _ _
  have ht : t.val < 32 := t.isLt
  have hb : t.val / 8 < 4 := by omega
  have e : (win0_16.blk t).view.emb (ix3 0 r l) = (ix3 ⟨t.val / 8, hb⟩ ⟨512 * (t.val % 8) + r.val, by omega⟩ l : S4x4096x128.Idx) := by blk_ext [index16 t]
  exact (at_16 m c t ⟨t.val / 8, hb⟩ rfl r l ⟨512 * (t.val % 8) + r.val, by omega⟩ rfl).trans (congrArg (G16 m c) e).symm

/-- The array of output 9. -/
def G17 : S2x4x512x2048.Idx → EReal := fun i => (kernelArrays m c).keyWindow (i 0) (i 1) (i 2) (i 3)

theorem array17 : (dats m 0 c).arrAt 17 cfg0.N = G17 m c := by
  refine (dats m 0 c).arrAt_eq_of_covers 17 (G17 m c) (by decide +kernel) fun t hf y => ?_
  blk_simp
  rw [after0_17]
  obtain ⟨p, z, r, l, rfl⟩ : ∃ (p : Fin 2) (z : Fin 1) (r : Fin 512) (l : Fin 512), y = ix4 p z r l := ⟨y 0, y 1, y 2, y 3, eq_ix4 y⟩
  obtain rfl : z = 0 := Subsingleton.elim _ _
  have ht : t.val < 32 := t.isLt
  have hb : t.val / 8 < 4 := by omega
  have e : (win0_17.blk t).view.emb (ix4 p 0 r l) = (ix4 p ⟨t.val / 8, hb⟩ r ⟨512 * (t.val % 8 - 4) + l.val, by omega⟩ : S2x4x512x2048.Idx) := by blk_ext [index17 t]
  exact (at_17 m c t ⟨t.val / 8, hb⟩ rfl (flush17 t hf) p r l ⟨512 * (t.val % 8 - 4) + l.val, by omega⟩ rfl).trans (congrArg (G17 m c) e).symm

/-- The array of output 10. -/
def G18 : S2x4x512x2048.Idx → EReal := fun i => (kernelArrays m c).valueWindow (i 0) (i 1) (i 2) (i 3)

theorem array18 : (dats m 0 c).arrAt 18 cfg0.N = G18 m c := by
  refine (dats m 0 c).arrAt_eq_of_covers 18 (G18 m c) (by decide +kernel) fun t hf y => ?_
  blk_simp
  rw [after0_18]
  obtain ⟨p, z, r, l, rfl⟩ : ∃ (p : Fin 2) (z : Fin 1) (r : Fin 512) (l : Fin 512), y = ix4 p z r l := ⟨y 0, y 1, y 2, y 3, eq_ix4 y⟩
  obtain rfl : z = 0 := Subsingleton.elim _ _
  have ht : t.val < 32 := t.isLt
  have hb : t.val / 8 < 4 := by omega
  have e : (win0_18.blk t).view.emb (ix4 p 0 r l) = (ix4 p ⟨t.val / 8, hb⟩ r ⟨512 * (t.val % 8 - 4) + l.val, by omega⟩ : S2x4x512x2048.Idx) := by blk_ext [index18 t]
  exact (at_18 m c t ⟨t.val / 8, hb⟩ rfl (flush18 t hf) p r l ⟨512 * (t.val % 8 - 4) + l.val, by omega⟩ rfl).trans (congrArg (G18 m c) e).symm

/-- The array of output 11. -/
def G19 : S4x8x512.Idx → EReal := fun i => (kernelArrays m c).lruTail (i 0) (i 1) (i 2)

theorem array19 : (dats m 0 c).arrAt 19 cfg0.N = G19 m c := by
  refine (dats m 0 c).arrAt_eq_of_covers 19 (G19 m c) (by decide +kernel) fun t hf y => ?_
  blk_simp
  rw [after0_19]
  obtain ⟨z, r, l, rfl⟩ : ∃ (z : Fin 1) (r : Fin 8) (l : Fin 512), y = ix3 z r l := ⟨y 0, y 1, y 2, eq_ix3 y⟩
  obtain rfl : z = 0 := Subsingleton.elim _ _
  have ht : t.val < 32 := t.isLt
  have hb : t.val / 8 < 4 := by omega
  have e : (win0_19.blk t).view.emb (ix3 0 r l) = (ix3 ⟨t.val / 8, hb⟩ r l : S4x8x512.Idx) := by blk_ext [index19 t]
  exact (at_19 m c t ⟨t.val / 8, hb⟩ rfl (flush19 t hf) r l).trans (congrArg (G19 m c) e).symm

/-- The array of output 12. -/
def G20 : S4x8x1536.Idx → EReal := fun i => (kernelArrays m c).stateTail (i 0) (i 1) (i 2)

theorem array20 : (dats m 0 c).arrAt 20 cfg0.N = G20 m c := by
  refine (dats m 0 c).arrAt_eq_of_covers 20 (G20 m c) (by decide +kernel) fun t hf y => ?_
  blk_simp
  rw [after0_20]
  obtain ⟨z, r, l, rfl⟩ : ∃ (z : Fin 1) (r : Fin 8) (l : Fin 1536), y = ix3 z r l := ⟨y 0, y 1, y 2, eq_ix3 y⟩
  obtain rfl : z = 0 := Subsingleton.elim _ _
  have ht : t.val < 32 := t.isLt
  have hb : t.val / 8 < 4 := by omega
  have e : (win0_20.blk t).view.emb (ix3 0 r l) = (ix3 ⟨t.val / 8, hb⟩ r l : S4x8x1536.Idx) := by blk_ext [index20 t]
  exact (at_20 m c t ⟨t.val / 8, hb⟩ rfl (flush20 t hf) r l).trans (congrArg (G20 m c) e).symm

end Cert.InProj

end
-- ==== Proof.InProj.RefTerms.lean ====
/- The reference's results as terms of the projected rows. -/
module

public import proofs.«01_k».proof.Proof.Gen.SplitIdeal.Run
public import proofs.«01_k».proof.Proof.InProj.Layer
public import Idealize.ShloMosaic.Lib.Pointwise

@[expose] public section

set_option maxRecDepth 16384

noncomputable section

namespace Cert.InProj.Ref

open Idealize.ShloMosaic Idealize.ShloMosaic.TcCoe Idealize.SL.Sem Cert.SplitIdeal Cert.SplitIdeal.Gen Cert.SplitIdeal.Value Idealize.ShloMosaic.StableHlo

variable (m : (ℓ : Loc nD τ sig) → Buf (Elt Ideal) ℓ) (c : Dev nD)

/-- The projected rows. -/
def proj : FVec Ideal S4x4096x5648 .f32 :=
  Host.dotGeneral (φ₁ := .f32) (φ₂ := .f32) dot_S4x4096x1024_S1024x5648_S4x4096x5648_2_0_01_1_n_n none (mulf (mulf (m ((c.tc : Thread nD τ).loc main_arg0)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (m ((c.tc : Thread nD τ).loc main_arg0)) (m ((c.tc : Thread nD τ).loc main_arg0))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (m ((c.tc : Thread nD τ).loc main_arg1))))) (m ((c.tc : Thread nD τ).loc main_arg2))

variable (A : FVec Ideal S4x4096x5648 .f32)

/-- The two convolutions over the columns of both. -/
def both : FVec Ideal S4x4096x2048 .f32 :=
  addf (addf (addf (addf (broadcastInDim S4x4096x2048 ![0, 1, 2] bcast_S1x1x2048_S4x4096x2048_0_1_2 (broadcastInDim S1x1x2048 ![2] bcast_S2048_S1x1x2048_2 (concatenate S2048 0 [⟨S512, (m ((c.tc : Thread nD τ).loc main_arg4))⟩, ⟨S1536, (m ((c.tc : Thread nD τ).loc main_arg6))⟩] concatenates_S512_S1536_S2048_d0))) (mulf (extractStridedSlice S4x4096x2048 ![0, 0, 0] (pad S4x4099x2048 ![0, 3, 0] ![0, 0, 0] ![0, 0, 0] (concatenate S4x4096x2048 2 [⟨S4x4096x512, (extractStridedSlice S4x4096x512 ![0, 0, 0] A slices_S4x4096x5648_S4x4096x512_0_0_0)⟩, ⟨S4x4096x1536, (extractStridedSlice S4x4096x1536 ![0, 0, 4096] A slices_S4x4096x5648_S4x4096x1536_0_0_4096)⟩] concatenates_S4x4096x512_S4x4096x1536_S4x4096x2048_d2) (sitofp .f32 (constantI S_ 32 0#32)) pads_S4x4096x2048_S4x4099x2048_000_300_000 h_S_) slices_S4x4099x2048_S4x4096x2048_0_0_0) (broadcastInDim S4x4096x2048 ![0, 1, 2] bcast_S1x1x2048_S4x4096x2048_0_1_2 (broadcastInDim S1x1x2048 ![2] bcast_S2048_S1x1x2048_2 (shapeCast _ (extractStridedSlice S1x2048 ![0, 0] (concatenate S4x2048 1 [⟨S4x512, (m ((c.tc : Thread nD τ).loc main_arg3))⟩, ⟨S4x1536, (m ((c.tc : Thread nD τ).loc main_arg5))⟩] concatenates_S4x512_S4x1536_S4x2048_d1) slices_S4x2048_S1x2048_0_0) shapeCasts_S1x2048_S2048))))) (mulf (extractStridedSlice S4x4096x2048 ![0, 1, 0] (pad S4x4099x2048 ![0, 3, 0] ![0, 0, 0] ![0, 0, 0] (concatenate S4x4096x2048 2 [⟨S4x4096x512, (extractStridedSlice S4x4096x512 ![0, 0, 0] A slices_S4x4096x5648_S4x4096x512_0_0_0)⟩, ⟨S4x4096x1536, (extractStridedSlice S4x4096x1536 ![0, 0, 4096] A slices_S4x4096x5648_S4x4096x1536_0_0_4096)⟩] concatenates_S4x4096x512_S4x4096x1536_S4x4096x2048_d2) (sitofp .f32 (constantI S_ 32 0#32)) pads_S4x4096x2048_S4x4099x2048_000_300_000 h_S_) slices_S4x4099x2048_S4x4096x2048_0_1_0) (broadcastInDim S4x4096x2048 ![0, 1, 2] bcast_S1x1x2048_S4x4096x2048_0_1_2 (broadcastInDim S1x1x2048 ![2] bcast_S2048_S1x1x2048_2 (shapeCast _ (extractStridedSlice S1x2048 ![1, 0] (concatenate S4x2048 1 [⟨S4x512, (m ((c.tc : Thread nD τ).loc main_arg3))⟩, ⟨S4x1536, (m ((c.tc : Thread nD τ).loc main_arg5))⟩] concatenates_S4x512_S4x1536_S4x2048_d1) slices_S4x2048_S1x2048_1_0) shapeCasts_S1x2048_S2048))))) (mulf (extractStridedSlice S4x4096x2048 ![0, 2, 0] (pad S4x4099x2048 ![0, 3, 0] ![0, 0, 0] ![0, 0, 0] (concatenate S4x4096x2048 2 [⟨S4x4096x512, (extractStridedSlice S4x4096x512 ![0, 0, 0] A slices_S4x4096x5648_S4x4096x512_0_0_0)⟩, ⟨S4x4096x1536, (extractStridedSlice S4x4096x1536 ![0, 0, 4096] A slices_S4x4096x5648_S4x4096x1536_0_0_4096)⟩] concatenates_S4x4096x512_S4x4096x1536_S4x4096x2048_d2) (sitofp .f32 (constantI S_ 32 0#32)) pads_S4x4096x2048_S4x4099x2048_000_300_000 h_S_) slices_S4x4099x2048_S4x4096x2048_0_2_0) (broadcastInDim S4x4096x2048 ![0, 1, 2] bcast_S1x1x2048_S4x4096x2048_0_1_2 (broadcastInDim S1x1x2048 ![2] bcast_S2048_S1x1x2048_2 (shapeCast _ (extractStridedSlice S1x2048 ![2, 0] (concatenate S4x2048 1 [⟨S4x512, (m ((c.tc : Thread nD τ).loc main_arg3))⟩, ⟨S4x1536, (m ((c.tc : Thread nD τ).loc main_arg5))⟩] concatenates_S4x512_S4x1536_S4x2048_d1) slices_S4x2048_S1x2048_2_0) shapeCasts_S1x2048_S2048))))) (mulf (extractStridedSlice S4x4096x2048 ![0, 3, 0] (pad S4x4099x2048 ![0, 3, 0] ![0, 0, 0] ![0, 0, 0] (concatenate S4x4096x2048 2 [⟨S4x4096x512, (extractStridedSlice S4x4096x512 ![0, 0, 0] A slices_S4x4096x5648_S4x4096x512_0_0_0)⟩, ⟨S4x4096x1536, (extractStridedSlice S4x4096x1536 ![0, 0, 4096] A slices_S4x4096x5648_S4x4096x1536_0_0_4096)⟩] concatenates_S4x4096x512_S4x4096x1536_S4x4096x2048_d2) (sitofp .f32 (constantI S_ 32 0#32)) pads_S4x4096x2048_S4x4099x2048_000_300_000 h_S_) slices_S4x4099x2048_S4x4096x2048_0_3_0) (broadcastInDim S4x4096x2048 ![0, 1, 2] bcast_S1x1x2048_S4x4096x2048_0_1_2 (broadcastInDim S1x1x2048 ![2] bcast_S2048_S1x1x2048_2 (shapeCast _ (extractStridedSlice S1x2048 ![3, 0] (concatenate S4x2048 1 [⟨S4x512, (m ((c.tc : Thread nD τ).loc main_arg3))⟩, ⟨S4x1536, (m ((c.tc : Thread nD τ).loc main_arg5))⟩] concatenates_S4x512_S4x1536_S4x2048_d1) slices_S4x2048_S1x2048_3_0) shapeCasts_S1x2048_S2048))))

/-- The first convolution's columns. -/
def term0 : FVec Ideal S4x4096x512 .f32 :=
  extractStridedSlice S4x4096x512 ![0, 0, 0] (both m c A) slices_S4x4096x2048_S4x4096x512_0_0_0

/-- The first gate's columns, each times its logistic. -/
def term1 : FVec Ideal S4x4096x512 .f32 :=
  extractStridedSlice S4x4096x512 ![0, 0, 512] (mulf A (Host.divf (broadcastInDim S4x4096x5648 ![] bcast_S_S4x4096x5648 (constant S_ .f32 0x3F800000#32)) (addf (broadcastInDim S4x4096x5648 ![] bcast_S_S4x4096x5648 (constant S_ .f32 0x3F800000#32)) (Host.exp (Host.negf A))))) slices_S4x4096x5648_S4x4096x512_0_0_512

/-- The queries, scaled, in the layout of head pairs. -/
def term2 : FVec Ideal S4x4x4096x128 .f32 :=
  transpose S4x4x4096x128 [2, 0, 1, 3] (shapeCast _ (mulf (extractStridedSlice S4x4096x512 ![0, 0, 1024] A slices_S4x4096x5648_S4x4096x512_0_0_1024) (broadcastInDim S4x4096x512 ![] bcast_S_S4x4096x512 (constant S_ .f32 0x3E000000#32))) shapeCasts_S4x4096x512_S4x4096x4x128) transposes_S4x4096x4x128_S4x4x4096x128_2_0_1_3

/-- The keys in the layout of head pairs. -/
def term3 : FVec Ideal S4x4x4096x128 .f32 :=
  transpose S4x4x4096x128 [2, 0, 1, 3] (shapeCast _ (extractStridedSlice S4x4096x512 ![0, 0, 1536] A slices_S4x4096x5648_S4x4096x512_0_0_1536) shapeCasts_S4x4096x512_S4x4096x4x128) transposes_S4x4096x4x128_S4x4x4096x128_2_0_1_3

/-- The values in the layout of head pairs. -/
def term4 : FVec Ideal S4x4x4096x128 .f32 :=
  transpose S4x4x4096x128 [2, 0, 1, 3] (shapeCast _ (extractStridedSlice S4x4096x512 ![0, 0, 2048] A slices_S4x4096x5648_S4x4096x512_0_0_2048) shapeCasts_S4x4096x512_S4x4096x4x128) transposes_S4x4096x4x128_S4x4x4096x128_2_0_1_3

/-- The attention's gate. -/
def term5 : FVec Ideal S4x4096x512 .f32 :=
  extractStridedSlice S4x4096x512 ![0, 0, 2560] A slices_S4x4096x5648_S4x4096x512_0_0_2560

/-- The last gate's columns, each times its logistic. -/
def term6 : FVec Ideal S4x4096x1024 .f32 :=
  extractStridedSlice S4x4096x1024 ![0, 0, 3072] (mulf A (Host.divf (broadcastInDim S4x4096x5648 ![] bcast_S_S4x4096x5648 (constant S_ .f32 0x3F800000#32)) (addf (broadcastInDim S4x4096x5648 ![] bcast_S_S4x4096x5648 (constant S_ .f32 0x3F800000#32)) (Host.exp (Host.negf A))))) slices_S4x4096x5648_S4x4096x1024_0_0_3072

/-- The second convolution's columns, each times its logistic. -/
def term7 : FVec Ideal S4x4096x1536 .f32 :=
  mulf (extractStridedSlice S4x4096x1536 ![0, 0, 512] (both m c A) slices_S4x4096x2048_S4x4096x1536_0_0_512) (Host.divf (broadcastInDim S4x4096x1536 ![] bcast_S_S4x4096x1536 (constant S_ .f32 0x3F800000#32)) (addf (broadcastInDim S4x4096x1536 ![] bcast_S_S4x4096x1536 (constant S_ .f32 0x3F800000#32)) (Host.exp (Host.negf (extractStridedSlice S4x4096x1536 ![0, 0, 512] (both m c A) slices_S4x4096x2048_S4x4096x1536_0_0_512)))))

/-- The last sixteen columns, padded. -/
def term8 : FVec Ideal S4x4096x128 .f32 :=
  pad S4x4096x128 ![0, 0, 0] ![0, 0, 112] ![0, 0, 0] (extractStridedSlice S4x4096x16 ![0, 0, 5632] A slices_S4x4096x5648_S4x4096x16_0_0_5632) (sitofp .f32 (constantI S_ 32 0#32)) pads_S4x4096x16_S4x4096x128_000_000_01120 h_S_

/-- The window's keys. -/
def term9 : FVec Ideal S2x4x512x2048 .f32 :=
  extractStridedSlice S2x4x512x2048 ![0, 0, 0, 0] (concatenate S2x4x1024x2048 0 [⟨S1x4x1024x2048, (broadcastInDim S1x4x1024x2048 ![1, 2, 3] bcast_S4x1024x2048_S1x4x1024x2048_1_2_3 (transpose S4x1024x2048 [0, 2, 1] (extractStridedSlice S4x2048x1024 ![0, 2048, 1536] A slices_S4x4096x5648_S4x2048x1024_0_2048_1536) transposes_S4x2048x1024_S4x1024x2048_0_2_1))⟩, ⟨S1x4x1024x2048, (broadcastInDim S1x4x1024x2048 ![1, 2, 3] bcast_S4x1024x2048_S1x4x1024x2048_1_2_3 (broadcastInDim S4x1024x2048 ![] bcast_S_S4x1024x2048 (constant S_ .f32 0x00000000#32)))⟩] concatenates_S1x4x1024x2048_S1x4x1024x2048_S2x4x1024x2048_d0) slices_S2x4x1024x2048_S2x4x512x2048_0_0_0_0

/-- The window's values. -/
def term10 : FVec Ideal S2x4x512x2048 .f32 :=
  extractStridedSlice S2x4x512x2048 ![0, 0, 512, 0] (concatenate S2x4x1024x2048 0 [⟨S1x4x1024x2048, (broadcastInDim S1x4x1024x2048 ![1, 2, 3] bcast_S4x1024x2048_S1x4x1024x2048_1_2_3 (transpose S4x1024x2048 [0, 2, 1] (extractStridedSlice S4x2048x1024 ![0, 2048, 1536] A slices_S4x4096x5648_S4x2048x1024_0_2048_1536) transposes_S4x2048x1024_S4x1024x2048_0_2_1))⟩, ⟨S1x4x1024x2048, (broadcastInDim S1x4x1024x2048 ![1, 2, 3] bcast_S4x1024x2048_S1x4x1024x2048_1_2_3 (broadcastInDim S4x1024x2048 ![] bcast_S_S4x1024x2048 (constant S_ .f32 0x00000000#32)))⟩] concatenates_S1x4x1024x2048_S1x4x1024x2048_S2x4x1024x2048_d0) slices_S2x4x1024x2048_S2x4x512x2048_0_0_512_0

/-- The last eight rows of the first convolution's columns. -/
def term11 : FVec Ideal S4x8x512 .f32 :=
  extractStridedSlice S4x8x512 ![0, 4088, 0] (extractStridedSlice S4x4096x512 ![0, 0, 0] A slices_S4x4096x5648_S4x4096x512_0_0_0) slices_S4x4096x512_S4x8x512_0_4088_0

/-- The last eight rows of the second's. -/
def term12 : FVec Ideal S4x8x1536 .f32 :=
  extractStridedSlice S4x8x1536 ![0, 4088, 0] (extractStridedSlice S4x4096x1536 ![0, 0, 4096] A slices_S4x4096x5648_S4x4096x1536_0_0_4096) slices_S4x4096x1536_S4x8x1536_0_4088_0

end Cert.InProj.Ref

end
-- ==== Proof.InProj.RefValue.lean ====
/- The reference's results, index by index. -/
module

public import proofs.«01_k».proof.Proof.InProj.RefTerms
public import proofs.«01_k».proof.Proof.InProj.Results

@[expose] public section

set_option maxRecDepth 16384

noncomputable section

namespace Cert.InProj.Ref

open Idealize.ShloMosaic Idealize.ShloMosaic.TcCoe Idealize.SL.Sem Cert.SplitIdeal Cert.SplitIdeal.Gen Cert.SplitIdeal.Value Idealize.ShloMosaic.StableHlo

variable (m : (ℓ : Loc nD τ sig) → Buf (Elt Ideal) ℓ) (c : Dev nD)

/-- The arrays the reference reads. -/
def arrays : Arrays where
  x b n k := (m ((c : Thread nD τ).loc main_arg0) : S4x4096x1024.Idx → EReal) (ix3 b n k)
  g k := (m ((c : Thread nD τ).loc main_arg1) : S1024.Idx → EReal) (ix1 k)
  w k j := (m ((c : Thread nD τ).loc main_arg2) : S1024x5648.Idx → EReal) (ix2 k j)
  lw a j := (m ((c : Thread nD τ).loc main_arg3) : S4x512.Idx → EReal) (ix2 a j)
  lb j := (m ((c : Thread nD τ).loc main_arg4) : S512.Idx → EReal) (ix1 j)
  sw a j := (m ((c : Thread nD τ).loc main_arg5) : S4x1536.Idx → EReal) (ix2 a j)
  sb j := (m ((c : Thread nD τ).loc main_arg6) : S1536.Idx → EReal) (ix1 j)

/-- The projected rows are the layer's. -/
theorem proj_at (b : Fin 4) (n : Fin 4096) (j : Fin 5648) : proj m c (ix3 b n j) = (arrays m c).u b n j := by
  unfold proj Arrays.u normed arrays
  pointwise [Host.divf]

variable (A : FVec Ideal S4x4096x5648 .f32) (D : Arrays) (hA : ∀ (b : Fin 4) (n : Fin 4096) (j : Fin 5648), A (ix3 b n j) = D.u b n j)

theorem zero_conv : (FloatOps.sitofp (F := Ideal) FTy.f32 (0#32 : BitVec 32) : EReal) = 0 := by
  simp [FloatOps.sitofp]

include hA

theorem term1_at (b : Fin 4) (n : Fin 4096) (j : Fin 512) : term1 A (ix3 b n j) = D.gate b n j := by
  unfold Arrays.gate
  rw [← hA]
  pointwise [term1, Host.divf, Host.negf]
  rfl

theorem term2_at (p b : Fin 4) (n : Fin 4096) (l : Fin 128) : term2 A (ix4 p b n l) = D.query p b n l := by
  unfold Arrays.query
  have e : (⟨1024 + (128 * p.val + l.val), by omega⟩ : Fin 5648) = ⟨1024 + (p.val * 128 + l.val), by omega⟩ :=
    Fin.ext (by show 1024 + (128 * p.val + l.val) = 1024 + (p.val * 128 + l.val); omega)
  rw [← hA, e]
  pointwise [term2]

theorem term3_at (p b : Fin 4) (n : Fin 4096) (l : Fin 128) : term3 A (ix4 p b n l) = D.key p b n l := by
  unfold Arrays.key
  have e : (⟨1536 + (128 * p.val + l.val), by omega⟩ : Fin 5648) = ⟨1536 + (p.val * 128 + l.val), by omega⟩ :=
    Fin.ext (by show 1536 + (128 * p.val + l.val) = 1536 + (p.val * 128 + l.val); omega)
  rw [← hA, e]
  pointwise [term3]

theorem term4_at (p b : Fin 4) (n : Fin 4096) (l : Fin 128) : term4 A (ix4 p b n l) = D.value p b n l := by
  unfold Arrays.value
  have e : (⟨2048 + (128 * p.val + l.val), by omega⟩ : Fin 5648) = ⟨2048 + (p.val * 128 + l.val), by omega⟩ :=
    Fin.ext (by show 2048 + (128 * p.val + l.val) = 2048 + (p.val * 128 + l.val); omega)
  rw [← hA, e]
  pointwise [term4]

theorem term5_at (b : Fin 4) (n : Fin 4096) (j : Fin 512) : term5 A (ix3 b n j) = D.attnGate b n j := by
  unfold Arrays.attnGate
  rw [← hA]
  pointwise [term5]

theorem term6_at (b : Fin 4) (n : Fin 4096) (j : Fin 1024) : term6 A (ix3 b n j) = D.stateGate b n j := by
  unfold Arrays.stateGate
  rw [← hA]
  pointwise [term6, Host.divf, Host.negf]
  rfl

theorem term8_at (b : Fin 4) (n : Fin 4096) (l : Fin 128) : term8 A (ix3 b n l) = D.steps b n l := by
  unfold Arrays.steps
  simp only [← hA]
  pointwise [term8]
  simp only [zero_conv]

theorem term9_at (p : Fin 2) (b : Fin 4) (i : Fin 512) (n : Fin 2048) : term9 A (ix4 p b i n) = D.keyWindow p b i n := by
  unfold Arrays.keyWindow
  rw [← hA]
  pointwise [term9]
  have := p.isLt
  by_cases h : p = 0
  · subst h; rfl
  · have hp : ¬p.val < 1 := fun hv => h (Fin.ext (by show p.val = 0; omega))
    rw [dif_neg hp, if_neg h]

theorem term10_at (p : Fin 2) (b : Fin 4) (i : Fin 512) (n : Fin 2048) : term10 A (ix4 p b i n) = D.valueWindow p b i n := by
  unfold Arrays.valueWindow
  rw [← hA]
  pointwise [term10]
  have := p.isLt
  by_cases h : p = 0
  · subst h
    rw [dif_pos (by decide), if_pos rfl]
    exact congrArg (fun J => A (ix3 b ⟨2048 + n.val, by omega⟩ J)) (Fin.ext (by show 1536 + (512 + i.val) = 2048 + i.val; omega))
  · have hp : ¬p.val < 1 := fun hv => h (Fin.ext (by show p.val = 0; omega))
    rw [dif_neg hp, if_neg h]

theorem term11_at (b : Fin 4) (a : Fin 8) (j : Fin 512) : term11 A (ix3 b a j) = D.lruTail b a j := by
  unfold Arrays.lruTail
  rw [← hA]
  pointwise [term11]

theorem term12_at (b : Fin 4) (a : Fin 8) (j : Fin 1536) : term12 A (ix3 b a j) = D.stateTail b a j := by
  unfold Arrays.stateTail
  rw [← hA]
  pointwise [term12]

/-- One tap over the padded rows. -/
theorem tap (b : Fin 4) (J : Fin 5648) (P : Prop) [Decidable P] (hP : P) (x : ℕ) :
    (if h : (3 ≤ x ∧ x - 3 < 4096) ∧ P then A (ix3 b ⟨x - 3, h.1.2⟩ J) else (FloatOps.sitofp (F := Ideal) FTy.f32 (0#32 : BitVec 32) : EReal))
      = D.col b J ((x : ℤ) - 3) := by
  rw [zero_conv, Arrays.col]
  by_cases h : 3 ≤ x ∧ x - 3 < 4096
  · rw [dif_pos ⟨h, hP⟩, dif_pos (by omega), hA]
    congr 1
    exact Fin.ext (by show x - 3 = ((x : ℤ) - 3).toNat; omega)
  · rw [dif_neg fun h' => h h'.1, dif_neg (by omega)]

end Cert.InProj.Ref

end
-- ==== Proof.InProj.RefConv.lean ====
/- The reference's two convolutions, index by index. -/
module

public import proofs.«01_k».proof.Proof.InProj.RefValue

@[expose] public section

set_option maxRecDepth 16384

noncomputable section

namespace Cert.InProj.Ref

open Idealize.ShloMosaic Idealize.ShloMosaic.TcCoe Idealize.SL.Sem Cert.SplitIdeal Cert.SplitIdeal.Gen Cert.SplitIdeal.Value Idealize.ShloMosaic.StableHlo

variable (m : (ℓ : Loc nD τ sig) → Buf (Elt Ideal) ℓ) (c : Dev nD)

variable (A : FVec Ideal S4x4096x5648 .f32) (D : Arrays) (hA : ∀ (b : Fin 4) (n : Fin 4096) (j : Fin 5648), A (ix3 b n j) = D.u b n j)

include hA

/-- The four taps over the padded rows are the convolution. -/
theorem taps (b : Fin 4) (J : Fin 5648) (n : Fin 4096) (P : Prop) [Decidable P] (hP : P) (w : Fin 4 → EReal) (s : EReal) :
    s + (if h : (3 ≤ n.val ∧ n.val - 3 < 4096) ∧ P then A (ix3 b ⟨n.val - 3, h.1.2⟩ J) else (FloatOps.sitofp (F := Ideal) FTy.f32 (0#32 : BitVec 32) : EReal)) * w 0
      + (if h : (3 ≤ 1 + n.val ∧ 1 + n.val - 3 < 4096) ∧ P then A (ix3 b ⟨1 + n.val - 3, h.1.2⟩ J) else (FloatOps.sitofp (F := Ideal) FTy.f32 (0#32 : BitVec 32) : EReal)) * w 1
      + (if h : (3 ≤ 2 + n.val ∧ 2 + n.val - 3 < 4096) ∧ P then A (ix3 b ⟨2 + n.val - 3, h.1.2⟩ J) else (FloatOps.sitofp (F := Ideal) FTy.f32 (0#32 : BitVec 32) : EReal)) * w 2
      + (if h : P then A (ix3 b n J) else (FloatOps.sitofp (F := Ideal) FTy.f32 (0#32 : BitVec 32) : EReal)) * w 3
      = conv (D.col b J) w s n.val := by
  rw [tap A D hA b J P hP n.val, tap A D hA b J P hP (1 + n.val), tap A D hA b J P hP (2 + n.val), dif_pos hP, hA, ← Arrays.col_nat, ← conv_rev,
    show (((1 + n.val : ℕ) : ℤ) - 3) = (n.val : ℤ) - 2 by omega, show (((2 + n.val : ℕ) : ℤ) - 3) = (n.val : ℤ) - 1 by omega]

omit hA

theorem term0_at (hA : ∀ (b : Fin 4) (n : Fin 4096) (j : Fin 5648), A (ix3 b n j) = (arrays m c).u b n j) (b : Fin 4) (n : Fin 4096) (l : Fin 512) :
    term0 m c A (ix3 b n l) = (arrays m c).xlru b n l := by
  have hl : l.val < 2048 := by omega
  refine Eq.trans ?_ (taps A (arrays m c) hA b ⟨l.val, by omega⟩ n (l.val < 2048) hl
    (fun a => (m (c.tc.loc main_arg3) : S4x512.Idx → EReal) (ix2 a l)) ((m (c.tc.loc main_arg4) : S512.Idx → EReal) (ix1 l)))
  pointwise [term0, both]

theorem term7_at (hA : ∀ (b : Fin 4) (n : Fin 4096) (j : Fin 5648), A (ix3 b n j) = (arrays m c).u b n j) (b : Fin 4) (n : Fin 4096) (l : Fin 1536) :
    term7 m c A (ix3 b n l) = (arrays m c).xbc b n l := by
  have hl : 512 + l.val < 2048 := by omega
  refine Eq.trans ?_ (congrArg silu (taps A (arrays m c) hA b ⟨4096 + l.val, by omega⟩ n (512 + l.val < 2048) hl
    (fun a => (m (c.tc.loc main_arg5) : S4x1536.Idx → EReal) (ix2 a l)) ((m (c.tc.loc main_arg6) : S1536.Idx → EReal) (ix1 l))))
  unfold silu
  pointwise [term7, both, Host.divf, Host.negf]
  rfl

end Cert.InProj.Ref

end
-- ==== Proof.InProj.RefRun.lean ====
/- The reference's run, with its results as terms of the projected rows. -/
module

public import proofs.«01_k».proof.Proof.InProj.RefTerms

@[expose] public section

set_option maxRecDepth 16384

noncomputable section

namespace Cert.InProj.Ref

open Idealize.ShloMosaic Idealize.ShloMosaic.TcCoe Idealize.SL.Sem Cert.SplitIdeal Cert.SplitIdeal.Gen Cert.SplitIdeal.Value Idealize.ShloMosaic.StableHlo

variable (m : (ℓ : Loc nD τ sig) → Buf (Elt Ideal) ℓ) (c : Dev nD)

theorem res0 : res_main_v64 m c = term0 m c (proj m c) := by
  unfold res_main_v64 term0 both proj
  rfl

theorem res7 : res_main_v76 m c = term7 m c (proj m c) := by
  unfold res_main_v76 term7 both proj
  rfl

theorem run (ρ : Dev nD → PrngReg) : θ_run defs (onTc (τ := τ) (main (F := Ideal))) ⟨m, fun _ => 0, ρ⟩ fun r => ∀ c : Dev nD,
      r.2.mem ((c.tc : Thread nD τ).loc main_v64) = term0 m c (proj m c)
      ∧ r.2.mem ((c.tc : Thread nD τ).loc main_v65) = term1 (proj m c)
      ∧ r.2.mem ((c.tc : Thread nD τ).loc main_v69) = term2 (proj m c)
      ∧ r.2.mem ((c.tc : Thread nD τ).loc main_v71) = term3 (proj m c)
      ∧ r.2.mem ((c.tc : Thread nD τ).loc main_v73) = term4 (proj m c)
      ∧ r.2.mem ((c.tc : Thread nD τ).loc main_v19) = term5 (proj m c)
      ∧ r.2.mem ((c.tc : Thread nD τ).loc main_v74) = term6 (proj m c)
      ∧ r.2.mem ((c.tc : Thread nD τ).loc main_v76) = term7 m c (proj m c)
      ∧ r.2.mem ((c.tc : Thread nD τ).loc main_v77) = term8 (proj m c)
      ∧ r.2.mem ((c.tc : Thread nD τ).loc main_v78) = term9 (proj m c)
      ∧ r.2.mem ((c.tc : Thread nD τ).loc main_v79) = term10 (proj m c)
      ∧ r.2.mem ((c.tc : Thread nD τ).loc main_v80) = term11 (proj m c)
      ∧ r.2.mem ((c.tc : Thread nD τ).loc main_v81) = term12 (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun _ h c => ?_) (Cert.SplitIdeal.Value.run (F := Ideal) m ρ)
  obtain ⟨h0, h1, h2, h3, h4, h5, h6, h7, h8, h9, h10, h11, h12, kept⟩ := h c
  exact ⟨h0.trans (res0 m c), h1, h2, h3, h4, h5, h6, h7.trans (res7 m c), h8, h9, h10, h11, h12, kept⟩

end Cert.InProj.Ref

end
-- ==== Proof.InProj.Equation.lean ====
/- The claims about the input projection: the reference leaves its arguments as they were, and kernel and reference end
   with the same thirteen arrays when they start from the same arguments. -/
module

public import proofs.«01_k».proof.Defs
public import proofs.«01_k».proof.Proof.InProj.Final
public import proofs.«01_k».proof.Proof.InProj.RefConv
public import proofs.«01_k».proof.Proof.InProj.RefRun
public import proofs.«01_k».proof.Proof.Gen.ProjectionIdeal.Value
public import Idealize.ShloMosaic.Adequacy

@[expose] public section

set_option maxRecDepth 16384

noncomputable section

namespace Cert.InProj

open Idealize.ShloMosaic Idealize.ShloMosaic.TcCoe Idealize.SL.Sem Idealize.ShloMosaic.StableHlo

/-- The reference's run ends with its arguments unchanged; it has no semaphore. -/
theorem reference_frame : Cert.quiescent_SplitIdeal := fun m ρ _ =>
  (θ_run Cert.SplitIdeal.defs _ _).mono
    (fun r h => ⟨fun c => (h c).2.2.2.2.2.2.2.2.2.2.2.2.2, Idealize.ShloMosaic.sem_eq_zero_of_no_sems (by decide) r.2⟩)
    (Ref.run m ρ)

section Equal

variable (m : (ℓ : Loc Cert.ProjectionIdeal.nD Cert.ProjectionIdeal.τ Cert.ProjectionIdeal.sig) → Buf (Elt Ideal) ℓ)
variable (m' : (ℓ : Loc Cert.SplitIdeal.nD Cert.SplitIdeal.τ Cert.SplitIdeal.sig) → Buf (Elt Ideal) ℓ)
variable (c : Dev Cert.ProjectionIdeal.nD) (h : Ref.arrays m' c = kernelArrays m c)

include h

theorem equal0 : (Ref.term0 m' c (Ref.proj m' c) : Cert.SplitIdeal.S4x4096x512.Idx → EReal) = G8 m c := by
  refine funext fun i => ?_
  obtain ⟨b, n, l, rfl⟩ : ∃ (b : Fin 4) (n : Fin 4096) (l : Fin 512), i = ix3 b n l := ⟨i 0, i 1, i 2, eq_ix3 i⟩
  refine (Ref.term0_at m' c (Ref.proj m' c) (Ref.proj_at m' c) b n l).trans ?_
  rw [h]
  rfl

theorem equal1 : (Ref.term1 (Ref.proj m' c) : Cert.SplitIdeal.S4x4096x512.Idx → EReal) = G9 m c := by
  refine funext fun i => ?_
  obtain ⟨b, n, l, rfl⟩ : ∃ (b : Fin 4) (n : Fin 4096) (l : Fin 512), i = ix3 b n l := ⟨i 0, i 1, i 2, eq_ix3 i⟩
  refine (Ref.term1_at (Ref.proj m' c) (Ref.arrays m' c) (Ref.proj_at m' c) b n l).trans ?_
  rw [h]
  rfl

theorem equal2 : (Ref.term2 (Ref.proj m' c) : Cert.SplitIdeal.S4x4x4096x128.Idx → EReal) = G10 m c := by
  refine funext fun i => ?_
  obtain ⟨p, b, n, l, rfl⟩ : ∃ (p : Fin 4) (b : Fin 4) (n : Fin 4096) (l : Fin 128), i = ix4 p b n l := ⟨i 0, i 1, i 2, i 3, eq_ix4 i⟩
  refine (Ref.term2_at (Ref.proj m' c) (Ref.arrays m' c) (Ref.proj_at m' c) p b n l).trans ?_
  rw [h]
  rfl

theorem equal3 : (Ref.term3 (Ref.proj m' c) : Cert.SplitIdeal.S4x4x4096x128.Idx → EReal) = G11 m c := by
  refine funext fun i => ?_
  obtain ⟨p, b, n, l, rfl⟩ : ∃ (p : Fin 4) (b : Fin 4) (n : Fin 4096) (l : Fin 128), i = ix4 p b n l := ⟨i 0, i 1, i 2, i 3, eq_ix4 i⟩
  refine (Ref.term3_at (Ref.proj m' c) (Ref.arrays m' c) (Ref.proj_at m' c) p b n l).trans ?_
  rw [h]
  rfl

theorem equal4 : (Ref.term4 (Ref.proj m' c) : Cert.SplitIdeal.S4x4x4096x128.Idx → EReal) = G12 m c := by
  refine funext fun i => ?_
  obtain ⟨p, b, n, l, rfl⟩ : ∃ (p : Fin 4) (b : Fin 4) (n : Fin 4096) (l : Fin 128), i = ix4 p b n l := ⟨i 0, i 1, i 2, i 3, eq_ix4 i⟩
  refine (Ref.term4_at (Ref.proj m' c) (Ref.arrays m' c) (Ref.proj_at m' c) p b n l).trans ?_
  rw [h]
  rfl

theorem equal5 : (Ref.term5 (Ref.proj m' c) : Cert.SplitIdeal.S4x4096x512.Idx → EReal) = G13 m c := by
  refine funext fun i => ?_
  obtain ⟨b, n, l, rfl⟩ : ∃ (b : Fin 4) (n : Fin 4096) (l : Fin 512), i = ix3 b n l := ⟨i 0, i 1, i 2, eq_ix3 i⟩
  refine (Ref.term5_at (Ref.proj m' c) (Ref.arrays m' c) (Ref.proj_at m' c) b n l).trans ?_
  rw [h]
  rfl

theorem equal6 : (Ref.term6 (Ref.proj m' c) : Cert.SplitIdeal.S4x4096x1024.Idx → EReal) = G14 m c := by
  refine funext fun i => ?_
  obtain ⟨b, n, l, rfl⟩ : ∃ (b : Fin 4) (n : Fin 4096) (l : Fin 1024), i = ix3 b n l := ⟨i 0, i 1, i 2, eq_ix3 i⟩
  refine (Ref.term6_at (Ref.proj m' c) (Ref.arrays m' c) (Ref.proj_at m' c) b n l).trans ?_
  rw [h]
  rfl

theorem equal7 : (Ref.term7 m' c (Ref.proj m' c) : Cert.SplitIdeal.S4x4096x1536.Idx → EReal) = G15 m c := by
  refine funext fun i => ?_
  obtain ⟨b, n, l, rfl⟩ : ∃ (b : Fin 4) (n : Fin 4096) (l : Fin 1536), i = ix3 b n l := ⟨i 0, i 1, i 2, eq_ix3 i⟩
  refine (Ref.term7_at m' c (Ref.proj m' c) (Ref.proj_at m' c) b n l).trans ?_
  rw [h]
  rfl

theorem equal8 : (Ref.term8 (Ref.proj m' c) : Cert.SplitIdeal.S4x4096x128.Idx → EReal) = G16 m c := by
  refine funext fun i => ?_
  obtain ⟨b, n, l, rfl⟩ : ∃ (b : Fin 4) (n : Fin 4096) (l : Fin 128), i = ix3 b n l := ⟨i 0, i 1, i 2, eq_ix3 i⟩
  refine (Ref.term8_at (Ref.proj m' c) (Ref.arrays m' c) (Ref.proj_at m' c) b n l).trans ?_
  rw [h]
  rfl

theorem equal9 : (Ref.term9 (Ref.proj m' c) : Cert.SplitIdeal.S2x4x512x2048.Idx → EReal) = G17 m c := by
  refine funext fun i => ?_
  obtain ⟨p, b, n, l, rfl⟩ : ∃ (p : Fin 2) (b : Fin 4) (n : Fin 512) (l : Fin 2048), i = ix4 p b n l := ⟨i 0, i 1, i 2, i 3, eq_ix4 i⟩
  refine (Ref.term9_at (Ref.proj m' c) (Ref.arrays m' c) (Ref.proj_at m' c) p b n l).trans ?_
  rw [h]
  rfl

theorem equal10 : (Ref.term10 (Ref.proj m' c) : Cert.SplitIdeal.S2x4x512x2048.Idx → EReal) = G18 m c := by
  refine funext fun i => ?_
  obtain ⟨p, b, n, l, rfl⟩ : ∃ (p : Fin 2) (b : Fin 4) (n : Fin 512) (l : Fin 2048), i = ix4 p b n l := ⟨i 0, i 1, i 2, i 3, eq_ix4 i⟩
  refine (Ref.term10_at (Ref.proj m' c) (Ref.arrays m' c) (Ref.proj_at m' c) p b n l).trans ?_
  rw [h]
  rfl

theorem equal11 : (Ref.term11 (Ref.proj m' c) : Cert.SplitIdeal.S4x8x512.Idx → EReal) = G19 m c := by
  refine funext fun i => ?_
  obtain ⟨b, n, l, rfl⟩ : ∃ (b : Fin 4) (n : Fin 8) (l : Fin 512), i = ix3 b n l := ⟨i 0, i 1, i 2, eq_ix3 i⟩
  refine (Ref.term11_at (Ref.proj m' c) (Ref.arrays m' c) (Ref.proj_at m' c) b n l).trans ?_
  rw [h]
  rfl

theorem equal12 : (Ref.term12 (Ref.proj m' c) : Cert.SplitIdeal.S4x8x1536.Idx → EReal) = G20 m c := by
  refine funext fun i => ?_
  obtain ⟨b, n, l, rfl⟩ : ∃ (b : Fin 4) (n : Fin 8) (l : Fin 1536), i = ix3 b n l := ⟨i 0, i 1, i 2, eq_ix3 i⟩
  refine (Ref.term12_at (Ref.proj m' c) (Ref.arrays m' c) (Ref.proj_at m' c) b n l).trans ?_
  rw [h]
  rfl

end Equal

/-- Kernel and reference, started from the same arguments, end with the same thirteen arrays. -/
theorem algebraic : Cert.algebraic_ProjectionIdeal_SplitIdeal := by
  intro m ρ m' ρ' _ hagree
  have hA : ∀ c : Dev Cert.ProjectionIdeal.nD, Ref.arrays m' c = kernelArrays m c := by
    intro c
    obtain ⟨h0, h1, h2, h3, h4, h5, h6⟩ := hagree c
    unfold Ref.arrays kernelArrays
    simp only [h0, h1, h2, h3, h4, h5, h6]
  refine ⟨fun c => G8 m c, fun c => G9 m c, fun c => G10 m c, fun c => G11 m c, fun c => G12 m c, fun c => G13 m c, fun c => G14 m c, fun c => G15 m c, fun c => G16 m c, fun c => G17 m c, fun c => G18 m c, fun c => G19 m c, fun c => G20 m c, ?_, ?_⟩
  · refine (θ_run _ _ _).mono (fun _ h c => ?_) (Cert.ProjectionIdeal.Value.run_blocks (F := Ideal) m ρ)
    obtain ⟨h0, h1, h2, h3, h4, h5, h6, h7, h8, h9, h10, h11, h12, kept⟩ := h c
    exact ⟨h0.trans (array8 m c), h1.trans (array9 m c), h2.trans (array10 m c), h3.trans (array11 m c), h4.trans (array12 m c), h5.trans (array13 m c), h6.trans (array14 m c), h7.trans (array15 m c), h8.trans (array16 m c), h9.trans (array17 m c), h10.trans (array18 m c), h11.trans (array19 m c), h12.trans (array20 m c), kept⟩
  · refine (θ_run _ _ _).mono (fun _ h c => ?_) (Ref.run m' ρ')
    obtain ⟨h0, h1, h2, h3, h4, h5, h6, h7, h8, h9, h10, h11, h12, kept⟩ := h c
    exact ⟨h0.trans (equal0 m m' c (hA c)), h1.trans (equal1 m m' c (hA c)), h2.trans (equal2 m m' c (hA c)), h3.trans (equal3 m m' c (hA c)), h4.trans (equal4 m m' c (hA c)), h5.trans (equal5 m m' c (hA c)), h6.trans (equal6 m m' c (hA c)), h7.trans (equal7 m m' c (hA c)), h8.trans (equal8 m m' c (hA c)), h9.trans (equal9 m m' c (hA c)), h10.trans (equal10 m m' c (hA c)), h11.trans (equal11 m m' c (hA c)), h12.trans (equal12 m m' c (hA c)), kept⟩

end Cert.InProj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.LruOut.Equation
public import proofs.«01_k».proof.Proof.InProj.Equation
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.SplitIdeal
public import proofs.«01_k».proof.Proof.Gen.SplitIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Projection.Gen.facts, Cert.ProjectionIdeal.Gen.facts, Cert.SplitIdeal.Gen.facts,
  fun m ρ _ => Cert.Kernel.Gen.frame m ρ,
  fun m ρ _ => Cert.KernelIdeal.Gen.frame m ρ,
  Cert.LruOut.reference_frame,
  fun m ρ _ => Cert.Projection.Gen.frame m ρ,
  fun m ρ _ => Cert.ProjectionIdeal.Gen.frame m ρ,
  Cert.InProj.reference_frame,
  trivial,
  Cert.LruOut.algebraic,
  trivial,
  Cert.InProj.algebraic⟩

end Cert.Proof

end
